-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x32x128x128 : Shape := ⟨4, ![64, 32, 128, 128]⟩
abbrev S128x64x2048 : Shape := ⟨3, ![128, 64, 2048]⟩
abbrev S384 : Shape := ⟨1, ![384]⟩
abbrev S2x8x16x128 : Shape := ⟨4, ![2, 8, 16, 128]⟩
abbrev S2x4x2048 : Shape := ⟨3, ![2, 4, 2048]⟩
abbrev S_ : Shape := ⟨0, ![]⟩
abbrev S1x8x16x128 : Shape := ⟨4, ![1, 8, 16, 128]⟩
abbrev S8x16x128 : Shape := ⟨3, ![8, 16, 128]⟩
abbrev S1x1x2048 : Shape := ⟨3, ![1, 1, 2048]⟩
abbrev S2048 : Shape := ⟨1, ![2048]⟩
abbrev S1x1x1x16 : Shape := ⟨4, ![1, 1, 1, 16]⟩
abbrev S16 : Shape := ⟨1, ![16]⟩
abbrev S1x1x16 : Shape := ⟨3, ![1, 1, 16]⟩
abbrev S128x64x8x16x16 : Shape := ⟨5, ![128, 64, 8, 16, 16]⟩
abbrev S3x128 : Shape := ⟨2, ![3, 128]⟩
abbrev S128x3 : Shape := ⟨2, ![128, 3]⟩

abbrev nBuf : Table → Nat
  | .hbm => 6
  | .local .scVector .vmem => 3
  | _ => 0

abbrev bufTy : (tb : Table) → Fin (nBuf tb) → BufTy
  | .hbm, ⟨0, _⟩ => ⟨S64x32x128x128, .f32⟩
  | .hbm, ⟨1, _⟩ => ⟨S128x64x2048, .f32⟩
  | .hbm, ⟨2, _⟩ => ⟨S384, .i32⟩
  | .hbm, ⟨3, _⟩ => ⟨S128x64x8x16x16, .f32⟩
  | .hbm, ⟨4, _⟩ => ⟨S3x128, .i32⟩
  | .hbm, ⟨5, _⟩ => ⟨S128x3, .i32⟩
  | .local .scVector .vmem, ⟨0, _⟩ => ⟨S2x8x16x128, .f32⟩
  | .local .scVector .vmem, ⟨1, _⟩ => ⟨S2x4x2048, .f32⟩
  | .local .scVector .vmem, ⟨2, _⟩ => ⟨S384, .i32⟩
  | _, _ => ⟨S64x32x128x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let c0_i32 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32 : BitVec 32 := 3#32
  let v2 : BitVec 32 := Scalar.shrsi v1 c3_i32
  let c8_i32 : BitVec 32 := 8#32
  let v3 : BitVec 32 := Scalar.muli v2 c8_i32
  let c7_i32 : BitVec 32 := 7#32
  let v4 : BitVec 32 := Scalar.andi v1 c7_i32
  let c16_i32_0 : BitVec 32 := 16#32
  let v5 : BitVec 32 := Scalar.muli v4 c16_i32_0
  let c0_i32_6 : BitVec 32 := 0#32
  ![0, v3.toNat, v5.toNat, 0]
def k0_off2 (i : grid0.Coords) : Fin 4 → Nat :=
  let c1_i32_11 : BitVec 32 := 1#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32 : BitVec 32 := 3#32
  let v2 : BitVec 32 := Scalar.shrsi v1 c3_i32
  let c8_i32 : BitVec 32 := 8#32
  let v3 : BitVec 32 := Scalar.muli v2 c8_i32
  let c7_i32 : BitVec 32 := 7#32
  let v4 : BitVec 32 := Scalar.andi v1 c7_i32
  let c16_i32_0 : BitVec 32 := 16#32
  let v5 : BitVec 32 := Scalar.muli v4 c16_i32_0
  let c0_i32_16 : BitVec 32 := 0#32
  ![1, v3.toNat, v5.toNat, 0]
@[reducible] def k0_t1_loop : Scf.Loop 32 :=
  let c0_i32_21 : BitVec 32 := 0#32
  let c32_i32 : BitVec 32 := 32#32
  let v26 : BitVec 32 := Scalar.addi c0_i32_21 c32_i32
  let c1_i32_22 : BitVec 32 := 1#32
  ⟨c0_i32_21, v26, c1_i32_22⟩
def k0_off3 (i : grid0.Coords) (k0_t1 : Fin k0_t1_loop.trips) (c0_i32_98 : BitVec 32) : Fin 4 → Nat :=
  let c0_i32_97 : BitVec 32 := 0#32
  let c0_i32_21 : BitVec 32 := 0#32
  let c1_i32_22 : BitVec 32 := 1#32
  let arg12 : BitVec 32 := Scf.iv c0_i32_21 c1_i32_22 k0_t1
  let c2_i32_96 : BitVec 32 := 2#32
  let v110 : BitVec 32 := Scalar.muli arg12 c2_i32_96
  let v111 : BitVec 32 := Scalar.addi c0_i32_97 v110
  let v112 : BitVec 32 := Scalar.addi v111 c0_i32_98
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32 : BitVec 32 := 3#32
  let v2 : BitVec 32 := Scalar.shrsi v1 c3_i32
  let c8_i32 : BitVec 32 := 8#32
  let v3 : BitVec 32 := Scalar.muli v2 c8_i32
  let c7_i32 : BitVec 32 := 7#32
  let v4 : BitVec 32 := Scalar.andi v1 c7_i32
  let c16_i32_0 : BitVec 32 := 16#32
  let v5 : BitVec 32 := Scalar.muli v4 c16_i32_0
  let c0_i32_103 : BitVec 32 := 0#32
  ![v112.toNat, v3.toNat, v5.toNat, 0]
def k0_cond1 (k0_t1 : Fin k0_t1_loop.trips) : BitVec 1 :=
  let c0_i32_97 : BitVec 32 := 0#32
  let c0_i32_21 : BitVec 32 := 0#32
  let c1_i32_22 : BitVec 32 := 1#32
  let arg12 : BitVec 32 := Scf.iv c0_i32_21 c1_i32_22 k0_t1
  let c2_i32_96 : BitVec 32 := 2#32
  let v110 : BitVec 32 := Scalar.muli arg12 c2_i32_96
  let v111 : BitVec 32 := Scalar.addi c0_i32_97 v110
  let c2_i32_108 : BitVec 32 := 2#32
  let v121 : BitVec 1 := Scalar.cmpi .sge v111 c2_i32_108
  let v122 : BitVec 32 := Scalar.extui v121
  let c0_i32_109 : BitVec 32 := 0#32
  let v123 : BitVec 1 := Scalar.cmpi .ne v122 c0_i32_109
  v123

def k0_off4 (i : grid0.Coords) (k0_t1 : Fin k0_t1_loop.trips) (c0_i32_6965 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_6964 : BitVec 32 := 4#32
  let v10718 : BitVec 32 := Scalar.muli v1 c4_i32_6964
  let v10719 : BitVec 32 := Scalar.addi v10718 c0_i32_6965
  let c0_i32_97 : BitVec 32 := 0#32
  let c0_i32_21 : BitVec 32 := 0#32
  let c1_i32_22 : BitVec 32 := 1#32
  let arg12 : BitVec 32 := Scf.iv c0_i32_21 c1_i32_22 k0_t1
  let c2_i32_96 : BitVec 32 := 2#32
  let v110 : BitVec 32 := Scalar.muli arg12 c2_i32_96
  let v111 : BitVec 32 := Scalar.addi c0_i32_97 v110
  let c0_i32_98 : BitVec 32 := 0#32
  let v112 : BitVec 32 := Scalar.addi v111 c0_i32_98
  let c0_i32_6969 : BitVec 32 := 0#32
  ![v10719.toNat, v112.toNat, 0]
def k0_off5 (i : grid0.Coords) : Fin 4 → Nat :=
  let c0_i32_2662 : BitVec 32 := 0#32
  let v3964 : Index := Scalar.indexCast c0_i32_2662
  let c0_i32_2663 : BitVec 32 := 0#32
  let v3965 : Index := Scalar.indexCast c0_i32_2663
  let c0_i32_2664 : BitVec 32 := 0#32
  let v3966 : Index := Scalar.indexCast c0_i32_2664
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v3967 : Index := Scalar.indexCast v9
  ![0, 0, 0, v3967.toNat]
def k0_off6 (i : grid0.Coords) : Fin 4 → Nat :=
  let c0_i32_2668 : BitVec 32 := 0#32
  let v3975 : Index := Scalar.indexCast c0_i32_2668
  let c0_i32_2669 : BitVec 32 := 0#32
  let v3976 : Index := Scalar.indexCast c0_i32_2669
  let c1_i32_2670 : BitVec 32 := 1#32
  let v3977 : Index := Scalar.indexCast c1_i32_2670
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v3978 : Index := Scalar.indexCast v9
  ![0, 0, 1, v3978.toNat]
def k0_off7 (i : grid0.Coords) : Fin 4 → Nat :=
  let c0_i32_2674 : BitVec 32 := 0#32
  let v3986 : Index := Scalar.indexCast c0_i32_2674
  let c0_i32_2675 : BitVec 32 := 0#32
  let v3987 : Index := Scalar.indexCast c0_i32_2675
  let c2_i32_2676 : BitVec 32 := 2#32
  let v3988 : Index := Scalar.indexCast c2_i32_2676
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v3989 : Index := Scalar.indexCast v9
  ![0, 0, 2, v3989.toNat]
def k0_off8 (i : grid0.Coords) : Fin 4 → Nat :=
  let c0_i32_2680 : BitVec 32 := 0#32
  let v3997 : Index := Scalar.indexCast c0_i32_2680
  let c0_i32_2681 : BitVec 32 := 0#32
  let v3998 : Index := Scalar.indexCast c0_i32_2681
  let c3_i32_2682 : BitVec 32 := 3#32
  let v3999 : Index := Scalar.indexCast c3_i32_2682
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4000 : Index := Scalar.indexCast v9
  ![0, 0, 3, v4000.toNat]
def k0_off9 (i : grid0.Coords) : Fin 4 → Nat :=
  let c0_i32_2686 : BitVec 32 := 0#32
  let v4008 : Index := Scalar.indexCast c0_i32_2686
  let c0_i32_2687 : BitVec 32 := 0#32
  let v4009 : Index := Scalar.indexCast c0_i32_2687
  let c4_i32_2688 : BitVec 32 := 4#32
  let v4010 : Index := Scalar.indexCast c4_i32_2688
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4011 : Index := Scalar.indexCast v9
  ![0, 0, 4, v4011.toNat]
def k0_off10 (i : grid0.Coords) : Fin 4 → Nat :=
  let c0_i32_2692 : BitVec 32 := 0#32
  let v4019 : Index := Scalar.indexCast c0_i32_2692
  let c0_i32_2693 : BitVec 32 := 0#32
  let v4020 : Index := Scalar.indexCast c0_i32_2693
  let c5_i32_2694 : BitVec 32 := 5#32
  let v4021 : Index := Scalar.indexCast c5_i32_2694
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4022 : Index := Scalar.indexCast v9
  ![0, 0, 5, v4022.toNat]
def k0_off11 (i : grid0.Coords) : Fin 4 → Nat :=
  let c0_i32_2698 : BitVec 32 := 0#32
  let v4030 : Index := Scalar.indexCast c0_i32_2698
  let c0_i32_2699 : BitVec 32 := 0#32
  let v4031 : Index := Scalar.indexCast c0_i32_2699
  let c6_i32_2700 : BitVec 32 := 6#32
  let v4032 : Index := Scalar.indexCast c6_i32_2700
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4033 : Index := Scalar.indexCast v9
  ![0, 0, 6, v4033.toNat]
def k0_off12 (i : grid0.Coords) : Fin 4 → Nat :=
  let c0_i32_2704 : BitVec 32 := 0#32
  let v4041 : Index := Scalar.indexCast c0_i32_2704
  let c0_i32_2705 : BitVec 32 := 0#32
  let v4042 : Index := Scalar.indexCast c0_i32_2705
  let c7_i32_2706 : BitVec 32 := 7#32
  let v4043 : Index := Scalar.indexCast c7_i32_2706
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4044 : Index := Scalar.indexCast v9
  ![0, 0, 7, v4044.toNat]
def k0_off13 (i : grid0.Coords) : Fin 4 → Nat :=
  let c0_i32_2710 : BitVec 32 := 0#32
  let v4052 : Index := Scalar.indexCast c0_i32_2710
  let c0_i32_2711 : BitVec 32 := 0#32
  let v4053 : Index := Scalar.indexCast c0_i32_2711
  let c8_i32_2712 : BitVec 32 := 8#32
  let v4054 : Index := Scalar.indexCast c8_i32_2712
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4055 : Index := Scalar.indexCast v9
  ![0, 0, 8, v4055.toNat]
def k0_off14 (i : grid0.Coords) : Fin 4 → Nat :=
  let c0_i32_2716 : BitVec 32 := 0#32
  let v4063 : Index := Scalar.indexCast c0_i32_2716
  let c0_i32_2717 : BitVec 32 := 0#32
  let v4064 : Index := Scalar.indexCast c0_i32_2717
  let c9_i32_2718 : BitVec 32 := 9#32
  let v4065 : Index := Scalar.indexCast c9_i32_2718
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4066 : Index := Scalar.indexCast v9
  ![0, 0, 9, v4066.toNat]
def k0_off15 (i : grid0.Coords) : Fin 4 → Nat :=
  let c0_i32_2722 : BitVec 32 := 0#32
  let v4074 : Index := Scalar.indexCast c0_i32_2722
  let c0_i32_2723 : BitVec 32 := 0#32
  let v4075 : Index := Scalar.indexCast c0_i32_2723
  let c10_i32_2724 : BitVec 32 := 10#32
  let v4076 : Index := Scalar.indexCast c10_i32_2724
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4077 : Index := Scalar.indexCast v9
  ![0, 0, 10, v4077.toNat]
def k0_off16 (i : grid0.Coords) : Fin 4 → Nat :=
  let c0_i32_2728 : BitVec 32 := 0#32
  let v4085 : Index := Scalar.indexCast c0_i32_2728
  let c0_i32_2729 : BitVec 32 := 0#32
  let v4086 : Index := Scalar.indexCast c0_i32_2729
  let c11_i32_2730 : BitVec 32 := 11#32
  let v4087 : Index := Scalar.indexCast c11_i32_2730
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4088 : Index := Scalar.indexCast v9
  ![0, 0, 11, v4088.toNat]
def k0_off17 (i : grid0.Coords) : Fin 4 → Nat :=
  let c0_i32_2734 : BitVec 32 := 0#32
  let v4096 : Index := Scalar.indexCast c0_i32_2734
  let c0_i32_2735 : BitVec 32 := 0#32
  let v4097 : Index := Scalar.indexCast c0_i32_2735
  let c12_i32_2736 : BitVec 32 := 12#32
  let v4098 : Index := Scalar.indexCast c12_i32_2736
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4099 : Index := Scalar.indexCast v9
  ![0, 0, 12, v4099.toNat]
def k0_off18 (i : grid0.Coords) : Fin 4 → Nat :=
  let c0_i32_2740 : BitVec 32 := 0#32
  let v4107 : Index := Scalar.indexCast c0_i32_2740
  let c0_i32_2741 : BitVec 32 := 0#32
  let v4108 : Index := Scalar.indexCast c0_i32_2741
  let c13_i32_2742 : BitVec 32 := 13#32
  let v4109 : Index := Scalar.indexCast c13_i32_2742
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4110 : Index := Scalar.indexCast v9
  ![0, 0, 13, v4110.toNat]
def k0_off19 (i : grid0.Coords) : Fin 4 → Nat :=
  let c0_i32_2746 : BitVec 32 := 0#32
  let v4118 : Index := Scalar.indexCast c0_i32_2746
  let c0_i32_2747 : BitVec 32 := 0#32
  let v4119 : Index := Scalar.indexCast c0_i32_2747
  let c14_i32_2748 : BitVec 32 := 14#32
  let v4120 : Index := Scalar.indexCast c14_i32_2748
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4121 : Index := Scalar.indexCast v9
  ![0, 0, 14, v4121.toNat]
def k0_off20 (i : grid0.Coords) : Fin 4 → Nat :=
  let c0_i32_2752 : BitVec 32 := 0#32
  let v4129 : Index := Scalar.indexCast c0_i32_2752
  let c0_i32_2753 : BitVec 32 := 0#32
  let v4130 : Index := Scalar.indexCast c0_i32_2753
  let c15_i32_2754 : BitVec 32 := 15#32
  let v4131 : Index := Scalar.indexCast c15_i32_2754
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4132 : Index := Scalar.indexCast v9
  ![0, 0, 15, v4132.toNat]
def k0_off21 (i : grid0.Coords) : Fin 4 → Nat :=
  let c0_i32_2758 : BitVec 32 := 0#32
  let v4140 : Index := Scalar.indexCast c0_i32_2758
  let c1_i32_2759 : BitVec 32 := 1#32
  let v4141 : Index := Scalar.indexCast c1_i32_2759
  let c0_i32_2760 : BitVec 32 := 0#32
  let v4142 : Index := Scalar.indexCast c0_i32_2760
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4143 : Index := Scalar.indexCast v9
  ![0, 1, 0, v4143.toNat]
def k0_off22 (i : grid0.Coords) : Fin 4 → Nat :=
  let c0_i32_2764 : BitVec 32 := 0#32
  let v4151 : Index := Scalar.indexCast c0_i32_2764
  let c1_i32_2765 : BitVec 32 := 1#32
  let v4152 : Index := Scalar.indexCast c1_i32_2765
  let c1_i32_2766 : BitVec 32 := 1#32
  let v4153 : Index := Scalar.indexCast c1_i32_2766
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4154 : Index := Scalar.indexCast v9
  ![0, 1, 1, v4154.toNat]
def k0_off23 (i : grid0.Coords) : Fin 4 → Nat :=
  let c0_i32_2770 : BitVec 32 := 0#32
  let v4162 : Index := Scalar.indexCast c0_i32_2770
  let c1_i32_2771 : BitVec 32 := 1#32
  let v4163 : Index := Scalar.indexCast c1_i32_2771
  let c2_i32_2772 : BitVec 32 := 2#32
  let v4164 : Index := Scalar.indexCast c2_i32_2772
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4165 : Index := Scalar.indexCast v9
  ![0, 1, 2, v4165.toNat]
def k0_off24 (i : grid0.Coords) : Fin 4 → Nat :=
  let c0_i32_2776 : BitVec 32 := 0#32
  let v4173 : Index := Scalar.indexCast c0_i32_2776
  let c1_i32_2777 : BitVec 32 := 1#32
  let v4174 : Index := Scalar.indexCast c1_i32_2777
  let c3_i32_2778 : BitVec 32 := 3#32
  let v4175 : Index := Scalar.indexCast c3_i32_2778
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4176 : Index := Scalar.indexCast v9
  ![0, 1, 3, v4176.toNat]
def k0_off25 (i : grid0.Coords) : Fin 4 → Nat :=
  let c0_i32_2782 : BitVec 32 := 0#32
  let v4184 : Index := Scalar.indexCast c0_i32_2782
  let c1_i32_2783 : BitVec 32 := 1#32
  let v4185 : Index := Scalar.indexCast c1_i32_2783
  let c4_i32_2784 : BitVec 32 := 4#32
  let v4186 : Index := Scalar.indexCast c4_i32_2784
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4187 : Index := Scalar.indexCast v9
  ![0, 1, 4, v4187.toNat]
def k0_off26 (i : grid0.Coords) : Fin 4 → Nat :=
  let c0_i32_2788 : BitVec 32 := 0#32
  let v4195 : Index := Scalar.indexCast c0_i32_2788
  let c1_i32_2789 : BitVec 32 := 1#32
  let v4196 : Index := Scalar.indexCast c1_i32_2789
  let c5_i32_2790 : BitVec 32 := 5#32
  let v4197 : Index := Scalar.indexCast c5_i32_2790
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4198 : Index := Scalar.indexCast v9
  ![0, 1, 5, v4198.toNat]
def k0_off27 (i : grid0.Coords) : Fin 4 → Nat :=
  let c0_i32_2794 : BitVec 32 := 0#32
  let v4206 : Index := Scalar.indexCast c0_i32_2794
  let c1_i32_2795 : BitVec 32 := 1#32
  let v4207 : Index := Scalar.indexCast c1_i32_2795
  let c6_i32_2796 : BitVec 32 := 6#32
  let v4208 : Index := Scalar.indexCast c6_i32_2796
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4209 : Index := Scalar.indexCast v9
  ![0, 1, 6, v4209.toNat]
def k0_off28 (i : grid0.Coords) : Fin 4 → Nat :=
  let c0_i32_2800 : BitVec 32 := 0#32
  let v4217 : Index := Scalar.indexCast c0_i32_2800
  let c1_i32_2801 : BitVec 32 := 1#32
  let v4218 : Index := Scalar.indexCast c1_i32_2801
  let c7_i32_2802 : BitVec 32 := 7#32
  let v4219 : Index := Scalar.indexCast c7_i32_2802
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4220 : Index := Scalar.indexCast v9
  ![0, 1, 7, v4220.toNat]
def k0_off29 (i : grid0.Coords) : Fin 4 → Nat :=
  let c0_i32_2806 : BitVec 32 := 0#32
  let v4228 : Index := Scalar.indexCast c0_i32_2806
  let c1_i32_2807 : BitVec 32 := 1#32
  let v4229 : Index := Scalar.indexCast c1_i32_2807
  let c8_i32_2808 : BitVec 32 := 8#32
  let v4230 : Index := Scalar.indexCast c8_i32_2808
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4231 : Index := Scalar.indexCast v9
  ![0, 1, 8, v4231.toNat]
def k0_off30 (i : grid0.Coords) : Fin 4 → Nat :=
  let c0_i32_2812 : BitVec 32 := 0#32
  let v4239 : Index := Scalar.indexCast c0_i32_2812
  let c1_i32_2813 : BitVec 32 := 1#32
  let v4240 : Index := Scalar.indexCast c1_i32_2813
  let c9_i32_2814 : BitVec 32 := 9#32
  let v4241 : Index := Scalar.indexCast c9_i32_2814
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4242 : Index := Scalar.indexCast v9
  ![0, 1, 9, v4242.toNat]
def k0_off31 (i : grid0.Coords) : Fin 4 → Nat :=
  let c0_i32_2818 : BitVec 32 := 0#32
  let v4250 : Index := Scalar.indexCast c0_i32_2818
  let c1_i32_2819 : BitVec 32 := 1#32
  let v4251 : Index := Scalar.indexCast c1_i32_2819
  let c10_i32_2820 : BitVec 32 := 10#32
  let v4252 : Index := Scalar.indexCast c10_i32_2820
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4253 : Index := Scalar.indexCast v9
  ![0, 1, 10, v4253.toNat]
def k0_off32 (i : grid0.Coords) : Fin 4 → Nat :=
  let c0_i32_2824 : BitVec 32 := 0#32
  let v4261 : Index := Scalar.indexCast c0_i32_2824
  let c1_i32_2825 : BitVec 32 := 1#32
  let v4262 : Index := Scalar.indexCast c1_i32_2825
  let c11_i32_2826 : BitVec 32 := 11#32
  let v4263 : Index := Scalar.indexCast c11_i32_2826
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4264 : Index := Scalar.indexCast v9
  ![0, 1, 11, v4264.toNat]
def k0_off33 (i : grid0.Coords) : Fin 4 → Nat :=
  let c0_i32_2830 : BitVec 32 := 0#32
  let v4272 : Index := Scalar.indexCast c0_i32_2830
  let c1_i32_2831 : BitVec 32 := 1#32
  let v4273 : Index := Scalar.indexCast c1_i32_2831
  let c12_i32_2832 : BitVec 32 := 12#32
  let v4274 : Index := Scalar.indexCast c12_i32_2832
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4275 : Index := Scalar.indexCast v9
  ![0, 1, 12, v4275.toNat]
def k0_off34 (i : grid0.Coords) : Fin 4 → Nat :=
  let c0_i32_2836 : BitVec 32 := 0#32
  let v4283 : Index := Scalar.indexCast c0_i32_2836
  let c1_i32_2837 : BitVec 32 := 1#32
  let v4284 : Index := Scalar.indexCast c1_i32_2837
  let c13_i32_2838 : BitVec 32 := 13#32
  let v4285 : Index := Scalar.indexCast c13_i32_2838
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4286 : Index := Scalar.indexCast v9
  ![0, 1, 13, v4286.toNat]
def k0_off35 (i : grid0.Coords) : Fin 4 → Nat :=
  let c0_i32_2842 : BitVec 32 := 0#32
  let v4294 : Index := Scalar.indexCast c0_i32_2842
  let c1_i32_2843 : BitVec 32 := 1#32
  let v4295 : Index := Scalar.indexCast c1_i32_2843
  let c14_i32_2844 : BitVec 32 := 14#32
  let v4296 : Index := Scalar.indexCast c14_i32_2844
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4297 : Index := Scalar.indexCast v9
  ![0, 1, 14, v4297.toNat]
def k0_off36 (i : grid0.Coords) : Fin 4 → Nat :=
  let c0_i32_2848 : BitVec 32 := 0#32
  let v4305 : Index := Scalar.indexCast c0_i32_2848
  let c1_i32_2849 : BitVec 32 := 1#32
  let v4306 : Index := Scalar.indexCast c1_i32_2849
  let c15_i32_2850 : BitVec 32 := 15#32
  let v4307 : Index := Scalar.indexCast c15_i32_2850
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4308 : Index := Scalar.indexCast v9
  ![0, 1, 15, v4308.toNat]
def k0_off37 (i : grid0.Coords) : Fin 4 → Nat :=
  let c0_i32_2854 : BitVec 32 := 0#32
  let v4316 : Index := Scalar.indexCast c0_i32_2854
  let c2_i32_2855 : BitVec 32 := 2#32
  let v4317 : Index := Scalar.indexCast c2_i32_2855
  let c0_i32_2856 : BitVec 32 := 0#32
  let v4318 : Index := Scalar.indexCast c0_i32_2856
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4319 : Index := Scalar.indexCast v9
  ![0, 2, 0, v4319.toNat]
def k0_off38 (i : grid0.Coords) : Fin 4 → Nat :=
  let c0_i32_2860 : BitVec 32 := 0#32
  let v4327 : Index := Scalar.indexCast c0_i32_2860
  let c2_i32_2861 : BitVec 32 := 2#32
  let v4328 : Index := Scalar.indexCast c2_i32_2861
  let c1_i32_2862 : BitVec 32 := 1#32
  let v4329 : Index := Scalar.indexCast c1_i32_2862
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4330 : Index := Scalar.indexCast v9
  ![0, 2, 1, v4330.toNat]
def k0_off39 (i : grid0.Coords) : Fin 4 → Nat :=
  let c0_i32_2866 : BitVec 32 := 0#32
  let v4338 : Index := Scalar.indexCast c0_i32_2866
  let c2_i32_2867 : BitVec 32 := 2#32
  let v4339 : Index := Scalar.indexCast c2_i32_2867
  let c2_i32_2868 : BitVec 32 := 2#32
  let v4340 : Index := Scalar.indexCast c2_i32_2868
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4341 : Index := Scalar.indexCast v9
  ![0, 2, 2, v4341.toNat]
def k0_off40 (i : grid0.Coords) : Fin 4 → Nat :=
  let c0_i32_2872 : BitVec 32 := 0#32
  let v4349 : Index := Scalar.indexCast c0_i32_2872
  let c2_i32_2873 : BitVec 32 := 2#32
  let v4350 : Index := Scalar.indexCast c2_i32_2873
  let c3_i32_2874 : BitVec 32 := 3#32
  let v4351 : Index := Scalar.indexCast c3_i32_2874
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4352 : Index := Scalar.indexCast v9
  ![0, 2, 3, v4352.toNat]
def k0_off41 (i : grid0.Coords) : Fin 4 → Nat :=
  let c0_i32_2878 : BitVec 32 := 0#32
  let v4360 : Index := Scalar.indexCast c0_i32_2878
  let c2_i32_2879 : BitVec 32 := 2#32
  let v4361 : Index := Scalar.indexCast c2_i32_2879
  let c4_i32_2880 : BitVec 32 := 4#32
  let v4362 : Index := Scalar.indexCast c4_i32_2880
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4363 : Index := Scalar.indexCast v9
  ![0, 2, 4, v4363.toNat]
def k0_off42 (i : grid0.Coords) : Fin 4 → Nat :=
  let c0_i32_2884 : BitVec 32 := 0#32
  let v4371 : Index := Scalar.indexCast c0_i32_2884
  let c2_i32_2885 : BitVec 32 := 2#32
  let v4372 : Index := Scalar.indexCast c2_i32_2885
  let c5_i32_2886 : BitVec 32 := 5#32
  let v4373 : Index := Scalar.indexCast c5_i32_2886
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4374 : Index := Scalar.indexCast v9
  ![0, 2, 5, v4374.toNat]
def k0_off43 (i : grid0.Coords) : Fin 4 → Nat :=
  let c0_i32_2890 : BitVec 32 := 0#32
  let v4382 : Index := Scalar.indexCast c0_i32_2890
  let c2_i32_2891 : BitVec 32 := 2#32
  let v4383 : Index := Scalar.indexCast c2_i32_2891
  let c6_i32_2892 : BitVec 32 := 6#32
  let v4384 : Index := Scalar.indexCast c6_i32_2892
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4385 : Index := Scalar.indexCast v9
  ![0, 2, 6, v4385.toNat]
def k0_off44 (i : grid0.Coords) : Fin 4 → Nat :=
  let c0_i32_2896 : BitVec 32 := 0#32
  let v4393 : Index := Scalar.indexCast c0_i32_2896
  let c2_i32_2897 : BitVec 32 := 2#32
  let v4394 : Index := Scalar.indexCast c2_i32_2897
  let c7_i32_2898 : BitVec 32 := 7#32
  let v4395 : Index := Scalar.indexCast c7_i32_2898
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4396 : Index := Scalar.indexCast v9
  ![0, 2, 7, v4396.toNat]
def k0_off45 (i : grid0.Coords) : Fin 4 → Nat :=
  let c0_i32_2902 : BitVec 32 := 0#32
  let v4404 : Index := Scalar.indexCast c0_i32_2902
  let c2_i32_2903 : BitVec 32 := 2#32
  let v4405 : Index := Scalar.indexCast c2_i32_2903
  let c8_i32_2904 : BitVec 32 := 8#32
  let v4406 : Index := Scalar.indexCast c8_i32_2904
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4407 : Index := Scalar.indexCast v9
  ![0, 2, 8, v4407.toNat]
def k0_off46 (i : grid0.Coords) : Fin 4 → Nat :=
  let c0_i32_2908 : BitVec 32 := 0#32
  let v4415 : Index := Scalar.indexCast c0_i32_2908
  let c2_i32_2909 : BitVec 32 := 2#32
  let v4416 : Index := Scalar.indexCast c2_i32_2909
  let c9_i32_2910 : BitVec 32 := 9#32
  let v4417 : Index := Scalar.indexCast c9_i32_2910
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4418 : Index := Scalar.indexCast v9
  ![0, 2, 9, v4418.toNat]
def k0_off47 (i : grid0.Coords) : Fin 4 → Nat :=
  let c0_i32_2914 : BitVec 32 := 0#32
  let v4426 : Index := Scalar.indexCast c0_i32_2914
  let c2_i32_2915 : BitVec 32 := 2#32
  let v4427 : Index := Scalar.indexCast c2_i32_2915
  let c10_i32_2916 : BitVec 32 := 10#32
  let v4428 : Index := Scalar.indexCast c10_i32_2916
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4429 : Index := Scalar.indexCast v9
  ![0, 2, 10, v4429.toNat]
def k0_off48 (i : grid0.Coords) : Fin 4 → Nat :=
  let c0_i32_2920 : BitVec 32 := 0#32
  let v4437 : Index := Scalar.indexCast c0_i32_2920
  let c2_i32_2921 : BitVec 32 := 2#32
  let v4438 : Index := Scalar.indexCast c2_i32_2921
  let c11_i32_2922 : BitVec 32 := 11#32
  let v4439 : Index := Scalar.indexCast c11_i32_2922
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4440 : Index := Scalar.indexCast v9
  ![0, 2, 11, v4440.toNat]
def k0_off49 (i : grid0.Coords) : Fin 4 → Nat :=
  let c0_i32_2926 : BitVec 32 := 0#32
  let v4448 : Index := Scalar.indexCast c0_i32_2926
  let c2_i32_2927 : BitVec 32 := 2#32
  let v4449 : Index := Scalar.indexCast c2_i32_2927
  let c12_i32_2928 : BitVec 32 := 12#32
  let v4450 : Index := Scalar.indexCast c12_i32_2928
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4451 : Index := Scalar.indexCast v9
  ![0, 2, 12, v4451.toNat]
def k0_off50 (i : grid0.Coords) : Fin 4 → Nat :=
  let c0_i32_2932 : BitVec 32 := 0#32
  let v4459 : Index := Scalar.indexCast c0_i32_2932
  let c2_i32_2933 : BitVec 32 := 2#32
  let v4460 : Index := Scalar.indexCast c2_i32_2933
  let c13_i32_2934 : BitVec 32 := 13#32
  let v4461 : Index := Scalar.indexCast c13_i32_2934
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4462 : Index := Scalar.indexCast v9
  ![0, 2, 13, v4462.toNat]
def k0_off51 (i : grid0.Coords) : Fin 4 → Nat :=
  let c0_i32_2938 : BitVec 32 := 0#32
  let v4470 : Index := Scalar.indexCast c0_i32_2938
  let c2_i32_2939 : BitVec 32 := 2#32
  let v4471 : Index := Scalar.indexCast c2_i32_2939
  let c14_i32_2940 : BitVec 32 := 14#32
  let v4472 : Index := Scalar.indexCast c14_i32_2940
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4473 : Index := Scalar.indexCast v9
  ![0, 2, 14, v4473.toNat]
def k0_off52 (i : grid0.Coords) : Fin 4 → Nat :=
  let c0_i32_2944 : BitVec 32 := 0#32
  let v4481 : Index := Scalar.indexCast c0_i32_2944
  let c2_i32_2945 : BitVec 32 := 2#32
  let v4482 : Index := Scalar.indexCast c2_i32_2945
  let c15_i32_2946 : BitVec 32 := 15#32
  let v4483 : Index := Scalar.indexCast c15_i32_2946
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4484 : Index := Scalar.indexCast v9
  ![0, 2, 15, v4484.toNat]
def k0_off53 (i : grid0.Coords) : Fin 4 → Nat :=
  let c0_i32_2950 : BitVec 32 := 0#32
  let v4492 : Index := Scalar.indexCast c0_i32_2950
  let c3_i32_2951 : BitVec 32 := 3#32
  let v4493 : Index := Scalar.indexCast c3_i32_2951
  let c0_i32_2952 : BitVec 32 := 0#32
  let v4494 : Index := Scalar.indexCast c0_i32_2952
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4495 : Index := Scalar.indexCast v9
  ![0, 3, 0, v4495.toNat]
def k0_off54 (i : grid0.Coords) : Fin 4 → Nat :=
  let c0_i32_2956 : BitVec 32 := 0#32
  let v4503 : Index := Scalar.indexCast c0_i32_2956
  let c3_i32_2957 : BitVec 32 := 3#32
  let v4504 : Index := Scalar.indexCast c3_i32_2957
  let c1_i32_2958 : BitVec 32 := 1#32
  let v4505 : Index := Scalar.indexCast c1_i32_2958
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4506 : Index := Scalar.indexCast v9
  ![0, 3, 1, v4506.toNat]
def k0_off55 (i : grid0.Coords) : Fin 4 → Nat :=
  let c0_i32_2962 : BitVec 32 := 0#32
  let v4514 : Index := Scalar.indexCast c0_i32_2962
  let c3_i32_2963 : BitVec 32 := 3#32
  let v4515 : Index := Scalar.indexCast c3_i32_2963
  let c2_i32_2964 : BitVec 32 := 2#32
  let v4516 : Index := Scalar.indexCast c2_i32_2964
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4517 : Index := Scalar.indexCast v9
  ![0, 3, 2, v4517.toNat]
def k0_off56 (i : grid0.Coords) : Fin 4 → Nat :=
  let c0_i32_2968 : BitVec 32 := 0#32
  let v4525 : Index := Scalar.indexCast c0_i32_2968
  let c3_i32_2969 : BitVec 32 := 3#32
  let v4526 : Index := Scalar.indexCast c3_i32_2969
  let c3_i32_2970 : BitVec 32 := 3#32
  let v4527 : Index := Scalar.indexCast c3_i32_2970
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4528 : Index := Scalar.indexCast v9
  ![0, 3, 3, v4528.toNat]
def k0_off57 (i : grid0.Coords) : Fin 4 → Nat :=
  let c0_i32_2974 : BitVec 32 := 0#32
  let v4536 : Index := Scalar.indexCast c0_i32_2974
  let c3_i32_2975 : BitVec 32 := 3#32
  let v4537 : Index := Scalar.indexCast c3_i32_2975
  let c4_i32_2976 : BitVec 32 := 4#32
  let v4538 : Index := Scalar.indexCast c4_i32_2976
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4539 : Index := Scalar.indexCast v9
  ![0, 3, 4, v4539.toNat]
def k0_off58 (i : grid0.Coords) : Fin 4 → Nat :=
  let c0_i32_2980 : BitVec 32 := 0#32
  let v4547 : Index := Scalar.indexCast c0_i32_2980
  let c3_i32_2981 : BitVec 32 := 3#32
  let v4548 : Index := Scalar.indexCast c3_i32_2981
  let c5_i32_2982 : BitVec 32 := 5#32
  let v4549 : Index := Scalar.indexCast c5_i32_2982
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4550 : Index := Scalar.indexCast v9
  ![0, 3, 5, v4550.toNat]
def k0_off59 (i : grid0.Coords) : Fin 4 → Nat :=
  let c0_i32_2986 : BitVec 32 := 0#32
  let v4558 : Index := Scalar.indexCast c0_i32_2986
  let c3_i32_2987 : BitVec 32 := 3#32
  let v4559 : Index := Scalar.indexCast c3_i32_2987
  let c6_i32_2988 : BitVec 32 := 6#32
  let v4560 : Index := Scalar.indexCast c6_i32_2988
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4561 : Index := Scalar.indexCast v9
  ![0, 3, 6, v4561.toNat]
def k0_off60 (i : grid0.Coords) : Fin 4 → Nat :=
  let c0_i32_2992 : BitVec 32 := 0#32
  let v4569 : Index := Scalar.indexCast c0_i32_2992
  let c3_i32_2993 : BitVec 32 := 3#32
  let v4570 : Index := Scalar.indexCast c3_i32_2993
  let c7_i32_2994 : BitVec 32 := 7#32
  let v4571 : Index := Scalar.indexCast c7_i32_2994
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4572 : Index := Scalar.indexCast v9
  ![0, 3, 7, v4572.toNat]
def k0_off61 (i : grid0.Coords) : Fin 4 → Nat :=
  let c0_i32_2998 : BitVec 32 := 0#32
  let v4580 : Index := Scalar.indexCast c0_i32_2998
  let c3_i32_2999 : BitVec 32 := 3#32
  let v4581 : Index := Scalar.indexCast c3_i32_2999
  let c8_i32_3000 : BitVec 32 := 8#32
  let v4582 : Index := Scalar.indexCast c8_i32_3000
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4583 : Index := Scalar.indexCast v9
  ![0, 3, 8, v4583.toNat]
def k0_off62 (i : grid0.Coords) : Fin 4 → Nat :=
  let c0_i32_3004 : BitVec 32 := 0#32
  let v4591 : Index := Scalar.indexCast c0_i32_3004
  let c3_i32_3005 : BitVec 32 := 3#32
  let v4592 : Index := Scalar.indexCast c3_i32_3005
  let c9_i32_3006 : BitVec 32 := 9#32
  let v4593 : Index := Scalar.indexCast c9_i32_3006
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4594 : Index := Scalar.indexCast v9
  ![0, 3, 9, v4594.toNat]
def k0_off63 (i : grid0.Coords) : Fin 4 → Nat :=
  let c0_i32_3010 : BitVec 32 := 0#32
  let v4602 : Index := Scalar.indexCast c0_i32_3010
  let c3_i32_3011 : BitVec 32 := 3#32
  let v4603 : Index := Scalar.indexCast c3_i32_3011
  let c10_i32_3012 : BitVec 32 := 10#32
  let v4604 : Index := Scalar.indexCast c10_i32_3012
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4605 : Index := Scalar.indexCast v9
  ![0, 3, 10, v4605.toNat]
def k0_off64 (i : grid0.Coords) : Fin 4 → Nat :=
  let c0_i32_3016 : BitVec 32 := 0#32
  let v4613 : Index := Scalar.indexCast c0_i32_3016
  let c3_i32_3017 : BitVec 32 := 3#32
  let v4614 : Index := Scalar.indexCast c3_i32_3017
  let c11_i32_3018 : BitVec 32 := 11#32
  let v4615 : Index := Scalar.indexCast c11_i32_3018
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4616 : Index := Scalar.indexCast v9
  ![0, 3, 11, v4616.toNat]
def k0_off65 (i : grid0.Coords) : Fin 4 → Nat :=
  let c0_i32_3022 : BitVec 32 := 0#32
  let v4624 : Index := Scalar.indexCast c0_i32_3022
  let c3_i32_3023 : BitVec 32 := 3#32
  let v4625 : Index := Scalar.indexCast c3_i32_3023
  let c12_i32_3024 : BitVec 32 := 12#32
  let v4626 : Index := Scalar.indexCast c12_i32_3024
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4627 : Index := Scalar.indexCast v9
  ![0, 3, 12, v4627.toNat]
def k0_off66 (i : grid0.Coords) : Fin 4 → Nat :=
  let c0_i32_3028 : BitVec 32 := 0#32
  let v4635 : Index := Scalar.indexCast c0_i32_3028
  let c3_i32_3029 : BitVec 32 := 3#32
  let v4636 : Index := Scalar.indexCast c3_i32_3029
  let c13_i32_3030 : BitVec 32 := 13#32
  let v4637 : Index := Scalar.indexCast c13_i32_3030
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4638 : Index := Scalar.indexCast v9
  ![0, 3, 13, v4638.toNat]
def k0_off67 (i : grid0.Coords) : Fin 4 → Nat :=
  let c0_i32_3034 : BitVec 32 := 0#32
  let v4646 : Index := Scalar.indexCast c0_i32_3034
  let c3_i32_3035 : BitVec 32 := 3#32
  let v4647 : Index := Scalar.indexCast c3_i32_3035
  let c14_i32_3036 : BitVec 32 := 14#32
  let v4648 : Index := Scalar.indexCast c14_i32_3036
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4649 : Index := Scalar.indexCast v9
  ![0, 3, 14, v4649.toNat]
def k0_off68 (i : grid0.Coords) : Fin 4 → Nat :=
  let c0_i32_3040 : BitVec 32 := 0#32
  let v4657 : Index := Scalar.indexCast c0_i32_3040
  let c3_i32_3041 : BitVec 32 := 3#32
  let v4658 : Index := Scalar.indexCast c3_i32_3041
  let c15_i32_3042 : BitVec 32 := 15#32
  let v4659 : Index := Scalar.indexCast c15_i32_3042
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4660 : Index := Scalar.indexCast v9
  ![0, 3, 15, v4660.toNat]
def k0_off69 (i : grid0.Coords) : Fin 4 → Nat :=
  let c0_i32_3046 : BitVec 32 := 0#32
  let v4668 : Index := Scalar.indexCast c0_i32_3046
  let c4_i32_3047 : BitVec 32 := 4#32
  let v4669 : Index := Scalar.indexCast c4_i32_3047
  let c0_i32_3048 : BitVec 32 := 0#32
  let v4670 : Index := Scalar.indexCast c0_i32_3048
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4671 : Index := Scalar.indexCast v9
  ![0, 4, 0, v4671.toNat]
def k0_off70 (i : grid0.Coords) : Fin 4 → Nat :=
  let c0_i32_3052 : BitVec 32 := 0#32
  let v4679 : Index := Scalar.indexCast c0_i32_3052
  let c4_i32_3053 : BitVec 32 := 4#32
  let v4680 : Index := Scalar.indexCast c4_i32_3053
  let c1_i32_3054 : BitVec 32 := 1#32
  let v4681 : Index := Scalar.indexCast c1_i32_3054
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4682 : Index := Scalar.indexCast v9
  ![0, 4, 1, v4682.toNat]
def k0_off71 (i : grid0.Coords) : Fin 4 → Nat :=
  let c0_i32_3058 : BitVec 32 := 0#32
  let v4690 : Index := Scalar.indexCast c0_i32_3058
  let c4_i32_3059 : BitVec 32 := 4#32
  let v4691 : Index := Scalar.indexCast c4_i32_3059
  let c2_i32_3060 : BitVec 32 := 2#32
  let v4692 : Index := Scalar.indexCast c2_i32_3060
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4693 : Index := Scalar.indexCast v9
  ![0, 4, 2, v4693.toNat]
def k0_off72 (i : grid0.Coords) : Fin 4 → Nat :=
  let c0_i32_3064 : BitVec 32 := 0#32
  let v4701 : Index := Scalar.indexCast c0_i32_3064
  let c4_i32_3065 : BitVec 32 := 4#32
  let v4702 : Index := Scalar.indexCast c4_i32_3065
  let c3_i32_3066 : BitVec 32 := 3#32
  let v4703 : Index := Scalar.indexCast c3_i32_3066
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4704 : Index := Scalar.indexCast v9
  ![0, 4, 3, v4704.toNat]
def k0_off73 (i : grid0.Coords) : Fin 4 → Nat :=
  let c0_i32_3070 : BitVec 32 := 0#32
  let v4712 : Index := Scalar.indexCast c0_i32_3070
  let c4_i32_3071 : BitVec 32 := 4#32
  let v4713 : Index := Scalar.indexCast c4_i32_3071
  let c4_i32_3072 : BitVec 32 := 4#32
  let v4714 : Index := Scalar.indexCast c4_i32_3072
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4715 : Index := Scalar.indexCast v9
  ![0, 4, 4, v4715.toNat]
def k0_off74 (i : grid0.Coords) : Fin 4 → Nat :=
  let c0_i32_3076 : BitVec 32 := 0#32
  let v4723 : Index := Scalar.indexCast c0_i32_3076
  let c4_i32_3077 : BitVec 32 := 4#32
  let v4724 : Index := Scalar.indexCast c4_i32_3077
  let c5_i32_3078 : BitVec 32 := 5#32
  let v4725 : Index := Scalar.indexCast c5_i32_3078
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4726 : Index := Scalar.indexCast v9
  ![0, 4, 5, v4726.toNat]
def k0_off75 (i : grid0.Coords) : Fin 4 → Nat :=
  let c0_i32_3082 : BitVec 32 := 0#32
  let v4734 : Index := Scalar.indexCast c0_i32_3082
  let c4_i32_3083 : BitVec 32 := 4#32
  let v4735 : Index := Scalar.indexCast c4_i32_3083
  let c6_i32_3084 : BitVec 32 := 6#32
  let v4736 : Index := Scalar.indexCast c6_i32_3084
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4737 : Index := Scalar.indexCast v9
  ![0, 4, 6, v4737.toNat]
def k0_off76 (i : grid0.Coords) : Fin 4 → Nat :=
  let c0_i32_3088 : BitVec 32 := 0#32
  let v4745 : Index := Scalar.indexCast c0_i32_3088
  let c4_i32_3089 : BitVec 32 := 4#32
  let v4746 : Index := Scalar.indexCast c4_i32_3089
  let c7_i32_3090 : BitVec 32 := 7#32
  let v4747 : Index := Scalar.indexCast c7_i32_3090
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4748 : Index := Scalar.indexCast v9
  ![0, 4, 7, v4748.toNat]
def k0_off77 (i : grid0.Coords) : Fin 4 → Nat :=
  let c0_i32_3094 : BitVec 32 := 0#32
  let v4756 : Index := Scalar.indexCast c0_i32_3094
  let c4_i32_3095 : BitVec 32 := 4#32
  let v4757 : Index := Scalar.indexCast c4_i32_3095
  let c8_i32_3096 : BitVec 32 := 8#32
  let v4758 : Index := Scalar.indexCast c8_i32_3096
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4759 : Index := Scalar.indexCast v9
  ![0, 4, 8, v4759.toNat]
def k0_off78 (i : grid0.Coords) : Fin 4 → Nat :=
  let c0_i32_3100 : BitVec 32 := 0#32
  let v4767 : Index := Scalar.indexCast c0_i32_3100
  let c4_i32_3101 : BitVec 32 := 4#32
  let v4768 : Index := Scalar.indexCast c4_i32_3101
  let c9_i32_3102 : BitVec 32 := 9#32
  let v4769 : Index := Scalar.indexCast c9_i32_3102
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4770 : Index := Scalar.indexCast v9
  ![0, 4, 9, v4770.toNat]
def k0_off79 (i : grid0.Coords) : Fin 4 → Nat :=
  let c0_i32_3106 : BitVec 32 := 0#32
  let v4778 : Index := Scalar.indexCast c0_i32_3106
  let c4_i32_3107 : BitVec 32 := 4#32
  let v4779 : Index := Scalar.indexCast c4_i32_3107
  let c10_i32_3108 : BitVec 32 := 10#32
  let v4780 : Index := Scalar.indexCast c10_i32_3108
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4781 : Index := Scalar.indexCast v9
  ![0, 4, 10, v4781.toNat]
def k0_off80 (i : grid0.Coords) : Fin 4 → Nat :=
  let c0_i32_3112 : BitVec 32 := 0#32
  let v4789 : Index := Scalar.indexCast c0_i32_3112
  let c4_i32_3113 : BitVec 32 := 4#32
  let v4790 : Index := Scalar.indexCast c4_i32_3113
  let c11_i32_3114 : BitVec 32 := 11#32
  let v4791 : Index := Scalar.indexCast c11_i32_3114
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4792 : Index := Scalar.indexCast v9
  ![0, 4, 11, v4792.toNat]
def k0_off81 (i : grid0.Coords) : Fin 4 → Nat :=
  let c0_i32_3118 : BitVec 32 := 0#32
  let v4800 : Index := Scalar.indexCast c0_i32_3118
  let c4_i32_3119 : BitVec 32 := 4#32
  let v4801 : Index := Scalar.indexCast c4_i32_3119
  let c12_i32_3120 : BitVec 32 := 12#32
  let v4802 : Index := Scalar.indexCast c12_i32_3120
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4803 : Index := Scalar.indexCast v9
  ![0, 4, 12, v4803.toNat]
def k0_off82 (i : grid0.Coords) : Fin 4 → Nat :=
  let c0_i32_3124 : BitVec 32 := 0#32
  let v4811 : Index := Scalar.indexCast c0_i32_3124
  let c4_i32_3125 : BitVec 32 := 4#32
  let v4812 : Index := Scalar.indexCast c4_i32_3125
  let c13_i32_3126 : BitVec 32 := 13#32
  let v4813 : Index := Scalar.indexCast c13_i32_3126
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4814 : Index := Scalar.indexCast v9
  ![0, 4, 13, v4814.toNat]
def k0_off83 (i : grid0.Coords) : Fin 4 → Nat :=
  let c0_i32_3130 : BitVec 32 := 0#32
  let v4822 : Index := Scalar.indexCast c0_i32_3130
  let c4_i32_3131 : BitVec 32 := 4#32
  let v4823 : Index := Scalar.indexCast c4_i32_3131
  let c14_i32_3132 : BitVec 32 := 14#32
  let v4824 : Index := Scalar.indexCast c14_i32_3132
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4825 : Index := Scalar.indexCast v9
  ![0, 4, 14, v4825.toNat]
def k0_off84 (i : grid0.Coords) : Fin 4 → Nat :=
  let c0_i32_3136 : BitVec 32 := 0#32
  let v4833 : Index := Scalar.indexCast c0_i32_3136
  let c4_i32_3137 : BitVec 32 := 4#32
  let v4834 : Index := Scalar.indexCast c4_i32_3137
  let c15_i32_3138 : BitVec 32 := 15#32
  let v4835 : Index := Scalar.indexCast c15_i32_3138
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4836 : Index := Scalar.indexCast v9
  ![0, 4, 15, v4836.toNat]
def k0_off85 (i : grid0.Coords) : Fin 4 → Nat :=
  let c0_i32_3142 : BitVec 32 := 0#32
  let v4844 : Index := Scalar.indexCast c0_i32_3142
  let c5_i32_3143 : BitVec 32 := 5#32
  let v4845 : Index := Scalar.indexCast c5_i32_3143
  let c0_i32_3144 : BitVec 32 := 0#32
  let v4846 : Index := Scalar.indexCast c0_i32_3144
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4847 : Index := Scalar.indexCast v9
  ![0, 5, 0, v4847.toNat]
def k0_off86 (i : grid0.Coords) : Fin 4 → Nat :=
  let c0_i32_3148 : BitVec 32 := 0#32
  let v4855 : Index := Scalar.indexCast c0_i32_3148
  let c5_i32_3149 : BitVec 32 := 5#32
  let v4856 : Index := Scalar.indexCast c5_i32_3149
  let c1_i32_3150 : BitVec 32 := 1#32
  let v4857 : Index := Scalar.indexCast c1_i32_3150
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4858 : Index := Scalar.indexCast v9
  ![0, 5, 1, v4858.toNat]
def k0_off87 (i : grid0.Coords) : Fin 4 → Nat :=
  let c0_i32_3154 : BitVec 32 := 0#32
  let v4866 : Index := Scalar.indexCast c0_i32_3154
  let c5_i32_3155 : BitVec 32 := 5#32
  let v4867 : Index := Scalar.indexCast c5_i32_3155
  let c2_i32_3156 : BitVec 32 := 2#32
  let v4868 : Index := Scalar.indexCast c2_i32_3156
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4869 : Index := Scalar.indexCast v9
  ![0, 5, 2, v4869.toNat]
def k0_off88 (i : grid0.Coords) : Fin 4 → Nat :=
  let c0_i32_3160 : BitVec 32 := 0#32
  let v4877 : Index := Scalar.indexCast c0_i32_3160
  let c5_i32_3161 : BitVec 32 := 5#32
  let v4878 : Index := Scalar.indexCast c5_i32_3161
  let c3_i32_3162 : BitVec 32 := 3#32
  let v4879 : Index := Scalar.indexCast c3_i32_3162
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4880 : Index := Scalar.indexCast v9
  ![0, 5, 3, v4880.toNat]
def k0_off89 (i : grid0.Coords) : Fin 4 → Nat :=
  let c0_i32_3166 : BitVec 32 := 0#32
  let v4888 : Index := Scalar.indexCast c0_i32_3166
  let c5_i32_3167 : BitVec 32 := 5#32
  let v4889 : Index := Scalar.indexCast c5_i32_3167
  let c4_i32_3168 : BitVec 32 := 4#32
  let v4890 : Index := Scalar.indexCast c4_i32_3168
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4891 : Index := Scalar.indexCast v9
  ![0, 5, 4, v4891.toNat]
def k0_off90 (i : grid0.Coords) : Fin 4 → Nat :=
  let c0_i32_3172 : BitVec 32 := 0#32
  let v4899 : Index := Scalar.indexCast c0_i32_3172
  let c5_i32_3173 : BitVec 32 := 5#32
  let v4900 : Index := Scalar.indexCast c5_i32_3173
  let c5_i32_3174 : BitVec 32 := 5#32
  let v4901 : Index := Scalar.indexCast c5_i32_3174
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4902 : Index := Scalar.indexCast v9
  ![0, 5, 5, v4902.toNat]
def k0_off91 (i : grid0.Coords) : Fin 4 → Nat :=
  let c0_i32_3178 : BitVec 32 := 0#32
  let v4910 : Index := Scalar.indexCast c0_i32_3178
  let c5_i32_3179 : BitVec 32 := 5#32
  let v4911 : Index := Scalar.indexCast c5_i32_3179
  let c6_i32_3180 : BitVec 32 := 6#32
  let v4912 : Index := Scalar.indexCast c6_i32_3180
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4913 : Index := Scalar.indexCast v9
  ![0, 5, 6, v4913.toNat]
def k0_off92 (i : grid0.Coords) : Fin 4 → Nat :=
  let c0_i32_3184 : BitVec 32 := 0#32
  let v4921 : Index := Scalar.indexCast c0_i32_3184
  let c5_i32_3185 : BitVec 32 := 5#32
  let v4922 : Index := Scalar.indexCast c5_i32_3185
  let c7_i32_3186 : BitVec 32 := 7#32
  let v4923 : Index := Scalar.indexCast c7_i32_3186
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4924 : Index := Scalar.indexCast v9
  ![0, 5, 7, v4924.toNat]
def k0_off93 (i : grid0.Coords) : Fin 4 → Nat :=
  let c0_i32_3190 : BitVec 32 := 0#32
  let v4932 : Index := Scalar.indexCast c0_i32_3190
  let c5_i32_3191 : BitVec 32 := 5#32
  let v4933 : Index := Scalar.indexCast c5_i32_3191
  let c8_i32_3192 : BitVec 32 := 8#32
  let v4934 : Index := Scalar.indexCast c8_i32_3192
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4935 : Index := Scalar.indexCast v9
  ![0, 5, 8, v4935.toNat]
def k0_off94 (i : grid0.Coords) : Fin 4 → Nat :=
  let c0_i32_3196 : BitVec 32 := 0#32
  let v4943 : Index := Scalar.indexCast c0_i32_3196
  let c5_i32_3197 : BitVec 32 := 5#32
  let v4944 : Index := Scalar.indexCast c5_i32_3197
  let c9_i32_3198 : BitVec 32 := 9#32
  let v4945 : Index := Scalar.indexCast c9_i32_3198
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4946 : Index := Scalar.indexCast v9
  ![0, 5, 9, v4946.toNat]
def k0_off95 (i : grid0.Coords) : Fin 4 → Nat :=
  let c0_i32_3202 : BitVec 32 := 0#32
  let v4954 : Index := Scalar.indexCast c0_i32_3202
  let c5_i32_3203 : BitVec 32 := 5#32
  let v4955 : Index := Scalar.indexCast c5_i32_3203
  let c10_i32_3204 : BitVec 32 := 10#32
  let v4956 : Index := Scalar.indexCast c10_i32_3204
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4957 : Index := Scalar.indexCast v9
  ![0, 5, 10, v4957.toNat]
def k0_off96 (i : grid0.Coords) : Fin 4 → Nat :=
  let c0_i32_3208 : BitVec 32 := 0#32
  let v4965 : Index := Scalar.indexCast c0_i32_3208
  let c5_i32_3209 : BitVec 32 := 5#32
  let v4966 : Index := Scalar.indexCast c5_i32_3209
  let c11_i32_3210 : BitVec 32 := 11#32
  let v4967 : Index := Scalar.indexCast c11_i32_3210
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4968 : Index := Scalar.indexCast v9
  ![0, 5, 11, v4968.toNat]
def k0_off97 (i : grid0.Coords) : Fin 4 → Nat :=
  let c0_i32_3214 : BitVec 32 := 0#32
  let v4976 : Index := Scalar.indexCast c0_i32_3214
  let c5_i32_3215 : BitVec 32 := 5#32
  let v4977 : Index := Scalar.indexCast c5_i32_3215
  let c12_i32_3216 : BitVec 32 := 12#32
  let v4978 : Index := Scalar.indexCast c12_i32_3216
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4979 : Index := Scalar.indexCast v9
  ![0, 5, 12, v4979.toNat]
def k0_off98 (i : grid0.Coords) : Fin 4 → Nat :=
  let c0_i32_3220 : BitVec 32 := 0#32
  let v4987 : Index := Scalar.indexCast c0_i32_3220
  let c5_i32_3221 : BitVec 32 := 5#32
  let v4988 : Index := Scalar.indexCast c5_i32_3221
  let c13_i32_3222 : BitVec 32 := 13#32
  let v4989 : Index := Scalar.indexCast c13_i32_3222
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v4990 : Index := Scalar.indexCast v9
  ![0, 5, 13, v4990.toNat]
def k0_off99 (i : grid0.Coords) : Fin 4 → Nat :=
  let c0_i32_3226 : BitVec 32 := 0#32
  let v4998 : Index := Scalar.indexCast c0_i32_3226
  let c5_i32_3227 : BitVec 32 := 5#32
  let v4999 : Index := Scalar.indexCast c5_i32_3227
  let c14_i32_3228 : BitVec 32 := 14#32
  let v5000 : Index := Scalar.indexCast c14_i32_3228
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5001 : Index := Scalar.indexCast v9
  ![0, 5, 14, v5001.toNat]
def k0_off100 (i : grid0.Coords) : Fin 4 → Nat :=
  let c0_i32_3232 : BitVec 32 := 0#32
  let v5009 : Index := Scalar.indexCast c0_i32_3232
  let c5_i32_3233 : BitVec 32 := 5#32
  let v5010 : Index := Scalar.indexCast c5_i32_3233
  let c15_i32_3234 : BitVec 32 := 15#32
  let v5011 : Index := Scalar.indexCast c15_i32_3234
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5012 : Index := Scalar.indexCast v9
  ![0, 5, 15, v5012.toNat]
def k0_off101 (i : grid0.Coords) : Fin 4 → Nat :=
  let c0_i32_3238 : BitVec 32 := 0#32
  let v5020 : Index := Scalar.indexCast c0_i32_3238
  let c6_i32_3239 : BitVec 32 := 6#32
  let v5021 : Index := Scalar.indexCast c6_i32_3239
  let c0_i32_3240 : BitVec 32 := 0#32
  let v5022 : Index := Scalar.indexCast c0_i32_3240
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5023 : Index := Scalar.indexCast v9
  ![0, 6, 0, v5023.toNat]
def k0_off102 (i : grid0.Coords) : Fin 4 → Nat :=
  let c0_i32_3244 : BitVec 32 := 0#32
  let v5031 : Index := Scalar.indexCast c0_i32_3244
  let c6_i32_3245 : BitVec 32 := 6#32
  let v5032 : Index := Scalar.indexCast c6_i32_3245
  let c1_i32_3246 : BitVec 32 := 1#32
  let v5033 : Index := Scalar.indexCast c1_i32_3246
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5034 : Index := Scalar.indexCast v9
  ![0, 6, 1, v5034.toNat]
def k0_off103 (i : grid0.Coords) : Fin 4 → Nat :=
  let c0_i32_3250 : BitVec 32 := 0#32
  let v5042 : Index := Scalar.indexCast c0_i32_3250
  let c6_i32_3251 : BitVec 32 := 6#32
  let v5043 : Index := Scalar.indexCast c6_i32_3251
  let c2_i32_3252 : BitVec 32 := 2#32
  let v5044 : Index := Scalar.indexCast c2_i32_3252
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5045 : Index := Scalar.indexCast v9
  ![0, 6, 2, v5045.toNat]
def k0_off104 (i : grid0.Coords) : Fin 4 → Nat :=
  let c0_i32_3256 : BitVec 32 := 0#32
  let v5053 : Index := Scalar.indexCast c0_i32_3256
  let c6_i32_3257 : BitVec 32 := 6#32
  let v5054 : Index := Scalar.indexCast c6_i32_3257
  let c3_i32_3258 : BitVec 32 := 3#32
  let v5055 : Index := Scalar.indexCast c3_i32_3258
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5056 : Index := Scalar.indexCast v9
  ![0, 6, 3, v5056.toNat]
def k0_off105 (i : grid0.Coords) : Fin 4 → Nat :=
  let c0_i32_3262 : BitVec 32 := 0#32
  let v5064 : Index := Scalar.indexCast c0_i32_3262
  let c6_i32_3263 : BitVec 32 := 6#32
  let v5065 : Index := Scalar.indexCast c6_i32_3263
  let c4_i32_3264 : BitVec 32 := 4#32
  let v5066 : Index := Scalar.indexCast c4_i32_3264
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5067 : Index := Scalar.indexCast v9
  ![0, 6, 4, v5067.toNat]
def k0_off106 (i : grid0.Coords) : Fin 4 → Nat :=
  let c0_i32_3268 : BitVec 32 := 0#32
  let v5075 : Index := Scalar.indexCast c0_i32_3268
  let c6_i32_3269 : BitVec 32 := 6#32
  let v5076 : Index := Scalar.indexCast c6_i32_3269
  let c5_i32_3270 : BitVec 32 := 5#32
  let v5077 : Index := Scalar.indexCast c5_i32_3270
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5078 : Index := Scalar.indexCast v9
  ![0, 6, 5, v5078.toNat]
def k0_off107 (i : grid0.Coords) : Fin 4 → Nat :=
  let c0_i32_3274 : BitVec 32 := 0#32
  let v5086 : Index := Scalar.indexCast c0_i32_3274
  let c6_i32_3275 : BitVec 32 := 6#32
  let v5087 : Index := Scalar.indexCast c6_i32_3275
  let c6_i32_3276 : BitVec 32 := 6#32
  let v5088 : Index := Scalar.indexCast c6_i32_3276
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5089 : Index := Scalar.indexCast v9
  ![0, 6, 6, v5089.toNat]
def k0_off108 (i : grid0.Coords) : Fin 4 → Nat :=
  let c0_i32_3280 : BitVec 32 := 0#32
  let v5097 : Index := Scalar.indexCast c0_i32_3280
  let c6_i32_3281 : BitVec 32 := 6#32
  let v5098 : Index := Scalar.indexCast c6_i32_3281
  let c7_i32_3282 : BitVec 32 := 7#32
  let v5099 : Index := Scalar.indexCast c7_i32_3282
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5100 : Index := Scalar.indexCast v9
  ![0, 6, 7, v5100.toNat]
def k0_off109 (i : grid0.Coords) : Fin 4 → Nat :=
  let c0_i32_3286 : BitVec 32 := 0#32
  let v5108 : Index := Scalar.indexCast c0_i32_3286
  let c6_i32_3287 : BitVec 32 := 6#32
  let v5109 : Index := Scalar.indexCast c6_i32_3287
  let c8_i32_3288 : BitVec 32 := 8#32
  let v5110 : Index := Scalar.indexCast c8_i32_3288
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5111 : Index := Scalar.indexCast v9
  ![0, 6, 8, v5111.toNat]
def k0_off110 (i : grid0.Coords) : Fin 4 → Nat :=
  let c0_i32_3292 : BitVec 32 := 0#32
  let v5119 : Index := Scalar.indexCast c0_i32_3292
  let c6_i32_3293 : BitVec 32 := 6#32
  let v5120 : Index := Scalar.indexCast c6_i32_3293
  let c9_i32_3294 : BitVec 32 := 9#32
  let v5121 : Index := Scalar.indexCast c9_i32_3294
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5122 : Index := Scalar.indexCast v9
  ![0, 6, 9, v5122.toNat]
def k0_off111 (i : grid0.Coords) : Fin 4 → Nat :=
  let c0_i32_3298 : BitVec 32 := 0#32
  let v5130 : Index := Scalar.indexCast c0_i32_3298
  let c6_i32_3299 : BitVec 32 := 6#32
  let v5131 : Index := Scalar.indexCast c6_i32_3299
  let c10_i32_3300 : BitVec 32 := 10#32
  let v5132 : Index := Scalar.indexCast c10_i32_3300
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5133 : Index := Scalar.indexCast v9
  ![0, 6, 10, v5133.toNat]
def k0_off112 (i : grid0.Coords) : Fin 4 → Nat :=
  let c0_i32_3304 : BitVec 32 := 0#32
  let v5141 : Index := Scalar.indexCast c0_i32_3304
  let c6_i32_3305 : BitVec 32 := 6#32
  let v5142 : Index := Scalar.indexCast c6_i32_3305
  let c11_i32_3306 : BitVec 32 := 11#32
  let v5143 : Index := Scalar.indexCast c11_i32_3306
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5144 : Index := Scalar.indexCast v9
  ![0, 6, 11, v5144.toNat]
def k0_off113 (i : grid0.Coords) : Fin 4 → Nat :=
  let c0_i32_3310 : BitVec 32 := 0#32
  let v5152 : Index := Scalar.indexCast c0_i32_3310
  let c6_i32_3311 : BitVec 32 := 6#32
  let v5153 : Index := Scalar.indexCast c6_i32_3311
  let c12_i32_3312 : BitVec 32 := 12#32
  let v5154 : Index := Scalar.indexCast c12_i32_3312
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5155 : Index := Scalar.indexCast v9
  ![0, 6, 12, v5155.toNat]
def k0_off114 (i : grid0.Coords) : Fin 4 → Nat :=
  let c0_i32_3316 : BitVec 32 := 0#32
  let v5163 : Index := Scalar.indexCast c0_i32_3316
  let c6_i32_3317 : BitVec 32 := 6#32
  let v5164 : Index := Scalar.indexCast c6_i32_3317
  let c13_i32_3318 : BitVec 32 := 13#32
  let v5165 : Index := Scalar.indexCast c13_i32_3318
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5166 : Index := Scalar.indexCast v9
  ![0, 6, 13, v5166.toNat]
def k0_off115 (i : grid0.Coords) : Fin 4 → Nat :=
  let c0_i32_3322 : BitVec 32 := 0#32
  let v5174 : Index := Scalar.indexCast c0_i32_3322
  let c6_i32_3323 : BitVec 32 := 6#32
  let v5175 : Index := Scalar.indexCast c6_i32_3323
  let c14_i32_3324 : BitVec 32 := 14#32
  let v5176 : Index := Scalar.indexCast c14_i32_3324
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5177 : Index := Scalar.indexCast v9
  ![0, 6, 14, v5177.toNat]
def k0_off116 (i : grid0.Coords) : Fin 4 → Nat :=
  let c0_i32_3328 : BitVec 32 := 0#32
  let v5185 : Index := Scalar.indexCast c0_i32_3328
  let c6_i32_3329 : BitVec 32 := 6#32
  let v5186 : Index := Scalar.indexCast c6_i32_3329
  let c15_i32_3330 : BitVec 32 := 15#32
  let v5187 : Index := Scalar.indexCast c15_i32_3330
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5188 : Index := Scalar.indexCast v9
  ![0, 6, 15, v5188.toNat]
def k0_off117 (i : grid0.Coords) : Fin 4 → Nat :=
  let c0_i32_3334 : BitVec 32 := 0#32
  let v5196 : Index := Scalar.indexCast c0_i32_3334
  let c7_i32_3335 : BitVec 32 := 7#32
  let v5197 : Index := Scalar.indexCast c7_i32_3335
  let c0_i32_3336 : BitVec 32 := 0#32
  let v5198 : Index := Scalar.indexCast c0_i32_3336
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5199 : Index := Scalar.indexCast v9
  ![0, 7, 0, v5199.toNat]
def k0_off118 (i : grid0.Coords) : Fin 4 → Nat :=
  let c0_i32_3340 : BitVec 32 := 0#32
  let v5207 : Index := Scalar.indexCast c0_i32_3340
  let c7_i32_3341 : BitVec 32 := 7#32
  let v5208 : Index := Scalar.indexCast c7_i32_3341
  let c1_i32_3342 : BitVec 32 := 1#32
  let v5209 : Index := Scalar.indexCast c1_i32_3342
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5210 : Index := Scalar.indexCast v9
  ![0, 7, 1, v5210.toNat]
def k0_off119 (i : grid0.Coords) : Fin 4 → Nat :=
  let c0_i32_3346 : BitVec 32 := 0#32
  let v5218 : Index := Scalar.indexCast c0_i32_3346
  let c7_i32_3347 : BitVec 32 := 7#32
  let v5219 : Index := Scalar.indexCast c7_i32_3347
  let c2_i32_3348 : BitVec 32 := 2#32
  let v5220 : Index := Scalar.indexCast c2_i32_3348
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5221 : Index := Scalar.indexCast v9
  ![0, 7, 2, v5221.toNat]
def k0_off120 (i : grid0.Coords) : Fin 4 → Nat :=
  let c0_i32_3352 : BitVec 32 := 0#32
  let v5229 : Index := Scalar.indexCast c0_i32_3352
  let c7_i32_3353 : BitVec 32 := 7#32
  let v5230 : Index := Scalar.indexCast c7_i32_3353
  let c3_i32_3354 : BitVec 32 := 3#32
  let v5231 : Index := Scalar.indexCast c3_i32_3354
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5232 : Index := Scalar.indexCast v9
  ![0, 7, 3, v5232.toNat]
def k0_off121 (i : grid0.Coords) : Fin 4 → Nat :=
  let c0_i32_3358 : BitVec 32 := 0#32
  let v5240 : Index := Scalar.indexCast c0_i32_3358
  let c7_i32_3359 : BitVec 32 := 7#32
  let v5241 : Index := Scalar.indexCast c7_i32_3359
  let c4_i32_3360 : BitVec 32 := 4#32
  let v5242 : Index := Scalar.indexCast c4_i32_3360
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5243 : Index := Scalar.indexCast v9
  ![0, 7, 4, v5243.toNat]
def k0_off122 (i : grid0.Coords) : Fin 4 → Nat :=
  let c0_i32_3364 : BitVec 32 := 0#32
  let v5251 : Index := Scalar.indexCast c0_i32_3364
  let c7_i32_3365 : BitVec 32 := 7#32
  let v5252 : Index := Scalar.indexCast c7_i32_3365
  let c5_i32_3366 : BitVec 32 := 5#32
  let v5253 : Index := Scalar.indexCast c5_i32_3366
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5254 : Index := Scalar.indexCast v9
  ![0, 7, 5, v5254.toNat]
def k0_off123 (i : grid0.Coords) : Fin 4 → Nat :=
  let c0_i32_3370 : BitVec 32 := 0#32
  let v5262 : Index := Scalar.indexCast c0_i32_3370
  let c7_i32_3371 : BitVec 32 := 7#32
  let v5263 : Index := Scalar.indexCast c7_i32_3371
  let c6_i32_3372 : BitVec 32 := 6#32
  let v5264 : Index := Scalar.indexCast c6_i32_3372
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5265 : Index := Scalar.indexCast v9
  ![0, 7, 6, v5265.toNat]
def k0_off124 (i : grid0.Coords) : Fin 4 → Nat :=
  let c0_i32_3376 : BitVec 32 := 0#32
  let v5273 : Index := Scalar.indexCast c0_i32_3376
  let c7_i32_3377 : BitVec 32 := 7#32
  let v5274 : Index := Scalar.indexCast c7_i32_3377
  let c7_i32_3378 : BitVec 32 := 7#32
  let v5275 : Index := Scalar.indexCast c7_i32_3378
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5276 : Index := Scalar.indexCast v9
  ![0, 7, 7, v5276.toNat]
def k0_off125 (i : grid0.Coords) : Fin 4 → Nat :=
  let c0_i32_3382 : BitVec 32 := 0#32
  let v5284 : Index := Scalar.indexCast c0_i32_3382
  let c7_i32_3383 : BitVec 32 := 7#32
  let v5285 : Index := Scalar.indexCast c7_i32_3383
  let c8_i32_3384 : BitVec 32 := 8#32
  let v5286 : Index := Scalar.indexCast c8_i32_3384
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5287 : Index := Scalar.indexCast v9
  ![0, 7, 8, v5287.toNat]
def k0_off126 (i : grid0.Coords) : Fin 4 → Nat :=
  let c0_i32_3388 : BitVec 32 := 0#32
  let v5295 : Index := Scalar.indexCast c0_i32_3388
  let c7_i32_3389 : BitVec 32 := 7#32
  let v5296 : Index := Scalar.indexCast c7_i32_3389
  let c9_i32_3390 : BitVec 32 := 9#32
  let v5297 : Index := Scalar.indexCast c9_i32_3390
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5298 : Index := Scalar.indexCast v9
  ![0, 7, 9, v5298.toNat]
def k0_off127 (i : grid0.Coords) : Fin 4 → Nat :=
  let c0_i32_3394 : BitVec 32 := 0#32
  let v5306 : Index := Scalar.indexCast c0_i32_3394
  let c7_i32_3395 : BitVec 32 := 7#32
  let v5307 : Index := Scalar.indexCast c7_i32_3395
  let c10_i32_3396 : BitVec 32 := 10#32
  let v5308 : Index := Scalar.indexCast c10_i32_3396
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5309 : Index := Scalar.indexCast v9
  ![0, 7, 10, v5309.toNat]
def k0_off128 (i : grid0.Coords) : Fin 4 → Nat :=
  let c0_i32_3400 : BitVec 32 := 0#32
  let v5317 : Index := Scalar.indexCast c0_i32_3400
  let c7_i32_3401 : BitVec 32 := 7#32
  let v5318 : Index := Scalar.indexCast c7_i32_3401
  let c11_i32_3402 : BitVec 32 := 11#32
  let v5319 : Index := Scalar.indexCast c11_i32_3402
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5320 : Index := Scalar.indexCast v9
  ![0, 7, 11, v5320.toNat]
def k0_off129 (i : grid0.Coords) : Fin 4 → Nat :=
  let c0_i32_3406 : BitVec 32 := 0#32
  let v5328 : Index := Scalar.indexCast c0_i32_3406
  let c7_i32_3407 : BitVec 32 := 7#32
  let v5329 : Index := Scalar.indexCast c7_i32_3407
  let c12_i32_3408 : BitVec 32 := 12#32
  let v5330 : Index := Scalar.indexCast c12_i32_3408
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5331 : Index := Scalar.indexCast v9
  ![0, 7, 12, v5331.toNat]
def k0_off130 (i : grid0.Coords) : Fin 4 → Nat :=
  let c0_i32_3412 : BitVec 32 := 0#32
  let v5339 : Index := Scalar.indexCast c0_i32_3412
  let c7_i32_3413 : BitVec 32 := 7#32
  let v5340 : Index := Scalar.indexCast c7_i32_3413
  let c13_i32_3414 : BitVec 32 := 13#32
  let v5341 : Index := Scalar.indexCast c13_i32_3414
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5342 : Index := Scalar.indexCast v9
  ![0, 7, 13, v5342.toNat]
def k0_off131 (i : grid0.Coords) : Fin 4 → Nat :=
  let c0_i32_3418 : BitVec 32 := 0#32
  let v5350 : Index := Scalar.indexCast c0_i32_3418
  let c7_i32_3419 : BitVec 32 := 7#32
  let v5351 : Index := Scalar.indexCast c7_i32_3419
  let c14_i32_3420 : BitVec 32 := 14#32
  let v5352 : Index := Scalar.indexCast c14_i32_3420
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5353 : Index := Scalar.indexCast v9
  ![0, 7, 14, v5353.toNat]
def k0_off132 (i : grid0.Coords) : Fin 4 → Nat :=
  let c0_i32_3424 : BitVec 32 := 0#32
  let v5361 : Index := Scalar.indexCast c0_i32_3424
  let c7_i32_3425 : BitVec 32 := 7#32
  let v5362 : Index := Scalar.indexCast c7_i32_3425
  let c15_i32_3426 : BitVec 32 := 15#32
  let v5363 : Index := Scalar.indexCast c15_i32_3426
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v5364 : Index := Scalar.indexCast v9
  ![0, 7, 15, v5364.toNat]
def k0_off133 (i : grid0.Coords) (k0_t1 : Fin k0_t1_loop.trips) (c0_i32_3431 : BitVec 32) (c0_i32_98 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_3430 : BitVec 32 := 4#32
  let v5372 : BitVec 32 := Scalar.muli v1 c4_i32_3430
  let v5373 : BitVec 32 := Scalar.addi v5372 c0_i32_3431
  let c0_i32_97 : BitVec 32 := 0#32
  let c0_i32_21 : BitVec 32 := 0#32
  let c1_i32_22 : BitVec 32 := 1#32
  let arg12 : BitVec 32 := Scf.iv c0_i32_21 c1_i32_22 k0_t1
  let c2_i32_96 : BitVec 32 := 2#32
  let v110 : BitVec 32 := Scalar.muli arg12 c2_i32_96
  let v111 : BitVec 32 := Scalar.addi c0_i32_97 v110
  let v112 : BitVec 32 := Scalar.addi v111 c0_i32_98
  let c0_i32_3435 : BitVec 32 := 0#32
  ![v5373.toNat, v112.toNat, 0]
def k0_cond2 (k0_t1 : Fin k0_t1_loop.trips) : BitVec 1 :=
  let c0_i32_97 : BitVec 32 := 0#32
  let c0_i32_21 : BitVec 32 := 0#32
  let c1_i32_22 : BitVec 32 := 1#32
  let arg12 : BitVec 32 := Scf.iv c0_i32_21 c1_i32_22 k0_t1
  let c2_i32_96 : BitVec 32 := 2#32
  let v110 : BitVec 32 := Scalar.muli arg12 c2_i32_96
  let v111 : BitVec 32 := Scalar.addi c0_i32_97 v110
  let c62_i32 : BitVec 32 := 62#32
  let v5412 : BitVec 1 := Scalar.cmpi .slt v111 c62_i32
  let v5413 : BitVec 32 := Scalar.extui v5412
  let c0_i32_3462 : BitVec 32 := 0#32
  let v5414 : BitVec 1 := Scalar.cmpi .ne v5413 c0_i32_3462
  v5414

def k0_off134 (i : grid0.Coords) (k0_t1 : Fin k0_t1_loop.trips) : Fin 4 → Nat :=
  let c0_i32_97 : BitVec 32 := 0#32
  let c0_i32_21 : BitVec 32 := 0#32
  let c1_i32_22 : BitVec 32 := 1#32
  let arg12 : BitVec 32 := Scf.iv c0_i32_21 c1_i32_22 k0_t1
  let c2_i32_96 : BitVec 32 := 2#32
  let v110 : BitVec 32 := Scalar.muli arg12 c2_i32_96
  let v111 : BitVec 32 := Scalar.addi c0_i32_97 v110
  let c0_i32_98 : BitVec 32 := 0#32
  let v112 : BitVec 32 := Scalar.addi v111 c0_i32_98
  let c2_i32_6964 : BitVec 32 := 2#32
  let v10718 : BitVec 32 := Scalar.addi v112 c2_i32_6964
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32 : BitVec 32 := 3#32
  let v2 : BitVec 32 := Scalar.shrsi v1 c3_i32
  let c8_i32 : BitVec 32 := 8#32
  let v3 : BitVec 32 := Scalar.muli v2 c8_i32
  let c7_i32 : BitVec 32 := 7#32
  let v4 : BitVec 32 := Scalar.andi v1 c7_i32
  let c16_i32_0 : BitVec 32 := 16#32
  let v5 : BitVec 32 := Scalar.muli v4 c16_i32_0
  let c0_i32_6969 : BitVec 32 := 0#32
  ![v10718.toNat, v3.toNat, v5.toNat, 0]
def k0_cond3 (k0_t1 : Fin k0_t1_loop.trips) : BitVec 1 :=
  let c0_i32_97 : BitVec 32 := 0#32
  let c0_i32_21 : BitVec 32 := 0#32
  let c1_i32_22 : BitVec 32 := 1#32
  let arg12 : BitVec 32 := Scf.iv c0_i32_21 c1_i32_22 k0_t1
  let c2_i32_96 : BitVec 32 := 2#32
  let v110 : BitVec 32 := Scalar.muli arg12 c2_i32_96
  let v111 : BitVec 32 := Scalar.addi c0_i32_97 v110
  let c2_i32_3473 : BitVec 32 := 2#32
  let v5424 : BitVec 1 := Scalar.cmpi .sge v111 c2_i32_3473
  let v5425 : BitVec 32 := Scalar.extui v5424
  let c0_i32_3474 : BitVec 32 := 0#32
  let v5426 : BitVec 1 := Scalar.cmpi .ne v5425 c0_i32_3474
  v5426

def k0_off135 (i : grid0.Coords) (k0_t1 : Fin k0_t1_loop.trips) (c0_i32_6965 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32_6964 : BitVec 32 := 4#32
  let v10718 : BitVec 32 := Scalar.muli v1 c4_i32_6964
  let v10719 : BitVec 32 := Scalar.addi v10718 c0_i32_6965
  let c0_i32_97 : BitVec 32 := 0#32
  let c0_i32_21 : BitVec 32 := 0#32
  let c1_i32_22 : BitVec 32 := 1#32
  let arg12 : BitVec 32 := Scf.iv c0_i32_21 c1_i32_22 k0_t1
  let c2_i32_96 : BitVec 32 := 2#32
  let v110 : BitVec 32 := Scalar.muli arg12 c2_i32_96
  let v111 : BitVec 32 := Scalar.addi c0_i32_97 v110
  let c1_i32_3463 : BitVec 32 := 1#32
  let v5415 : BitVec 32 := Scalar.addi v111 c1_i32_3463
  let c0_i32_6969 : BitVec 32 := 0#32
  ![v10719.toNat, v5415.toNat, 0]
def k0_off136 (i : grid0.Coords) : Fin 4 → Nat :=
  let c1_i32_6163 : BitVec 32 := 1#32
  let v9267 : Index := Scalar.indexCast c1_i32_6163
  let c0_i32_6164 : BitVec 32 := 0#32
  let v9268 : Index := Scalar.indexCast c0_i32_6164
  let c0_i32_6165 : BitVec 32 := 0#32
  let v9269 : Index := Scalar.indexCast c0_i32_6165
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9270 : Index := Scalar.indexCast v9
  ![1, 0, 0, v9270.toNat]
def k0_off137 (i : grid0.Coords) : Fin 4 → Nat :=
  let c1_i32_6169 : BitVec 32 := 1#32
  let v9278 : Index := Scalar.indexCast c1_i32_6169
  let c0_i32_6170 : BitVec 32 := 0#32
  let v9279 : Index := Scalar.indexCast c0_i32_6170
  let c1_i32_6171 : BitVec 32 := 1#32
  let v9280 : Index := Scalar.indexCast c1_i32_6171
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9281 : Index := Scalar.indexCast v9
  ![1, 0, 1, v9281.toNat]
def k0_off138 (i : grid0.Coords) : Fin 4 → Nat :=
  let c1_i32_6175 : BitVec 32 := 1#32
  let v9289 : Index := Scalar.indexCast c1_i32_6175
  let c0_i32_6176 : BitVec 32 := 0#32
  let v9290 : Index := Scalar.indexCast c0_i32_6176
  let c2_i32_6177 : BitVec 32 := 2#32
  let v9291 : Index := Scalar.indexCast c2_i32_6177
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9292 : Index := Scalar.indexCast v9
  ![1, 0, 2, v9292.toNat]
def k0_off139 (i : grid0.Coords) : Fin 4 → Nat :=
  let c1_i32_6181 : BitVec 32 := 1#32
  let v9300 : Index := Scalar.indexCast c1_i32_6181
  let c0_i32_6182 : BitVec 32 := 0#32
  let v9301 : Index := Scalar.indexCast c0_i32_6182
  let c3_i32_6183 : BitVec 32 := 3#32
  let v9302 : Index := Scalar.indexCast c3_i32_6183
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9303 : Index := Scalar.indexCast v9
  ![1, 0, 3, v9303.toNat]
def k0_off140 (i : grid0.Coords) : Fin 4 → Nat :=
  let c1_i32_6187 : BitVec 32 := 1#32
  let v9311 : Index := Scalar.indexCast c1_i32_6187
  let c0_i32_6188 : BitVec 32 := 0#32
  let v9312 : Index := Scalar.indexCast c0_i32_6188
  let c4_i32_6189 : BitVec 32 := 4#32
  let v9313 : Index := Scalar.indexCast c4_i32_6189
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9314 : Index := Scalar.indexCast v9
  ![1, 0, 4, v9314.toNat]
def k0_off141 (i : grid0.Coords) : Fin 4 → Nat :=
  let c1_i32_6193 : BitVec 32 := 1#32
  let v9322 : Index := Scalar.indexCast c1_i32_6193
  let c0_i32_6194 : BitVec 32 := 0#32
  let v9323 : Index := Scalar.indexCast c0_i32_6194
  let c5_i32_6195 : BitVec 32 := 5#32
  let v9324 : Index := Scalar.indexCast c5_i32_6195
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9325 : Index := Scalar.indexCast v9
  ![1, 0, 5, v9325.toNat]
def k0_off142 (i : grid0.Coords) : Fin 4 → Nat :=
  let c1_i32_6199 : BitVec 32 := 1#32
  let v9333 : Index := Scalar.indexCast c1_i32_6199
  let c0_i32_6200 : BitVec 32 := 0#32
  let v9334 : Index := Scalar.indexCast c0_i32_6200
  let c6_i32_6201 : BitVec 32 := 6#32
  let v9335 : Index := Scalar.indexCast c6_i32_6201
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9336 : Index := Scalar.indexCast v9
  ![1, 0, 6, v9336.toNat]
def k0_off143 (i : grid0.Coords) : Fin 4 → Nat :=
  let c1_i32_6205 : BitVec 32 := 1#32
  let v9344 : Index := Scalar.indexCast c1_i32_6205
  let c0_i32_6206 : BitVec 32 := 0#32
  let v9345 : Index := Scalar.indexCast c0_i32_6206
  let c7_i32_6207 : BitVec 32 := 7#32
  let v9346 : Index := Scalar.indexCast c7_i32_6207
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9347 : Index := Scalar.indexCast v9
  ![1, 0, 7, v9347.toNat]
def k0_off144 (i : grid0.Coords) : Fin 4 → Nat :=
  let c1_i32_6211 : BitVec 32 := 1#32
  let v9355 : Index := Scalar.indexCast c1_i32_6211
  let c0_i32_6212 : BitVec 32 := 0#32
  let v9356 : Index := Scalar.indexCast c0_i32_6212
  let c8_i32_6213 : BitVec 32 := 8#32
  let v9357 : Index := Scalar.indexCast c8_i32_6213
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9358 : Index := Scalar.indexCast v9
  ![1, 0, 8, v9358.toNat]
def k0_off145 (i : grid0.Coords) : Fin 4 → Nat :=
  let c1_i32_6217 : BitVec 32 := 1#32
  let v9366 : Index := Scalar.indexCast c1_i32_6217
  let c0_i32_6218 : BitVec 32 := 0#32
  let v9367 : Index := Scalar.indexCast c0_i32_6218
  let c9_i32_6219 : BitVec 32 := 9#32
  let v9368 : Index := Scalar.indexCast c9_i32_6219
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9369 : Index := Scalar.indexCast v9
  ![1, 0, 9, v9369.toNat]
def k0_off146 (i : grid0.Coords) : Fin 4 → Nat :=
  let c1_i32_6223 : BitVec 32 := 1#32
  let v9377 : Index := Scalar.indexCast c1_i32_6223
  let c0_i32_6224 : BitVec 32 := 0#32
  let v9378 : Index := Scalar.indexCast c0_i32_6224
  let c10_i32_6225 : BitVec 32 := 10#32
  let v9379 : Index := Scalar.indexCast c10_i32_6225
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9380 : Index := Scalar.indexCast v9
  ![1, 0, 10, v9380.toNat]
def k0_off147 (i : grid0.Coords) : Fin 4 → Nat :=
  let c1_i32_6229 : BitVec 32 := 1#32
  let v9388 : Index := Scalar.indexCast c1_i32_6229
  let c0_i32_6230 : BitVec 32 := 0#32
  let v9389 : Index := Scalar.indexCast c0_i32_6230
  let c11_i32_6231 : BitVec 32 := 11#32
  let v9390 : Index := Scalar.indexCast c11_i32_6231
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9391 : Index := Scalar.indexCast v9
  ![1, 0, 11, v9391.toNat]
def k0_off148 (i : grid0.Coords) : Fin 4 → Nat :=
  let c1_i32_6235 : BitVec 32 := 1#32
  let v9399 : Index := Scalar.indexCast c1_i32_6235
  let c0_i32_6236 : BitVec 32 := 0#32
  let v9400 : Index := Scalar.indexCast c0_i32_6236
  let c12_i32_6237 : BitVec 32 := 12#32
  let v9401 : Index := Scalar.indexCast c12_i32_6237
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9402 : Index := Scalar.indexCast v9
  ![1, 0, 12, v9402.toNat]
def k0_off149 (i : grid0.Coords) : Fin 4 → Nat :=
  let c1_i32_6241 : BitVec 32 := 1#32
  let v9410 : Index := Scalar.indexCast c1_i32_6241
  let c0_i32_6242 : BitVec 32 := 0#32
  let v9411 : Index := Scalar.indexCast c0_i32_6242
  let c13_i32_6243 : BitVec 32 := 13#32
  let v9412 : Index := Scalar.indexCast c13_i32_6243
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9413 : Index := Scalar.indexCast v9
  ![1, 0, 13, v9413.toNat]
def k0_off150 (i : grid0.Coords) : Fin 4 → Nat :=
  let c1_i32_6247 : BitVec 32 := 1#32
  let v9421 : Index := Scalar.indexCast c1_i32_6247
  let c0_i32_6248 : BitVec 32 := 0#32
  let v9422 : Index := Scalar.indexCast c0_i32_6248
  let c14_i32_6249 : BitVec 32 := 14#32
  let v9423 : Index := Scalar.indexCast c14_i32_6249
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9424 : Index := Scalar.indexCast v9
  ![1, 0, 14, v9424.toNat]
def k0_off151 (i : grid0.Coords) : Fin 4 → Nat :=
  let c1_i32_6253 : BitVec 32 := 1#32
  let v9432 : Index := Scalar.indexCast c1_i32_6253
  let c0_i32_6254 : BitVec 32 := 0#32
  let v9433 : Index := Scalar.indexCast c0_i32_6254
  let c15_i32_6255 : BitVec 32 := 15#32
  let v9434 : Index := Scalar.indexCast c15_i32_6255
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9435 : Index := Scalar.indexCast v9
  ![1, 0, 15, v9435.toNat]
def k0_off152 (i : grid0.Coords) : Fin 4 → Nat :=
  let c1_i32_6259 : BitVec 32 := 1#32
  let v9443 : Index := Scalar.indexCast c1_i32_6259
  let c1_i32_6260 : BitVec 32 := 1#32
  let v9444 : Index := Scalar.indexCast c1_i32_6260
  let c0_i32_6261 : BitVec 32 := 0#32
  let v9445 : Index := Scalar.indexCast c0_i32_6261
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9446 : Index := Scalar.indexCast v9
  ![1, 1, 0, v9446.toNat]
def k0_off153 (i : grid0.Coords) : Fin 4 → Nat :=
  let c1_i32_6265 : BitVec 32 := 1#32
  let v9454 : Index := Scalar.indexCast c1_i32_6265
  let c1_i32_6266 : BitVec 32 := 1#32
  let v9455 : Index := Scalar.indexCast c1_i32_6266
  let c1_i32_6267 : BitVec 32 := 1#32
  let v9456 : Index := Scalar.indexCast c1_i32_6267
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9457 : Index := Scalar.indexCast v9
  ![1, 1, 1, v9457.toNat]
def k0_off154 (i : grid0.Coords) : Fin 4 → Nat :=
  let c1_i32_6271 : BitVec 32 := 1#32
  let v9465 : Index := Scalar.indexCast c1_i32_6271
  let c1_i32_6272 : BitVec 32 := 1#32
  let v9466 : Index := Scalar.indexCast c1_i32_6272
  let c2_i32_6273 : BitVec 32 := 2#32
  let v9467 : Index := Scalar.indexCast c2_i32_6273
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9468 : Index := Scalar.indexCast v9
  ![1, 1, 2, v9468.toNat]
def k0_off155 (i : grid0.Coords) : Fin 4 → Nat :=
  let c1_i32_6277 : BitVec 32 := 1#32
  let v9476 : Index := Scalar.indexCast c1_i32_6277
  let c1_i32_6278 : BitVec 32 := 1#32
  let v9477 : Index := Scalar.indexCast c1_i32_6278
  let c3_i32_6279 : BitVec 32 := 3#32
  let v9478 : Index := Scalar.indexCast c3_i32_6279
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9479 : Index := Scalar.indexCast v9
  ![1, 1, 3, v9479.toNat]
def k0_off156 (i : grid0.Coords) : Fin 4 → Nat :=
  let c1_i32_6283 : BitVec 32 := 1#32
  let v9487 : Index := Scalar.indexCast c1_i32_6283
  let c1_i32_6284 : BitVec 32 := 1#32
  let v9488 : Index := Scalar.indexCast c1_i32_6284
  let c4_i32_6285 : BitVec 32 := 4#32
  let v9489 : Index := Scalar.indexCast c4_i32_6285
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9490 : Index := Scalar.indexCast v9
  ![1, 1, 4, v9490.toNat]
def k0_off157 (i : grid0.Coords) : Fin 4 → Nat :=
  let c1_i32_6289 : BitVec 32 := 1#32
  let v9498 : Index := Scalar.indexCast c1_i32_6289
  let c1_i32_6290 : BitVec 32 := 1#32
  let v9499 : Index := Scalar.indexCast c1_i32_6290
  let c5_i32_6291 : BitVec 32 := 5#32
  let v9500 : Index := Scalar.indexCast c5_i32_6291
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9501 : Index := Scalar.indexCast v9
  ![1, 1, 5, v9501.toNat]
def k0_off158 (i : grid0.Coords) : Fin 4 → Nat :=
  let c1_i32_6295 : BitVec 32 := 1#32
  let v9509 : Index := Scalar.indexCast c1_i32_6295
  let c1_i32_6296 : BitVec 32 := 1#32
  let v9510 : Index := Scalar.indexCast c1_i32_6296
  let c6_i32_6297 : BitVec 32 := 6#32
  let v9511 : Index := Scalar.indexCast c6_i32_6297
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9512 : Index := Scalar.indexCast v9
  ![1, 1, 6, v9512.toNat]
def k0_off159 (i : grid0.Coords) : Fin 4 → Nat :=
  let c1_i32_6301 : BitVec 32 := 1#32
  let v9520 : Index := Scalar.indexCast c1_i32_6301
  let c1_i32_6302 : BitVec 32 := 1#32
  let v9521 : Index := Scalar.indexCast c1_i32_6302
  let c7_i32_6303 : BitVec 32 := 7#32
  let v9522 : Index := Scalar.indexCast c7_i32_6303
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9523 : Index := Scalar.indexCast v9
  ![1, 1, 7, v9523.toNat]
def k0_off160 (i : grid0.Coords) : Fin 4 → Nat :=
  let c1_i32_6307 : BitVec 32 := 1#32
  let v9531 : Index := Scalar.indexCast c1_i32_6307
  let c1_i32_6308 : BitVec 32 := 1#32
  let v9532 : Index := Scalar.indexCast c1_i32_6308
  let c8_i32_6309 : BitVec 32 := 8#32
  let v9533 : Index := Scalar.indexCast c8_i32_6309
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9534 : Index := Scalar.indexCast v9
  ![1, 1, 8, v9534.toNat]
def k0_off161 (i : grid0.Coords) : Fin 4 → Nat :=
  let c1_i32_6313 : BitVec 32 := 1#32
  let v9542 : Index := Scalar.indexCast c1_i32_6313
  let c1_i32_6314 : BitVec 32 := 1#32
  let v9543 : Index := Scalar.indexCast c1_i32_6314
  let c9_i32_6315 : BitVec 32 := 9#32
  let v9544 : Index := Scalar.indexCast c9_i32_6315
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9545 : Index := Scalar.indexCast v9
  ![1, 1, 9, v9545.toNat]
def k0_off162 (i : grid0.Coords) : Fin 4 → Nat :=
  let c1_i32_6319 : BitVec 32 := 1#32
  let v9553 : Index := Scalar.indexCast c1_i32_6319
  let c1_i32_6320 : BitVec 32 := 1#32
  let v9554 : Index := Scalar.indexCast c1_i32_6320
  let c10_i32_6321 : BitVec 32 := 10#32
  let v9555 : Index := Scalar.indexCast c10_i32_6321
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9556 : Index := Scalar.indexCast v9
  ![1, 1, 10, v9556.toNat]
def k0_off163 (i : grid0.Coords) : Fin 4 → Nat :=
  let c1_i32_6325 : BitVec 32 := 1#32
  let v9564 : Index := Scalar.indexCast c1_i32_6325
  let c1_i32_6326 : BitVec 32 := 1#32
  let v9565 : Index := Scalar.indexCast c1_i32_6326
  let c11_i32_6327 : BitVec 32 := 11#32
  let v9566 : Index := Scalar.indexCast c11_i32_6327
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9567 : Index := Scalar.indexCast v9
  ![1, 1, 11, v9567.toNat]
def k0_off164 (i : grid0.Coords) : Fin 4 → Nat :=
  let c1_i32_6331 : BitVec 32 := 1#32
  let v9575 : Index := Scalar.indexCast c1_i32_6331
  let c1_i32_6332 : BitVec 32 := 1#32
  let v9576 : Index := Scalar.indexCast c1_i32_6332
  let c12_i32_6333 : BitVec 32 := 12#32
  let v9577 : Index := Scalar.indexCast c12_i32_6333
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9578 : Index := Scalar.indexCast v9
  ![1, 1, 12, v9578.toNat]
def k0_off165 (i : grid0.Coords) : Fin 4 → Nat :=
  let c1_i32_6337 : BitVec 32 := 1#32
  let v9586 : Index := Scalar.indexCast c1_i32_6337
  let c1_i32_6338 : BitVec 32 := 1#32
  let v9587 : Index := Scalar.indexCast c1_i32_6338
  let c13_i32_6339 : BitVec 32 := 13#32
  let v9588 : Index := Scalar.indexCast c13_i32_6339
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9589 : Index := Scalar.indexCast v9
  ![1, 1, 13, v9589.toNat]
def k0_off166 (i : grid0.Coords) : Fin 4 → Nat :=
  let c1_i32_6343 : BitVec 32 := 1#32
  let v9597 : Index := Scalar.indexCast c1_i32_6343
  let c1_i32_6344 : BitVec 32 := 1#32
  let v9598 : Index := Scalar.indexCast c1_i32_6344
  let c14_i32_6345 : BitVec 32 := 14#32
  let v9599 : Index := Scalar.indexCast c14_i32_6345
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9600 : Index := Scalar.indexCast v9
  ![1, 1, 14, v9600.toNat]
def k0_off167 (i : grid0.Coords) : Fin 4 → Nat :=
  let c1_i32_6349 : BitVec 32 := 1#32
  let v9608 : Index := Scalar.indexCast c1_i32_6349
  let c1_i32_6350 : BitVec 32 := 1#32
  let v9609 : Index := Scalar.indexCast c1_i32_6350
  let c15_i32_6351 : BitVec 32 := 15#32
  let v9610 : Index := Scalar.indexCast c15_i32_6351
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9611 : Index := Scalar.indexCast v9
  ![1, 1, 15, v9611.toNat]
def k0_off168 (i : grid0.Coords) : Fin 4 → Nat :=
  let c1_i32_6355 : BitVec 32 := 1#32
  let v9619 : Index := Scalar.indexCast c1_i32_6355
  let c2_i32_6356 : BitVec 32 := 2#32
  let v9620 : Index := Scalar.indexCast c2_i32_6356
  let c0_i32_6357 : BitVec 32 := 0#32
  let v9621 : Index := Scalar.indexCast c0_i32_6357
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9622 : Index := Scalar.indexCast v9
  ![1, 2, 0, v9622.toNat]
def k0_off169 (i : grid0.Coords) : Fin 4 → Nat :=
  let c1_i32_6361 : BitVec 32 := 1#32
  let v9630 : Index := Scalar.indexCast c1_i32_6361
  let c2_i32_6362 : BitVec 32 := 2#32
  let v9631 : Index := Scalar.indexCast c2_i32_6362
  let c1_i32_6363 : BitVec 32 := 1#32
  let v9632 : Index := Scalar.indexCast c1_i32_6363
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9633 : Index := Scalar.indexCast v9
  ![1, 2, 1, v9633.toNat]
def k0_off170 (i : grid0.Coords) : Fin 4 → Nat :=
  let c1_i32_6367 : BitVec 32 := 1#32
  let v9641 : Index := Scalar.indexCast c1_i32_6367
  let c2_i32_6368 : BitVec 32 := 2#32
  let v9642 : Index := Scalar.indexCast c2_i32_6368
  let c2_i32_6369 : BitVec 32 := 2#32
  let v9643 : Index := Scalar.indexCast c2_i32_6369
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9644 : Index := Scalar.indexCast v9
  ![1, 2, 2, v9644.toNat]
def k0_off171 (i : grid0.Coords) : Fin 4 → Nat :=
  let c1_i32_6373 : BitVec 32 := 1#32
  let v9652 : Index := Scalar.indexCast c1_i32_6373
  let c2_i32_6374 : BitVec 32 := 2#32
  let v9653 : Index := Scalar.indexCast c2_i32_6374
  let c3_i32_6375 : BitVec 32 := 3#32
  let v9654 : Index := Scalar.indexCast c3_i32_6375
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9655 : Index := Scalar.indexCast v9
  ![1, 2, 3, v9655.toNat]
def k0_off172 (i : grid0.Coords) : Fin 4 → Nat :=
  let c1_i32_6379 : BitVec 32 := 1#32
  let v9663 : Index := Scalar.indexCast c1_i32_6379
  let c2_i32_6380 : BitVec 32 := 2#32
  let v9664 : Index := Scalar.indexCast c2_i32_6380
  let c4_i32_6381 : BitVec 32 := 4#32
  let v9665 : Index := Scalar.indexCast c4_i32_6381
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9666 : Index := Scalar.indexCast v9
  ![1, 2, 4, v9666.toNat]
def k0_off173 (i : grid0.Coords) : Fin 4 → Nat :=
  let c1_i32_6385 : BitVec 32 := 1#32
  let v9674 : Index := Scalar.indexCast c1_i32_6385
  let c2_i32_6386 : BitVec 32 := 2#32
  let v9675 : Index := Scalar.indexCast c2_i32_6386
  let c5_i32_6387 : BitVec 32 := 5#32
  let v9676 : Index := Scalar.indexCast c5_i32_6387
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9677 : Index := Scalar.indexCast v9
  ![1, 2, 5, v9677.toNat]
def k0_off174 (i : grid0.Coords) : Fin 4 → Nat :=
  let c1_i32_6391 : BitVec 32 := 1#32
  let v9685 : Index := Scalar.indexCast c1_i32_6391
  let c2_i32_6392 : BitVec 32 := 2#32
  let v9686 : Index := Scalar.indexCast c2_i32_6392
  let c6_i32_6393 : BitVec 32 := 6#32
  let v9687 : Index := Scalar.indexCast c6_i32_6393
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9688 : Index := Scalar.indexCast v9
  ![1, 2, 6, v9688.toNat]
def k0_off175 (i : grid0.Coords) : Fin 4 → Nat :=
  let c1_i32_6397 : BitVec 32 := 1#32
  let v9696 : Index := Scalar.indexCast c1_i32_6397
  let c2_i32_6398 : BitVec 32 := 2#32
  let v9697 : Index := Scalar.indexCast c2_i32_6398
  let c7_i32_6399 : BitVec 32 := 7#32
  let v9698 : Index := Scalar.indexCast c7_i32_6399
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9699 : Index := Scalar.indexCast v9
  ![1, 2, 7, v9699.toNat]
def k0_off176 (i : grid0.Coords) : Fin 4 → Nat :=
  let c1_i32_6403 : BitVec 32 := 1#32
  let v9707 : Index := Scalar.indexCast c1_i32_6403
  let c2_i32_6404 : BitVec 32 := 2#32
  let v9708 : Index := Scalar.indexCast c2_i32_6404
  let c8_i32_6405 : BitVec 32 := 8#32
  let v9709 : Index := Scalar.indexCast c8_i32_6405
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9710 : Index := Scalar.indexCast v9
  ![1, 2, 8, v9710.toNat]
def k0_off177 (i : grid0.Coords) : Fin 4 → Nat :=
  let c1_i32_6409 : BitVec 32 := 1#32
  let v9718 : Index := Scalar.indexCast c1_i32_6409
  let c2_i32_6410 : BitVec 32 := 2#32
  let v9719 : Index := Scalar.indexCast c2_i32_6410
  let c9_i32_6411 : BitVec 32 := 9#32
  let v9720 : Index := Scalar.indexCast c9_i32_6411
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9721 : Index := Scalar.indexCast v9
  ![1, 2, 9, v9721.toNat]
def k0_off178 (i : grid0.Coords) : Fin 4 → Nat :=
  let c1_i32_6415 : BitVec 32 := 1#32
  let v9729 : Index := Scalar.indexCast c1_i32_6415
  let c2_i32_6416 : BitVec 32 := 2#32
  let v9730 : Index := Scalar.indexCast c2_i32_6416
  let c10_i32_6417 : BitVec 32 := 10#32
  let v9731 : Index := Scalar.indexCast c10_i32_6417
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9732 : Index := Scalar.indexCast v9
  ![1, 2, 10, v9732.toNat]
def k0_off179 (i : grid0.Coords) : Fin 4 → Nat :=
  let c1_i32_6421 : BitVec 32 := 1#32
  let v9740 : Index := Scalar.indexCast c1_i32_6421
  let c2_i32_6422 : BitVec 32 := 2#32
  let v9741 : Index := Scalar.indexCast c2_i32_6422
  let c11_i32_6423 : BitVec 32 := 11#32
  let v9742 : Index := Scalar.indexCast c11_i32_6423
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9743 : Index := Scalar.indexCast v9
  ![1, 2, 11, v9743.toNat]
def k0_off180 (i : grid0.Coords) : Fin 4 → Nat :=
  let c1_i32_6427 : BitVec 32 := 1#32
  let v9751 : Index := Scalar.indexCast c1_i32_6427
  let c2_i32_6428 : BitVec 32 := 2#32
  let v9752 : Index := Scalar.indexCast c2_i32_6428
  let c12_i32_6429 : BitVec 32 := 12#32
  let v9753 : Index := Scalar.indexCast c12_i32_6429
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9754 : Index := Scalar.indexCast v9
  ![1, 2, 12, v9754.toNat]
def k0_off181 (i : grid0.Coords) : Fin 4 → Nat :=
  let c1_i32_6433 : BitVec 32 := 1#32
  let v9762 : Index := Scalar.indexCast c1_i32_6433
  let c2_i32_6434 : BitVec 32 := 2#32
  let v9763 : Index := Scalar.indexCast c2_i32_6434
  let c13_i32_6435 : BitVec 32 := 13#32
  let v9764 : Index := Scalar.indexCast c13_i32_6435
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9765 : Index := Scalar.indexCast v9
  ![1, 2, 13, v9765.toNat]
def k0_off182 (i : grid0.Coords) : Fin 4 → Nat :=
  let c1_i32_6439 : BitVec 32 := 1#32
  let v9773 : Index := Scalar.indexCast c1_i32_6439
  let c2_i32_6440 : BitVec 32 := 2#32
  let v9774 : Index := Scalar.indexCast c2_i32_6440
  let c14_i32_6441 : BitVec 32 := 14#32
  let v9775 : Index := Scalar.indexCast c14_i32_6441
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9776 : Index := Scalar.indexCast v9
  ![1, 2, 14, v9776.toNat]
def k0_off183 (i : grid0.Coords) : Fin 4 → Nat :=
  let c1_i32_6445 : BitVec 32 := 1#32
  let v9784 : Index := Scalar.indexCast c1_i32_6445
  let c2_i32_6446 : BitVec 32 := 2#32
  let v9785 : Index := Scalar.indexCast c2_i32_6446
  let c15_i32_6447 : BitVec 32 := 15#32
  let v9786 : Index := Scalar.indexCast c15_i32_6447
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9787 : Index := Scalar.indexCast v9
  ![1, 2, 15, v9787.toNat]
def k0_off184 (i : grid0.Coords) : Fin 4 → Nat :=
  let c1_i32_6451 : BitVec 32 := 1#32
  let v9795 : Index := Scalar.indexCast c1_i32_6451
  let c3_i32_6452 : BitVec 32 := 3#32
  let v9796 : Index := Scalar.indexCast c3_i32_6452
  let c0_i32_6453 : BitVec 32 := 0#32
  let v9797 : Index := Scalar.indexCast c0_i32_6453
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9798 : Index := Scalar.indexCast v9
  ![1, 3, 0, v9798.toNat]
def k0_off185 (i : grid0.Coords) : Fin 4 → Nat :=
  let c1_i32_6457 : BitVec 32 := 1#32
  let v9806 : Index := Scalar.indexCast c1_i32_6457
  let c3_i32_6458 : BitVec 32 := 3#32
  let v9807 : Index := Scalar.indexCast c3_i32_6458
  let c1_i32_6459 : BitVec 32 := 1#32
  let v9808 : Index := Scalar.indexCast c1_i32_6459
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9809 : Index := Scalar.indexCast v9
  ![1, 3, 1, v9809.toNat]
def k0_off186 (i : grid0.Coords) : Fin 4 → Nat :=
  let c1_i32_6463 : BitVec 32 := 1#32
  let v9817 : Index := Scalar.indexCast c1_i32_6463
  let c3_i32_6464 : BitVec 32 := 3#32
  let v9818 : Index := Scalar.indexCast c3_i32_6464
  let c2_i32_6465 : BitVec 32 := 2#32
  let v9819 : Index := Scalar.indexCast c2_i32_6465
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9820 : Index := Scalar.indexCast v9
  ![1, 3, 2, v9820.toNat]
def k0_off187 (i : grid0.Coords) : Fin 4 → Nat :=
  let c1_i32_6469 : BitVec 32 := 1#32
  let v9828 : Index := Scalar.indexCast c1_i32_6469
  let c3_i32_6470 : BitVec 32 := 3#32
  let v9829 : Index := Scalar.indexCast c3_i32_6470
  let c3_i32_6471 : BitVec 32 := 3#32
  let v9830 : Index := Scalar.indexCast c3_i32_6471
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9831 : Index := Scalar.indexCast v9
  ![1, 3, 3, v9831.toNat]
def k0_off188 (i : grid0.Coords) : Fin 4 → Nat :=
  let c1_i32_6475 : BitVec 32 := 1#32
  let v9839 : Index := Scalar.indexCast c1_i32_6475
  let c3_i32_6476 : BitVec 32 := 3#32
  let v9840 : Index := Scalar.indexCast c3_i32_6476
  let c4_i32_6477 : BitVec 32 := 4#32
  let v9841 : Index := Scalar.indexCast c4_i32_6477
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9842 : Index := Scalar.indexCast v9
  ![1, 3, 4, v9842.toNat]
def k0_off189 (i : grid0.Coords) : Fin 4 → Nat :=
  let c1_i32_6481 : BitVec 32 := 1#32
  let v9850 : Index := Scalar.indexCast c1_i32_6481
  let c3_i32_6482 : BitVec 32 := 3#32
  let v9851 : Index := Scalar.indexCast c3_i32_6482
  let c5_i32_6483 : BitVec 32 := 5#32
  let v9852 : Index := Scalar.indexCast c5_i32_6483
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9853 : Index := Scalar.indexCast v9
  ![1, 3, 5, v9853.toNat]
def k0_off190 (i : grid0.Coords) : Fin 4 → Nat :=
  let c1_i32_6487 : BitVec 32 := 1#32
  let v9861 : Index := Scalar.indexCast c1_i32_6487
  let c3_i32_6488 : BitVec 32 := 3#32
  let v9862 : Index := Scalar.indexCast c3_i32_6488
  let c6_i32_6489 : BitVec 32 := 6#32
  let v9863 : Index := Scalar.indexCast c6_i32_6489
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9864 : Index := Scalar.indexCast v9
  ![1, 3, 6, v9864.toNat]
def k0_off191 (i : grid0.Coords) : Fin 4 → Nat :=
  let c1_i32_6493 : BitVec 32 := 1#32
  let v9872 : Index := Scalar.indexCast c1_i32_6493
  let c3_i32_6494 : BitVec 32 := 3#32
  let v9873 : Index := Scalar.indexCast c3_i32_6494
  let c7_i32_6495 : BitVec 32 := 7#32
  let v9874 : Index := Scalar.indexCast c7_i32_6495
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9875 : Index := Scalar.indexCast v9
  ![1, 3, 7, v9875.toNat]
def k0_off192 (i : grid0.Coords) : Fin 4 → Nat :=
  let c1_i32_6499 : BitVec 32 := 1#32
  let v9883 : Index := Scalar.indexCast c1_i32_6499
  let c3_i32_6500 : BitVec 32 := 3#32
  let v9884 : Index := Scalar.indexCast c3_i32_6500
  let c8_i32_6501 : BitVec 32 := 8#32
  let v9885 : Index := Scalar.indexCast c8_i32_6501
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9886 : Index := Scalar.indexCast v9
  ![1, 3, 8, v9886.toNat]
def k0_off193 (i : grid0.Coords) : Fin 4 → Nat :=
  let c1_i32_6505 : BitVec 32 := 1#32
  let v9894 : Index := Scalar.indexCast c1_i32_6505
  let c3_i32_6506 : BitVec 32 := 3#32
  let v9895 : Index := Scalar.indexCast c3_i32_6506
  let c9_i32_6507 : BitVec 32 := 9#32
  let v9896 : Index := Scalar.indexCast c9_i32_6507
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9897 : Index := Scalar.indexCast v9
  ![1, 3, 9, v9897.toNat]
def k0_off194 (i : grid0.Coords) : Fin 4 → Nat :=
  let c1_i32_6511 : BitVec 32 := 1#32
  let v9905 : Index := Scalar.indexCast c1_i32_6511
  let c3_i32_6512 : BitVec 32 := 3#32
  let v9906 : Index := Scalar.indexCast c3_i32_6512
  let c10_i32_6513 : BitVec 32 := 10#32
  let v9907 : Index := Scalar.indexCast c10_i32_6513
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9908 : Index := Scalar.indexCast v9
  ![1, 3, 10, v9908.toNat]
def k0_off195 (i : grid0.Coords) : Fin 4 → Nat :=
  let c1_i32_6517 : BitVec 32 := 1#32
  let v9916 : Index := Scalar.indexCast c1_i32_6517
  let c3_i32_6518 : BitVec 32 := 3#32
  let v9917 : Index := Scalar.indexCast c3_i32_6518
  let c11_i32_6519 : BitVec 32 := 11#32
  let v9918 : Index := Scalar.indexCast c11_i32_6519
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9919 : Index := Scalar.indexCast v9
  ![1, 3, 11, v9919.toNat]
def k0_off196 (i : grid0.Coords) : Fin 4 → Nat :=
  let c1_i32_6523 : BitVec 32 := 1#32
  let v9927 : Index := Scalar.indexCast c1_i32_6523
  let c3_i32_6524 : BitVec 32 := 3#32
  let v9928 : Index := Scalar.indexCast c3_i32_6524
  let c12_i32_6525 : BitVec 32 := 12#32
  let v9929 : Index := Scalar.indexCast c12_i32_6525
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9930 : Index := Scalar.indexCast v9
  ![1, 3, 12, v9930.toNat]
def k0_off197 (i : grid0.Coords) : Fin 4 → Nat :=
  let c1_i32_6529 : BitVec 32 := 1#32
  let v9938 : Index := Scalar.indexCast c1_i32_6529
  let c3_i32_6530 : BitVec 32 := 3#32
  let v9939 : Index := Scalar.indexCast c3_i32_6530
  let c13_i32_6531 : BitVec 32 := 13#32
  let v9940 : Index := Scalar.indexCast c13_i32_6531
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9941 : Index := Scalar.indexCast v9
  ![1, 3, 13, v9941.toNat]
def k0_off198 (i : grid0.Coords) : Fin 4 → Nat :=
  let c1_i32_6535 : BitVec 32 := 1#32
  let v9949 : Index := Scalar.indexCast c1_i32_6535
  let c3_i32_6536 : BitVec 32 := 3#32
  let v9950 : Index := Scalar.indexCast c3_i32_6536
  let c14_i32_6537 : BitVec 32 := 14#32
  let v9951 : Index := Scalar.indexCast c14_i32_6537
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9952 : Index := Scalar.indexCast v9
  ![1, 3, 14, v9952.toNat]
def k0_off199 (i : grid0.Coords) : Fin 4 → Nat :=
  let c1_i32_6541 : BitVec 32 := 1#32
  let v9960 : Index := Scalar.indexCast c1_i32_6541
  let c3_i32_6542 : BitVec 32 := 3#32
  let v9961 : Index := Scalar.indexCast c3_i32_6542
  let c15_i32_6543 : BitVec 32 := 15#32
  let v9962 : Index := Scalar.indexCast c15_i32_6543
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9963 : Index := Scalar.indexCast v9
  ![1, 3, 15, v9963.toNat]
def k0_off200 (i : grid0.Coords) : Fin 4 → Nat :=
  let c1_i32_6547 : BitVec 32 := 1#32
  let v9971 : Index := Scalar.indexCast c1_i32_6547
  let c4_i32_6548 : BitVec 32 := 4#32
  let v9972 : Index := Scalar.indexCast c4_i32_6548
  let c0_i32_6549 : BitVec 32 := 0#32
  let v9973 : Index := Scalar.indexCast c0_i32_6549
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9974 : Index := Scalar.indexCast v9
  ![1, 4, 0, v9974.toNat]
def k0_off201 (i : grid0.Coords) : Fin 4 → Nat :=
  let c1_i32_6553 : BitVec 32 := 1#32
  let v9982 : Index := Scalar.indexCast c1_i32_6553
  let c4_i32_6554 : BitVec 32 := 4#32
  let v9983 : Index := Scalar.indexCast c4_i32_6554
  let c1_i32_6555 : BitVec 32 := 1#32
  let v9984 : Index := Scalar.indexCast c1_i32_6555
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9985 : Index := Scalar.indexCast v9
  ![1, 4, 1, v9985.toNat]
def k0_off202 (i : grid0.Coords) : Fin 4 → Nat :=
  let c1_i32_6559 : BitVec 32 := 1#32
  let v9993 : Index := Scalar.indexCast c1_i32_6559
  let c4_i32_6560 : BitVec 32 := 4#32
  let v9994 : Index := Scalar.indexCast c4_i32_6560
  let c2_i32_6561 : BitVec 32 := 2#32
  let v9995 : Index := Scalar.indexCast c2_i32_6561
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v9996 : Index := Scalar.indexCast v9
  ![1, 4, 2, v9996.toNat]
def k0_off203 (i : grid0.Coords) : Fin 4 → Nat :=
  let c1_i32_6565 : BitVec 32 := 1#32
  let v10004 : Index := Scalar.indexCast c1_i32_6565
  let c4_i32_6566 : BitVec 32 := 4#32
  let v10005 : Index := Scalar.indexCast c4_i32_6566
  let c3_i32_6567 : BitVec 32 := 3#32
  let v10006 : Index := Scalar.indexCast c3_i32_6567
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10007 : Index := Scalar.indexCast v9
  ![1, 4, 3, v10007.toNat]
def k0_off204 (i : grid0.Coords) : Fin 4 → Nat :=
  let c1_i32_6571 : BitVec 32 := 1#32
  let v10015 : Index := Scalar.indexCast c1_i32_6571
  let c4_i32_6572 : BitVec 32 := 4#32
  let v10016 : Index := Scalar.indexCast c4_i32_6572
  let c4_i32_6573 : BitVec 32 := 4#32
  let v10017 : Index := Scalar.indexCast c4_i32_6573
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10018 : Index := Scalar.indexCast v9
  ![1, 4, 4, v10018.toNat]
def k0_off205 (i : grid0.Coords) : Fin 4 → Nat :=
  let c1_i32_6577 : BitVec 32 := 1#32
  let v10026 : Index := Scalar.indexCast c1_i32_6577
  let c4_i32_6578 : BitVec 32 := 4#32
  let v10027 : Index := Scalar.indexCast c4_i32_6578
  let c5_i32_6579 : BitVec 32 := 5#32
  let v10028 : Index := Scalar.indexCast c5_i32_6579
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10029 : Index := Scalar.indexCast v9
  ![1, 4, 5, v10029.toNat]
def k0_off206 (i : grid0.Coords) : Fin 4 → Nat :=
  let c1_i32_6583 : BitVec 32 := 1#32
  let v10037 : Index := Scalar.indexCast c1_i32_6583
  let c4_i32_6584 : BitVec 32 := 4#32
  let v10038 : Index := Scalar.indexCast c4_i32_6584
  let c6_i32_6585 : BitVec 32 := 6#32
  let v10039 : Index := Scalar.indexCast c6_i32_6585
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10040 : Index := Scalar.indexCast v9
  ![1, 4, 6, v10040.toNat]
def k0_off207 (i : grid0.Coords) : Fin 4 → Nat :=
  let c1_i32_6589 : BitVec 32 := 1#32
  let v10048 : Index := Scalar.indexCast c1_i32_6589
  let c4_i32_6590 : BitVec 32 := 4#32
  let v10049 : Index := Scalar.indexCast c4_i32_6590
  let c7_i32_6591 : BitVec 32 := 7#32
  let v10050 : Index := Scalar.indexCast c7_i32_6591
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10051 : Index := Scalar.indexCast v9
  ![1, 4, 7, v10051.toNat]
def k0_off208 (i : grid0.Coords) : Fin 4 → Nat :=
  let c1_i32_6595 : BitVec 32 := 1#32
  let v10059 : Index := Scalar.indexCast c1_i32_6595
  let c4_i32_6596 : BitVec 32 := 4#32
  let v10060 : Index := Scalar.indexCast c4_i32_6596
  let c8_i32_6597 : BitVec 32 := 8#32
  let v10061 : Index := Scalar.indexCast c8_i32_6597
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10062 : Index := Scalar.indexCast v9
  ![1, 4, 8, v10062.toNat]
def k0_off209 (i : grid0.Coords) : Fin 4 → Nat :=
  let c1_i32_6601 : BitVec 32 := 1#32
  let v10070 : Index := Scalar.indexCast c1_i32_6601
  let c4_i32_6602 : BitVec 32 := 4#32
  let v10071 : Index := Scalar.indexCast c4_i32_6602
  let c9_i32_6603 : BitVec 32 := 9#32
  let v10072 : Index := Scalar.indexCast c9_i32_6603
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10073 : Index := Scalar.indexCast v9
  ![1, 4, 9, v10073.toNat]
def k0_off210 (i : grid0.Coords) : Fin 4 → Nat :=
  let c1_i32_6607 : BitVec 32 := 1#32
  let v10081 : Index := Scalar.indexCast c1_i32_6607
  let c4_i32_6608 : BitVec 32 := 4#32
  let v10082 : Index := Scalar.indexCast c4_i32_6608
  let c10_i32_6609 : BitVec 32 := 10#32
  let v10083 : Index := Scalar.indexCast c10_i32_6609
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10084 : Index := Scalar.indexCast v9
  ![1, 4, 10, v10084.toNat]
def k0_off211 (i : grid0.Coords) : Fin 4 → Nat :=
  let c1_i32_6613 : BitVec 32 := 1#32
  let v10092 : Index := Scalar.indexCast c1_i32_6613
  let c4_i32_6614 : BitVec 32 := 4#32
  let v10093 : Index := Scalar.indexCast c4_i32_6614
  let c11_i32_6615 : BitVec 32 := 11#32
  let v10094 : Index := Scalar.indexCast c11_i32_6615
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10095 : Index := Scalar.indexCast v9
  ![1, 4, 11, v10095.toNat]
def k0_off212 (i : grid0.Coords) : Fin 4 → Nat :=
  let c1_i32_6619 : BitVec 32 := 1#32
  let v10103 : Index := Scalar.indexCast c1_i32_6619
  let c4_i32_6620 : BitVec 32 := 4#32
  let v10104 : Index := Scalar.indexCast c4_i32_6620
  let c12_i32_6621 : BitVec 32 := 12#32
  let v10105 : Index := Scalar.indexCast c12_i32_6621
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10106 : Index := Scalar.indexCast v9
  ![1, 4, 12, v10106.toNat]
def k0_off213 (i : grid0.Coords) : Fin 4 → Nat :=
  let c1_i32_6625 : BitVec 32 := 1#32
  let v10114 : Index := Scalar.indexCast c1_i32_6625
  let c4_i32_6626 : BitVec 32 := 4#32
  let v10115 : Index := Scalar.indexCast c4_i32_6626
  let c13_i32_6627 : BitVec 32 := 13#32
  let v10116 : Index := Scalar.indexCast c13_i32_6627
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10117 : Index := Scalar.indexCast v9
  ![1, 4, 13, v10117.toNat]
def k0_off214 (i : grid0.Coords) : Fin 4 → Nat :=
  let c1_i32_6631 : BitVec 32 := 1#32
  let v10125 : Index := Scalar.indexCast c1_i32_6631
  let c4_i32_6632 : BitVec 32 := 4#32
  let v10126 : Index := Scalar.indexCast c4_i32_6632
  let c14_i32_6633 : BitVec 32 := 14#32
  let v10127 : Index := Scalar.indexCast c14_i32_6633
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10128 : Index := Scalar.indexCast v9
  ![1, 4, 14, v10128.toNat]
def k0_off215 (i : grid0.Coords) : Fin 4 → Nat :=
  let c1_i32_6637 : BitVec 32 := 1#32
  let v10136 : Index := Scalar.indexCast c1_i32_6637
  let c4_i32_6638 : BitVec 32 := 4#32
  let v10137 : Index := Scalar.indexCast c4_i32_6638
  let c15_i32_6639 : BitVec 32 := 15#32
  let v10138 : Index := Scalar.indexCast c15_i32_6639
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10139 : Index := Scalar.indexCast v9
  ![1, 4, 15, v10139.toNat]
def k0_off216 (i : grid0.Coords) : Fin 4 → Nat :=
  let c1_i32_6643 : BitVec 32 := 1#32
  let v10147 : Index := Scalar.indexCast c1_i32_6643
  let c5_i32_6644 : BitVec 32 := 5#32
  let v10148 : Index := Scalar.indexCast c5_i32_6644
  let c0_i32_6645 : BitVec 32 := 0#32
  let v10149 : Index := Scalar.indexCast c0_i32_6645
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10150 : Index := Scalar.indexCast v9
  ![1, 5, 0, v10150.toNat]
def k0_off217 (i : grid0.Coords) : Fin 4 → Nat :=
  let c1_i32_6649 : BitVec 32 := 1#32
  let v10158 : Index := Scalar.indexCast c1_i32_6649
  let c5_i32_6650 : BitVec 32 := 5#32
  let v10159 : Index := Scalar.indexCast c5_i32_6650
  let c1_i32_6651 : BitVec 32 := 1#32
  let v10160 : Index := Scalar.indexCast c1_i32_6651
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10161 : Index := Scalar.indexCast v9
  ![1, 5, 1, v10161.toNat]
def k0_off218 (i : grid0.Coords) : Fin 4 → Nat :=
  let c1_i32_6655 : BitVec 32 := 1#32
  let v10169 : Index := Scalar.indexCast c1_i32_6655
  let c5_i32_6656 : BitVec 32 := 5#32
  let v10170 : Index := Scalar.indexCast c5_i32_6656
  let c2_i32_6657 : BitVec 32 := 2#32
  let v10171 : Index := Scalar.indexCast c2_i32_6657
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10172 : Index := Scalar.indexCast v9
  ![1, 5, 2, v10172.toNat]
def k0_off219 (i : grid0.Coords) : Fin 4 → Nat :=
  let c1_i32_6661 : BitVec 32 := 1#32
  let v10180 : Index := Scalar.indexCast c1_i32_6661
  let c5_i32_6662 : BitVec 32 := 5#32
  let v10181 : Index := Scalar.indexCast c5_i32_6662
  let c3_i32_6663 : BitVec 32 := 3#32
  let v10182 : Index := Scalar.indexCast c3_i32_6663
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10183 : Index := Scalar.indexCast v9
  ![1, 5, 3, v10183.toNat]
def k0_off220 (i : grid0.Coords) : Fin 4 → Nat :=
  let c1_i32_6667 : BitVec 32 := 1#32
  let v10191 : Index := Scalar.indexCast c1_i32_6667
  let c5_i32_6668 : BitVec 32 := 5#32
  let v10192 : Index := Scalar.indexCast c5_i32_6668
  let c4_i32_6669 : BitVec 32 := 4#32
  let v10193 : Index := Scalar.indexCast c4_i32_6669
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10194 : Index := Scalar.indexCast v9
  ![1, 5, 4, v10194.toNat]
def k0_off221 (i : grid0.Coords) : Fin 4 → Nat :=
  let c1_i32_6673 : BitVec 32 := 1#32
  let v10202 : Index := Scalar.indexCast c1_i32_6673
  let c5_i32_6674 : BitVec 32 := 5#32
  let v10203 : Index := Scalar.indexCast c5_i32_6674
  let c5_i32_6675 : BitVec 32 := 5#32
  let v10204 : Index := Scalar.indexCast c5_i32_6675
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10205 : Index := Scalar.indexCast v9
  ![1, 5, 5, v10205.toNat]
def k0_off222 (i : grid0.Coords) : Fin 4 → Nat :=
  let c1_i32_6679 : BitVec 32 := 1#32
  let v10213 : Index := Scalar.indexCast c1_i32_6679
  let c5_i32_6680 : BitVec 32 := 5#32
  let v10214 : Index := Scalar.indexCast c5_i32_6680
  let c6_i32_6681 : BitVec 32 := 6#32
  let v10215 : Index := Scalar.indexCast c6_i32_6681
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10216 : Index := Scalar.indexCast v9
  ![1, 5, 6, v10216.toNat]
def k0_off223 (i : grid0.Coords) : Fin 4 → Nat :=
  let c1_i32_6685 : BitVec 32 := 1#32
  let v10224 : Index := Scalar.indexCast c1_i32_6685
  let c5_i32_6686 : BitVec 32 := 5#32
  let v10225 : Index := Scalar.indexCast c5_i32_6686
  let c7_i32_6687 : BitVec 32 := 7#32
  let v10226 : Index := Scalar.indexCast c7_i32_6687
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10227 : Index := Scalar.indexCast v9
  ![1, 5, 7, v10227.toNat]
def k0_off224 (i : grid0.Coords) : Fin 4 → Nat :=
  let c1_i32_6691 : BitVec 32 := 1#32
  let v10235 : Index := Scalar.indexCast c1_i32_6691
  let c5_i32_6692 : BitVec 32 := 5#32
  let v10236 : Index := Scalar.indexCast c5_i32_6692
  let c8_i32_6693 : BitVec 32 := 8#32
  let v10237 : Index := Scalar.indexCast c8_i32_6693
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10238 : Index := Scalar.indexCast v9
  ![1, 5, 8, v10238.toNat]
def k0_off225 (i : grid0.Coords) : Fin 4 → Nat :=
  let c1_i32_6697 : BitVec 32 := 1#32
  let v10246 : Index := Scalar.indexCast c1_i32_6697
  let c5_i32_6698 : BitVec 32 := 5#32
  let v10247 : Index := Scalar.indexCast c5_i32_6698
  let c9_i32_6699 : BitVec 32 := 9#32
  let v10248 : Index := Scalar.indexCast c9_i32_6699
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10249 : Index := Scalar.indexCast v9
  ![1, 5, 9, v10249.toNat]
def k0_off226 (i : grid0.Coords) : Fin 4 → Nat :=
  let c1_i32_6703 : BitVec 32 := 1#32
  let v10257 : Index := Scalar.indexCast c1_i32_6703
  let c5_i32_6704 : BitVec 32 := 5#32
  let v10258 : Index := Scalar.indexCast c5_i32_6704
  let c10_i32_6705 : BitVec 32 := 10#32
  let v10259 : Index := Scalar.indexCast c10_i32_6705
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10260 : Index := Scalar.indexCast v9
  ![1, 5, 10, v10260.toNat]
def k0_off227 (i : grid0.Coords) : Fin 4 → Nat :=
  let c1_i32_6709 : BitVec 32 := 1#32
  let v10268 : Index := Scalar.indexCast c1_i32_6709
  let c5_i32_6710 : BitVec 32 := 5#32
  let v10269 : Index := Scalar.indexCast c5_i32_6710
  let c11_i32_6711 : BitVec 32 := 11#32
  let v10270 : Index := Scalar.indexCast c11_i32_6711
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10271 : Index := Scalar.indexCast v9
  ![1, 5, 11, v10271.toNat]
def k0_off228 (i : grid0.Coords) : Fin 4 → Nat :=
  let c1_i32_6715 : BitVec 32 := 1#32
  let v10279 : Index := Scalar.indexCast c1_i32_6715
  let c5_i32_6716 : BitVec 32 := 5#32
  let v10280 : Index := Scalar.indexCast c5_i32_6716
  let c12_i32_6717 : BitVec 32 := 12#32
  let v10281 : Index := Scalar.indexCast c12_i32_6717
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10282 : Index := Scalar.indexCast v9
  ![1, 5, 12, v10282.toNat]
def k0_off229 (i : grid0.Coords) : Fin 4 → Nat :=
  let c1_i32_6721 : BitVec 32 := 1#32
  let v10290 : Index := Scalar.indexCast c1_i32_6721
  let c5_i32_6722 : BitVec 32 := 5#32
  let v10291 : Index := Scalar.indexCast c5_i32_6722
  let c13_i32_6723 : BitVec 32 := 13#32
  let v10292 : Index := Scalar.indexCast c13_i32_6723
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10293 : Index := Scalar.indexCast v9
  ![1, 5, 13, v10293.toNat]
def k0_off230 (i : grid0.Coords) : Fin 4 → Nat :=
  let c1_i32_6727 : BitVec 32 := 1#32
  let v10301 : Index := Scalar.indexCast c1_i32_6727
  let c5_i32_6728 : BitVec 32 := 5#32
  let v10302 : Index := Scalar.indexCast c5_i32_6728
  let c14_i32_6729 : BitVec 32 := 14#32
  let v10303 : Index := Scalar.indexCast c14_i32_6729
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10304 : Index := Scalar.indexCast v9
  ![1, 5, 14, v10304.toNat]
def k0_off231 (i : grid0.Coords) : Fin 4 → Nat :=
  let c1_i32_6733 : BitVec 32 := 1#32
  let v10312 : Index := Scalar.indexCast c1_i32_6733
  let c5_i32_6734 : BitVec 32 := 5#32
  let v10313 : Index := Scalar.indexCast c5_i32_6734
  let c15_i32_6735 : BitVec 32 := 15#32
  let v10314 : Index := Scalar.indexCast c15_i32_6735
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10315 : Index := Scalar.indexCast v9
  ![1, 5, 15, v10315.toNat]
def k0_off232 (i : grid0.Coords) : Fin 4 → Nat :=
  let c1_i32_6739 : BitVec 32 := 1#32
  let v10323 : Index := Scalar.indexCast c1_i32_6739
  let c6_i32_6740 : BitVec 32 := 6#32
  let v10324 : Index := Scalar.indexCast c6_i32_6740
  let c0_i32_6741 : BitVec 32 := 0#32
  let v10325 : Index := Scalar.indexCast c0_i32_6741
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10326 : Index := Scalar.indexCast v9
  ![1, 6, 0, v10326.toNat]
def k0_off233 (i : grid0.Coords) : Fin 4 → Nat :=
  let c1_i32_6745 : BitVec 32 := 1#32
  let v10334 : Index := Scalar.indexCast c1_i32_6745
  let c6_i32_6746 : BitVec 32 := 6#32
  let v10335 : Index := Scalar.indexCast c6_i32_6746
  let c1_i32_6747 : BitVec 32 := 1#32
  let v10336 : Index := Scalar.indexCast c1_i32_6747
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10337 : Index := Scalar.indexCast v9
  ![1, 6, 1, v10337.toNat]
def k0_off234 (i : grid0.Coords) : Fin 4 → Nat :=
  let c1_i32_6751 : BitVec 32 := 1#32
  let v10345 : Index := Scalar.indexCast c1_i32_6751
  let c6_i32_6752 : BitVec 32 := 6#32
  let v10346 : Index := Scalar.indexCast c6_i32_6752
  let c2_i32_6753 : BitVec 32 := 2#32
  let v10347 : Index := Scalar.indexCast c2_i32_6753
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10348 : Index := Scalar.indexCast v9
  ![1, 6, 2, v10348.toNat]
def k0_off235 (i : grid0.Coords) : Fin 4 → Nat :=
  let c1_i32_6757 : BitVec 32 := 1#32
  let v10356 : Index := Scalar.indexCast c1_i32_6757
  let c6_i32_6758 : BitVec 32 := 6#32
  let v10357 : Index := Scalar.indexCast c6_i32_6758
  let c3_i32_6759 : BitVec 32 := 3#32
  let v10358 : Index := Scalar.indexCast c3_i32_6759
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10359 : Index := Scalar.indexCast v9
  ![1, 6, 3, v10359.toNat]
def k0_off236 (i : grid0.Coords) : Fin 4 → Nat :=
  let c1_i32_6763 : BitVec 32 := 1#32
  let v10367 : Index := Scalar.indexCast c1_i32_6763
  let c6_i32_6764 : BitVec 32 := 6#32
  let v10368 : Index := Scalar.indexCast c6_i32_6764
  let c4_i32_6765 : BitVec 32 := 4#32
  let v10369 : Index := Scalar.indexCast c4_i32_6765
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10370 : Index := Scalar.indexCast v9
  ![1, 6, 4, v10370.toNat]
def k0_off237 (i : grid0.Coords) : Fin 4 → Nat :=
  let c1_i32_6769 : BitVec 32 := 1#32
  let v10378 : Index := Scalar.indexCast c1_i32_6769
  let c6_i32_6770 : BitVec 32 := 6#32
  let v10379 : Index := Scalar.indexCast c6_i32_6770
  let c5_i32_6771 : BitVec 32 := 5#32
  let v10380 : Index := Scalar.indexCast c5_i32_6771
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10381 : Index := Scalar.indexCast v9
  ![1, 6, 5, v10381.toNat]
def k0_off238 (i : grid0.Coords) : Fin 4 → Nat :=
  let c1_i32_6775 : BitVec 32 := 1#32
  let v10389 : Index := Scalar.indexCast c1_i32_6775
  let c6_i32_6776 : BitVec 32 := 6#32
  let v10390 : Index := Scalar.indexCast c6_i32_6776
  let c6_i32_6777 : BitVec 32 := 6#32
  let v10391 : Index := Scalar.indexCast c6_i32_6777
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10392 : Index := Scalar.indexCast v9
  ![1, 6, 6, v10392.toNat]
def k0_off239 (i : grid0.Coords) : Fin 4 → Nat :=
  let c1_i32_6781 : BitVec 32 := 1#32
  let v10400 : Index := Scalar.indexCast c1_i32_6781
  let c6_i32_6782 : BitVec 32 := 6#32
  let v10401 : Index := Scalar.indexCast c6_i32_6782
  let c7_i32_6783 : BitVec 32 := 7#32
  let v10402 : Index := Scalar.indexCast c7_i32_6783
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10403 : Index := Scalar.indexCast v9
  ![1, 6, 7, v10403.toNat]
def k0_off240 (i : grid0.Coords) : Fin 4 → Nat :=
  let c1_i32_6787 : BitVec 32 := 1#32
  let v10411 : Index := Scalar.indexCast c1_i32_6787
  let c6_i32_6788 : BitVec 32 := 6#32
  let v10412 : Index := Scalar.indexCast c6_i32_6788
  let c8_i32_6789 : BitVec 32 := 8#32
  let v10413 : Index := Scalar.indexCast c8_i32_6789
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10414 : Index := Scalar.indexCast v9
  ![1, 6, 8, v10414.toNat]
def k0_off241 (i : grid0.Coords) : Fin 4 → Nat :=
  let c1_i32_6793 : BitVec 32 := 1#32
  let v10422 : Index := Scalar.indexCast c1_i32_6793
  let c6_i32_6794 : BitVec 32 := 6#32
  let v10423 : Index := Scalar.indexCast c6_i32_6794
  let c9_i32_6795 : BitVec 32 := 9#32
  let v10424 : Index := Scalar.indexCast c9_i32_6795
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10425 : Index := Scalar.indexCast v9
  ![1, 6, 9, v10425.toNat]
def k0_off242 (i : grid0.Coords) : Fin 4 → Nat :=
  let c1_i32_6799 : BitVec 32 := 1#32
  let v10433 : Index := Scalar.indexCast c1_i32_6799
  let c6_i32_6800 : BitVec 32 := 6#32
  let v10434 : Index := Scalar.indexCast c6_i32_6800
  let c10_i32_6801 : BitVec 32 := 10#32
  let v10435 : Index := Scalar.indexCast c10_i32_6801
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10436 : Index := Scalar.indexCast v9
  ![1, 6, 10, v10436.toNat]
def k0_off243 (i : grid0.Coords) : Fin 4 → Nat :=
  let c1_i32_6805 : BitVec 32 := 1#32
  let v10444 : Index := Scalar.indexCast c1_i32_6805
  let c6_i32_6806 : BitVec 32 := 6#32
  let v10445 : Index := Scalar.indexCast c6_i32_6806
  let c11_i32_6807 : BitVec 32 := 11#32
  let v10446 : Index := Scalar.indexCast c11_i32_6807
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10447 : Index := Scalar.indexCast v9
  ![1, 6, 11, v10447.toNat]
def k0_off244 (i : grid0.Coords) : Fin 4 → Nat :=
  let c1_i32_6811 : BitVec 32 := 1#32
  let v10455 : Index := Scalar.indexCast c1_i32_6811
  let c6_i32_6812 : BitVec 32 := 6#32
  let v10456 : Index := Scalar.indexCast c6_i32_6812
  let c12_i32_6813 : BitVec 32 := 12#32
  let v10457 : Index := Scalar.indexCast c12_i32_6813
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10458 : Index := Scalar.indexCast v9
  ![1, 6, 12, v10458.toNat]
def k0_off245 (i : grid0.Coords) : Fin 4 → Nat :=
  let c1_i32_6817 : BitVec 32 := 1#32
  let v10466 : Index := Scalar.indexCast c1_i32_6817
  let c6_i32_6818 : BitVec 32 := 6#32
  let v10467 : Index := Scalar.indexCast c6_i32_6818
  let c13_i32_6819 : BitVec 32 := 13#32
  let v10468 : Index := Scalar.indexCast c13_i32_6819
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10469 : Index := Scalar.indexCast v9
  ![1, 6, 13, v10469.toNat]
def k0_off246 (i : grid0.Coords) : Fin 4 → Nat :=
  let c1_i32_6823 : BitVec 32 := 1#32
  let v10477 : Index := Scalar.indexCast c1_i32_6823
  let c6_i32_6824 : BitVec 32 := 6#32
  let v10478 : Index := Scalar.indexCast c6_i32_6824
  let c14_i32_6825 : BitVec 32 := 14#32
  let v10479 : Index := Scalar.indexCast c14_i32_6825
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10480 : Index := Scalar.indexCast v9
  ![1, 6, 14, v10480.toNat]
def k0_off247 (i : grid0.Coords) : Fin 4 → Nat :=
  let c1_i32_6829 : BitVec 32 := 1#32
  let v10488 : Index := Scalar.indexCast c1_i32_6829
  let c6_i32_6830 : BitVec 32 := 6#32
  let v10489 : Index := Scalar.indexCast c6_i32_6830
  let c15_i32_6831 : BitVec 32 := 15#32
  let v10490 : Index := Scalar.indexCast c15_i32_6831
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10491 : Index := Scalar.indexCast v9
  ![1, 6, 15, v10491.toNat]
def k0_off248 (i : grid0.Coords) : Fin 4 → Nat :=
  let c1_i32_6835 : BitVec 32 := 1#32
  let v10499 : Index := Scalar.indexCast c1_i32_6835
  let c7_i32_6836 : BitVec 32 := 7#32
  let v10500 : Index := Scalar.indexCast c7_i32_6836
  let c0_i32_6837 : BitVec 32 := 0#32
  let v10501 : Index := Scalar.indexCast c0_i32_6837
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10502 : Index := Scalar.indexCast v9
  ![1, 7, 0, v10502.toNat]
def k0_off249 (i : grid0.Coords) : Fin 4 → Nat :=
  let c1_i32_6841 : BitVec 32 := 1#32
  let v10510 : Index := Scalar.indexCast c1_i32_6841
  let c7_i32_6842 : BitVec 32 := 7#32
  let v10511 : Index := Scalar.indexCast c7_i32_6842
  let c1_i32_6843 : BitVec 32 := 1#32
  let v10512 : Index := Scalar.indexCast c1_i32_6843
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10513 : Index := Scalar.indexCast v9
  ![1, 7, 1, v10513.toNat]
def k0_off250 (i : grid0.Coords) : Fin 4 → Nat :=
  let c1_i32_6847 : BitVec 32 := 1#32
  let v10521 : Index := Scalar.indexCast c1_i32_6847
  let c7_i32_6848 : BitVec 32 := 7#32
  let v10522 : Index := Scalar.indexCast c7_i32_6848
  let c2_i32_6849 : BitVec 32 := 2#32
  let v10523 : Index := Scalar.indexCast c2_i32_6849
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10524 : Index := Scalar.indexCast v9
  ![1, 7, 2, v10524.toNat]
def k0_off251 (i : grid0.Coords) : Fin 4 → Nat :=
  let c1_i32_6853 : BitVec 32 := 1#32
  let v10532 : Index := Scalar.indexCast c1_i32_6853
  let c7_i32_6854 : BitVec 32 := 7#32
  let v10533 : Index := Scalar.indexCast c7_i32_6854
  let c3_i32_6855 : BitVec 32 := 3#32
  let v10534 : Index := Scalar.indexCast c3_i32_6855
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10535 : Index := Scalar.indexCast v9
  ![1, 7, 3, v10535.toNat]
def k0_off252 (i : grid0.Coords) : Fin 4 → Nat :=
  let c1_i32_6859 : BitVec 32 := 1#32
  let v10543 : Index := Scalar.indexCast c1_i32_6859
  let c7_i32_6860 : BitVec 32 := 7#32
  let v10544 : Index := Scalar.indexCast c7_i32_6860
  let c4_i32_6861 : BitVec 32 := 4#32
  let v10545 : Index := Scalar.indexCast c4_i32_6861
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10546 : Index := Scalar.indexCast v9
  ![1, 7, 4, v10546.toNat]
def k0_off253 (i : grid0.Coords) : Fin 4 → Nat :=
  let c1_i32_6865 : BitVec 32 := 1#32
  let v10554 : Index := Scalar.indexCast c1_i32_6865
  let c7_i32_6866 : BitVec 32 := 7#32
  let v10555 : Index := Scalar.indexCast c7_i32_6866
  let c5_i32_6867 : BitVec 32 := 5#32
  let v10556 : Index := Scalar.indexCast c5_i32_6867
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10557 : Index := Scalar.indexCast v9
  ![1, 7, 5, v10557.toNat]
def k0_off254 (i : grid0.Coords) : Fin 4 → Nat :=
  let c1_i32_6871 : BitVec 32 := 1#32
  let v10565 : Index := Scalar.indexCast c1_i32_6871
  let c7_i32_6872 : BitVec 32 := 7#32
  let v10566 : Index := Scalar.indexCast c7_i32_6872
  let c6_i32_6873 : BitVec 32 := 6#32
  let v10567 : Index := Scalar.indexCast c6_i32_6873
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10568 : Index := Scalar.indexCast v9
  ![1, 7, 6, v10568.toNat]
def k0_off255 (i : grid0.Coords) : Fin 4 → Nat :=
  let c1_i32_6877 : BitVec 32 := 1#32
  let v10576 : Index := Scalar.indexCast c1_i32_6877
  let c7_i32_6878 : BitVec 32 := 7#32
  let v10577 : Index := Scalar.indexCast c7_i32_6878
  let c7_i32_6879 : BitVec 32 := 7#32
  let v10578 : Index := Scalar.indexCast c7_i32_6879
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10579 : Index := Scalar.indexCast v9
  ![1, 7, 7, v10579.toNat]
def k0_off256 (i : grid0.Coords) : Fin 4 → Nat :=
  let c1_i32_6883 : BitVec 32 := 1#32
  let v10587 : Index := Scalar.indexCast c1_i32_6883
  let c7_i32_6884 : BitVec 32 := 7#32
  let v10588 : Index := Scalar.indexCast c7_i32_6884
  let c8_i32_6885 : BitVec 32 := 8#32
  let v10589 : Index := Scalar.indexCast c8_i32_6885
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10590 : Index := Scalar.indexCast v9
  ![1, 7, 8, v10590.toNat]
def k0_off257 (i : grid0.Coords) : Fin 4 → Nat :=
  let c1_i32_6889 : BitVec 32 := 1#32
  let v10598 : Index := Scalar.indexCast c1_i32_6889
  let c7_i32_6890 : BitVec 32 := 7#32
  let v10599 : Index := Scalar.indexCast c7_i32_6890
  let c9_i32_6891 : BitVec 32 := 9#32
  let v10600 : Index := Scalar.indexCast c9_i32_6891
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10601 : Index := Scalar.indexCast v9
  ![1, 7, 9, v10601.toNat]
def k0_off258 (i : grid0.Coords) : Fin 4 → Nat :=
  let c1_i32_6895 : BitVec 32 := 1#32
  let v10609 : Index := Scalar.indexCast c1_i32_6895
  let c7_i32_6896 : BitVec 32 := 7#32
  let v10610 : Index := Scalar.indexCast c7_i32_6896
  let c10_i32_6897 : BitVec 32 := 10#32
  let v10611 : Index := Scalar.indexCast c10_i32_6897
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10612 : Index := Scalar.indexCast v9
  ![1, 7, 10, v10612.toNat]
def k0_off259 (i : grid0.Coords) : Fin 4 → Nat :=
  let c1_i32_6901 : BitVec 32 := 1#32
  let v10620 : Index := Scalar.indexCast c1_i32_6901
  let c7_i32_6902 : BitVec 32 := 7#32
  let v10621 : Index := Scalar.indexCast c7_i32_6902
  let c11_i32_6903 : BitVec 32 := 11#32
  let v10622 : Index := Scalar.indexCast c11_i32_6903
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10623 : Index := Scalar.indexCast v9
  ![1, 7, 11, v10623.toNat]
def k0_off260 (i : grid0.Coords) : Fin 4 → Nat :=
  let c1_i32_6907 : BitVec 32 := 1#32
  let v10631 : Index := Scalar.indexCast c1_i32_6907
  let c7_i32_6908 : BitVec 32 := 7#32
  let v10632 : Index := Scalar.indexCast c7_i32_6908
  let c12_i32_6909 : BitVec 32 := 12#32
  let v10633 : Index := Scalar.indexCast c12_i32_6909
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10634 : Index := Scalar.indexCast v9
  ![1, 7, 12, v10634.toNat]
def k0_off261 (i : grid0.Coords) : Fin 4 → Nat :=
  let c1_i32_6913 : BitVec 32 := 1#32
  let v10642 : Index := Scalar.indexCast c1_i32_6913
  let c7_i32_6914 : BitVec 32 := 7#32
  let v10643 : Index := Scalar.indexCast c7_i32_6914
  let c13_i32_6915 : BitVec 32 := 13#32
  let v10644 : Index := Scalar.indexCast c13_i32_6915
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10645 : Index := Scalar.indexCast v9
  ![1, 7, 13, v10645.toNat]
def k0_off262 (i : grid0.Coords) : Fin 4 → Nat :=
  let c1_i32_6919 : BitVec 32 := 1#32
  let v10653 : Index := Scalar.indexCast c1_i32_6919
  let c7_i32_6920 : BitVec 32 := 7#32
  let v10654 : Index := Scalar.indexCast c7_i32_6920
  let c14_i32_6921 : BitVec 32 := 14#32
  let v10655 : Index := Scalar.indexCast c14_i32_6921
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10656 : Index := Scalar.indexCast v9
  ![1, 7, 14, v10656.toNat]
def k0_off263 (i : grid0.Coords) : Fin 4 → Nat :=
  let c1_i32_6925 : BitVec 32 := 1#32
  let v10664 : Index := Scalar.indexCast c1_i32_6925
  let c7_i32_6926 : BitVec 32 := 7#32
  let v10665 : Index := Scalar.indexCast c7_i32_6926
  let c15_i32_6927 : BitVec 32 := 15#32
  let v10666 : Index := Scalar.indexCast c15_i32_6927
  let c96_i32 : BitVec 32 := 96#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1_i32 : BitVec 32 := 1#32
  let v6 : BitVec 32 := Scalar.addi v1 c1_i32
  let c5_i32 : BitVec 32 := 5#32
  let v7 : BitVec 32 := Scalar.shrsi v6 c5_i32
  let c16_i32_1 : BitVec 32 := 16#32
  let v8 : BitVec 32 := Scalar.muli v7 c16_i32_1
  let v9 : BitVec 32 := Scalar.addi c96_i32 v8
  let v10667 : Index := Scalar.indexCast v9
  ![1, 7, 15, v10667.toNat]
def k0_cond4 (k0_t1 : Fin k0_t1_loop.trips) : BitVec 1 :=
  let c0_i32_97 : BitVec 32 := 0#32
  let c0_i32_21 : BitVec 32 := 0#32
  let c1_i32_22 : BitVec 32 := 1#32
  let arg12 : BitVec 32 := Scf.iv c0_i32_21 c1_i32_22 k0_t1
  let c2_i32_96 : BitVec 32 := 2#32
  let v110 : BitVec 32 := Scalar.muli arg12 c2_i32_96
  let v111 : BitVec 32 := Scalar.addi c0_i32_97 v110
  let c61_i32 : BitVec 32 := 61#32
  let v10715 : BitVec 1 := Scalar.cmpi .slt v111 c61_i32
  let v10716 : BitVec 32 := Scalar.extui v10715
  let c0_i32_6963 : BitVec 32 := 0#32
  let v10717 : BitVec 1 := Scalar.cmpi .ne v10716 c0_i32_6963
  v10717

def k0_off264 (i : grid0.Coords) (k0_t1 : Fin k0_t1_loop.trips) : Fin 4 → Nat :=
  let c0_i32_97 : BitVec 32 := 0#32
  let c0_i32_21 : BitVec 32 := 0#32
  let c1_i32_22 : BitVec 32 := 1#32
  let arg12 : BitVec 32 := Scf.iv c0_i32_21 c1_i32_22 k0_t1
  let c2_i32_96 : BitVec 32 := 2#32
  let v110 : BitVec 32 := Scalar.muli arg12 c2_i32_96
  let v111 : BitVec 32 := Scalar.addi c0_i32_97 v110
  let c1_i32_3463 : BitVec 32 := 1#32
  let v5415 : BitVec 32 := Scalar.addi v111 c1_i32_3463
  let c2_i32_6964 : BitVec 32 := 2#32
  let v10718 : BitVec 32 := Scalar.addi v5415 c2_i32_6964
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c3_i32 : BitVec 32 := 3#32
  let v2 : BitVec 32 := Scalar.shrsi v1 c3_i32
  let c8_i32 : BitVec 32 := 8#32
  let v3 : BitVec 32 := Scalar.muli v2 c8_i32
  let c7_i32 : BitVec 32 := 7#32
  let v4 : BitVec 32 := Scalar.andi v1 c7_i32
  let c16_i32_0 : BitVec 32 := 16#32
  let v5 : BitVec 32 := Scalar.muli v4 c16_i32_0
  let c0_i32_6969 : BitVec 32 := 0#32
  ![v10718.toNat, v3.toNat, v5.toNat, 0]
def k0_off265 (i : grid0.Coords) (c0_i32_24 : BitVec 32) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v27 : BitVec 32 := Scalar.muli v1 c4_i32
  let v28 : BitVec 32 := Scalar.addi v27 c0_i32_24
  let c0_i32_27 : BitVec 32 := 0#32
  let c0_i32_29 : BitVec 32 := 0#32
  ![v28.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x32x128x128 : Shape := ⟨4, ![64, 32, 128, 128]⟩
abbrev S4 : Shape := ⟨1, ![4]⟩
abbrev S_ : Shape := ⟨0, ![]⟩
abbrev S8 : Shape := ⟨1, ![8]⟩
abbrev S4x1 : Shape := ⟨2, ![4, 1]⟩
abbrev S1x8 : Shape := ⟨2, ![1, 8]⟩
abbrev S4x8 : Shape := ⟨2, ![4, 8]⟩
abbrev S8x1 : Shape := ⟨2, ![8, 1]⟩
abbrev S16 : Shape := ⟨1, ![16]⟩
abbrev S1x16 : Shape := ⟨2, ![1, 16]⟩
abbrev S8x16 : Shape := ⟨2, ![8, 16]⟩
abbrev S4x8x1 : Shape := ⟨3, ![4, 8, 1]⟩
abbrev S64x4x8x128x128 : Shape := ⟨5, ![64, 4, 8, 128, 128]⟩
abbrev S8x16x1 : Shape := ⟨3, ![8, 16, 1]⟩
abbrev S64x4x8x8x16x128 : Shape := ⟨6, ![64, 4, 8, 8, 16, 128]⟩
abbrev S64x4x8x8x16x8x16 : Shape := ⟨7, ![64, 4, 8, 8, 16, 8, 16]⟩
abbrev S4x8x8x64x8x16x16 : Shape := ⟨7, ![4, 8, 8, 64, 8, 16, 16]⟩
abbrev S256x64x8x16x16 : Shape := ⟨5, ![256, 64, 8, 16, 16]⟩
abbrev S4x8x8 : Shape := ⟨3, ![4, 8, 8]⟩
abbrev S256 : Shape := ⟨1, ![256]⟩
abbrev S256x1 : Shape := ⟨2, ![256, 1]⟩
abbrev S256x3 : Shape := ⟨2, ![256, 3]⟩
abbrev S127 : Shape := ⟨1, ![127]⟩
abbrev S1 : Shape := ⟨1, ![1]⟩
abbrev S128 : Shape := ⟨1, ![128]⟩
abbrev S128x1 : Shape := ⟨2, ![128, 1]⟩
abbrev S128x64x8x16x16 : Shape := ⟨5, ![128, 64, 8, 16, 16]⟩
abbrev S128x3 : Shape := ⟨2, ![128, 3]⟩

abbrev nBuf : Space → Nat
  | .hbm => 121
  | .vmem => 0
  | .smem => 0
  | _ => 0

abbrev bufTy : (tb : Table) → Fin (tcTables nBuf tb) → BufTy
  | .hbm, ⟨0, _⟩ => ⟨S64x32x128x128, .f32⟩
  | .hbm, ⟨1, _⟩ => ⟨S4, .i32⟩
  | .hbm, ⟨2, _⟩ => ⟨S_, .i32⟩
  | .hbm, ⟨3, _⟩ => ⟨S4, .i32⟩
  | .hbm, ⟨4, _⟩ => ⟨S4, .i32⟩
  | .hbm, ⟨5, _⟩ => ⟨S_, .i32⟩
  | .hbm, ⟨6, _⟩ => ⟨S4, .i32⟩
  | .hbm, ⟨7, _⟩ => ⟨S4, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S_, .i32⟩
  | .hbm, ⟨13, _⟩ => ⟨S8, .i32⟩
  | .hbm, ⟨14, _⟩ => ⟨S8, .i32⟩
  | .hbm, ⟨15, _⟩ => ⟨S8, .i32⟩
  | .hbm, ⟨16, _⟩ => ⟨S_, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S4x1, .i32⟩
  | .hbm, ⟨23, _⟩ => ⟨S8, .i32⟩
  | .hbm, ⟨24, _⟩ => ⟨S1x8, .i32⟩
  | .hbm, ⟨25, _⟩ => ⟨S4x8, .i32⟩
  | .hbm, ⟨26, _⟩ => ⟨S4x8, .i32⟩
  | .hbm, ⟨27, _⟩ => ⟨S4x8, .i32⟩
  | .hbm, ⟨28, _⟩ => ⟨S8x1, .i32⟩
  | .hbm, ⟨29, _⟩ => ⟨S16, .i32⟩
  | .hbm, ⟨30, _⟩ => ⟨S1x16, .i32⟩
  | .hbm, ⟨31, _⟩ => ⟨S8x16, .i32⟩
  | .hbm, ⟨32, _⟩ => ⟨S8x16, .i32⟩
  | .hbm, ⟨33, _⟩ => ⟨S8x16, .i32⟩
  | .hbm, ⟨34, _⟩ => ⟨S8x1, .i32⟩
  | .hbm, ⟨35, _⟩ => ⟨S16, .i32⟩
  | .hbm, ⟨36, _⟩ => ⟨S1x16, .i32⟩
  | .hbm, ⟨37, _⟩ => ⟨S8x16, .i32⟩
  | .hbm, ⟨38, _⟩ => ⟨S8x16, .i32⟩
  | .hbm, ⟨39, _⟩ => ⟨S8x16, .i32⟩
  | .hbm, ⟨40, _⟩ => ⟨S_, .i32⟩
  | .hbm, ⟨41, _⟩ => ⟨S4x8, .i32⟩
  | .hbm, ⟨42, _⟩ => ⟨S4x8, .i1⟩
  | .hbm, ⟨43, _⟩ => ⟨S_, .i32⟩
  | .hbm, ⟨44, _⟩ => ⟨S4x8, .i32⟩
  | .hbm, ⟨45, _⟩ => ⟨S4x8, .i32⟩
  | .hbm, ⟨46, _⟩ => ⟨S4x8, .i32⟩
  | .hbm, ⟨47, _⟩ => ⟨S4x8x1, .i32⟩
  | .hbm, ⟨48, _⟩ => ⟨S64x4x8x128x128, .f32⟩
  | .hbm, ⟨49, _⟩ => ⟨S_, .i32⟩
  | .hbm, ⟨50, _⟩ => ⟨S8x16, .i32⟩
  | .hbm, ⟨51, _⟩ => ⟨S8x16, .i1⟩
  | .hbm, ⟨52, _⟩ => ⟨S_, .i32⟩
  | .hbm, ⟨53, _⟩ => ⟨S8x16, .i32⟩
  | .hbm, ⟨54, _⟩ => ⟨S8x16, .i32⟩
  | .hbm, ⟨55, _⟩ => ⟨S8x16, .i32⟩
  | .hbm, ⟨56, _⟩ => ⟨S8x16x1, .i32⟩
  | .hbm, ⟨57, _⟩ => ⟨S64x4x8x8x16x128, .f32⟩
  | .hbm, ⟨58, _⟩ => ⟨S_, .i32⟩
  | .hbm, ⟨59, _⟩ => ⟨S8x16, .i32⟩
  | .hbm, ⟨60, _⟩ => ⟨S8x16, .i1⟩
  | .hbm, ⟨61, _⟩ => ⟨S_, .i32⟩
  | .hbm, ⟨62, _⟩ => ⟨S8x16, .i32⟩
  | .hbm, ⟨63, _⟩ => ⟨S8x16, .i32⟩
  | .hbm, ⟨64, _⟩ => ⟨S8x16, .i32⟩
  | .hbm, ⟨65, _⟩ => ⟨S8x16x1, .i32⟩
  | .hbm, ⟨66, _⟩ => ⟨S64x4x8x8x16x8x16, .f32⟩
  | .hbm, ⟨67, _⟩ => ⟨S4x8x8x64x8x16x16, .f32⟩
  | .hbm, ⟨68, _⟩ => ⟨S256x64x8x16x16, .f32⟩
  | .hbm, ⟨69, _⟩ => ⟨S4x8x8, .i32⟩
  | .hbm, ⟨70, _⟩ => ⟨S4x8x8, .i32⟩
  | .hbm, ⟨71, _⟩ => ⟨S4x8x8, .i32⟩
  | .hbm, ⟨72, _⟩ => ⟨S256, .i32⟩
  | .hbm, ⟨73, _⟩ => ⟨S256, .i32⟩
  | .hbm, ⟨74, _⟩ => ⟨S256, .i32⟩
  | .hbm, ⟨75, _⟩ => ⟨S256x1, .i32⟩
  | .hbm, ⟨76, _⟩ => ⟨S256x1, .i32⟩
  | .hbm, ⟨77, _⟩ => ⟨S256x1, .i32⟩
  | .hbm, ⟨78, _⟩ => ⟨S256x3, .i32⟩
  | .hbm, ⟨79, _⟩ => ⟨S_, .f32⟩
  | .hbm, ⟨80, _⟩ => ⟨S_, .i32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S127, .f32⟩
  | .hbm, ⟨87, _⟩ => ⟨S_, .f32⟩
  | .hbm, ⟨88, _⟩ => ⟨S127, .f32⟩
  | .hbm, ⟨89, _⟩ => ⟨S127, .f32⟩
  | .hbm, ⟨90, _⟩ => ⟨S1, .f32⟩
  | .hbm, ⟨91, _⟩ => ⟨S_, .f32⟩
  | .hbm, ⟨92, _⟩ => ⟨S127, .f32⟩
  | .hbm, ⟨93, _⟩ => ⟨S127, .f32⟩
  | .hbm, ⟨94, _⟩ => ⟨S127, .f32⟩
  | .hbm, ⟨95, _⟩ => ⟨S127, .f32⟩
  | .hbm, ⟨96, _⟩ => ⟨S1, .f32⟩
  | .hbm, ⟨97, _⟩ => ⟨S127, .f32⟩
  | .hbm, ⟨98, _⟩ => ⟨S127, .f32⟩
  | .hbm, ⟨99, _⟩ => ⟨S127, .f32⟩
  | .hbm, ⟨100, _⟩ => ⟨S1, .f32⟩
  | .hbm, ⟨101, _⟩ => ⟨S128, .f32⟩
  | .hbm, ⟨102, _⟩ => ⟨S128, .i32⟩
  | .hbm, ⟨103, _⟩ => ⟨S_, .i32⟩
  | .hbm, ⟨104, _⟩ => ⟨S128, .i32⟩
  | .hbm, ⟨105, _⟩ => ⟨S128, .i1⟩
  | .hbm, ⟨106, _⟩ => ⟨S_, .i32⟩
  | .hbm, ⟨107, _⟩ => ⟨S128, .i32⟩
  | .hbm, ⟨108, _⟩ => ⟨S128, .i32⟩
  | .hbm, ⟨109, _⟩ => ⟨S128, .i32⟩
  | .hbm, ⟨110, _⟩ => ⟨S128x1, .i32⟩
  | .hbm, ⟨111, _⟩ => ⟨S128x64x8x16x16, .f32⟩
  | .hbm, ⟨112, _⟩ => ⟨S_, .i32⟩
  | .hbm, ⟨113, _⟩ => ⟨S128, .i32⟩
  | .hbm, ⟨114, _⟩ => ⟨S128, .i1⟩
  | .hbm, ⟨115, _⟩ => ⟨S_, .i32⟩
  | .hbm, ⟨116, _⟩ => ⟨S128, .i32⟩
  | .hbm, ⟨117, _⟩ => ⟨S128, .i32⟩
  | .hbm, ⟨118, _⟩ => ⟨S128, .i32⟩
  | .hbm, ⟨119, _⟩ => ⟨S128x1, .i32⟩
  | .hbm, ⟨120, _⟩ => ⟨S128x3, .i32⟩
  | _, _ => ⟨S64x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_1 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_3 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_5 : Ref sig .tc := ⟨.hbm, 40, rfl⟩
abbrev main_v33 : Ref sig .tc := ⟨.hbm, 41, rfl⟩
abbrev main_v34 : Ref sig .tc := ⟨.hbm, 42, rfl⟩
abbrev main_c_6 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_7 : Ref sig .tc := ⟨.hbm, 49, rfl⟩
abbrev main_v40 : Ref sig .tc := ⟨.hbm, 50, rfl⟩
abbrev main_v41 : Ref sig .tc := ⟨.hbm, 51, rfl⟩
abbrev main_c_8 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_c_9 : Ref sig .tc := ⟨.hbm, 58, rfl⟩
abbrev main_v47 : Ref sig .tc := ⟨.hbm, 59, rfl⟩
abbrev main_v48 : Ref sig .tc := ⟨.hbm, 60, rfl⟩
abbrev main_c_10 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst : Ref sig .tc := ⟨.hbm, 79, rfl⟩
abbrev main_c_11 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_cst : Ref sig .tc := ⟨.hbm, 84, rfl⟩
abbrev main_call0_v3 : Ref sig .tc := ⟨.hbm, 85, rfl⟩
abbrev main_call0_v4 : Ref sig .tc := ⟨.hbm, 86, rfl⟩
abbrev main_call0_cst_0 : Ref sig .tc := ⟨.hbm, 87, rfl⟩
abbrev main_call0_v5 : Ref sig .tc := ⟨.hbm, 88, rfl⟩
abbrev main_call0_v6 : Ref sig .tc := ⟨.hbm, 89, rfl⟩
abbrev main_call0_v7 : Ref sig .tc := ⟨.hbm, 90, rfl⟩
abbrev main_call0_cst_1 : Ref sig .tc := ⟨.hbm, 91, rfl⟩
abbrev main_call0_v8 : Ref sig .tc := ⟨.hbm, 92, rfl⟩
abbrev main_call0_v9 : Ref sig .tc := ⟨.hbm, 93, rfl⟩
abbrev main_call0_v10 : Ref sig .tc := ⟨.hbm, 94, rfl⟩
abbrev main_call0_v11 : Ref sig .tc := ⟨.hbm, 95, rfl⟩
abbrev main_call0_v12 : Ref sig .tc := ⟨.hbm, 96, rfl⟩
abbrev main_call0_v13 : Ref sig .tc := ⟨.hbm, 97, rfl⟩
abbrev main_call0_v14 : Ref sig .tc := ⟨.hbm, 98, rfl⟩
abbrev main_call0_v15 : Ref sig .tc := ⟨.hbm, 99, rfl⟩
abbrev main_call0_v16 : Ref sig .tc := ⟨.hbm, 100, rfl⟩
abbrev main_v66 : Ref sig .tc := ⟨.hbm, 101, rfl⟩
abbrev main_v67 : Ref sig .tc := ⟨.hbm, 102, rfl⟩
abbrev main_c_12 : Ref sig .tc := ⟨.hbm, 103, rfl⟩
abbrev main_v68 : Ref sig .tc := ⟨.hbm, 104, rfl⟩
abbrev main_v69 : Ref sig .tc := ⟨.hbm, 105, rfl⟩
abbrev main_c_13 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_14 : Ref sig .tc := ⟨.hbm, 112, rfl⟩
abbrev main_v75 : Ref sig .tc := ⟨.hbm, 113, rfl⟩
abbrev main_v76 : Ref sig .tc := ⟨.hbm, 114, rfl⟩
abbrev main_c_15 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]
-- ==== Proof.Setup.lean ====
/-
  The kernel as the launch theorem sees it, the arrays it works on, and what it is to leave in them.

  Thirty-two tasks, one per vector subcore, each copy four patches of the volume for all 64 channels. Task `wid` keeps two
  slots of a slab buffer (a slab is the part of one channel its four patches lie in) and two slots of a patch buffer;
  channel `c` goes through slot `c % 2` of both. This module names the buffers, the parts of them the tasks hold, and the
  values: `slabF`, what a slab buffer's slot holds once a channel's slab has landed; `patF`, what the patch buffer's slot
  holds once the four patches are copied; `outF`, what the result array holds in the end.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## Tasks, their threads and their buffers -/

abbrev cV (L : grid0.Coords) : Fin τ.nSC := (L 0).castLE hcore0
abbrev jV (L : grid0.Coords) : Fin τ.nSub := (L 1).castLE hsub0
/-- The thread of task `L` on device `d`. -/
abbrev th (d : Dev nD) (L : grid0.Coords) : Thread nD τ := V d (cV L) (jV L)

abbrev xM : Memref sig .scVector .hbm S64x32x128x128 .f32 := Memref.whole main_arg0_scv
abbrev oM : Memref sig .scVector .hbm S128x64x2048 .f32 := Memref.whole main_v0_0_scv
abbrev kM : Memref sig .scVector .hbm S384 .i32 := Memref.whole main_v0_1_scv
abbrev sM : Memref sig .scVector .vmem S2x8x16x128 .f32 := Memref.whole cc0_scratch0
abbrev pM : Memref sig .scVector .vmem S2x4x2048 .f32 := Memref.whole cc0_scratch1
abbrev qM : Memref sig .scVector .vmem S384 .i32 := Memref.whole cc0_scratch2

/-- Where the arrays and the task's buffers live: the volume, the patches, the coordinates; the slab buffer, the patch
    buffer, the coordinate buffer. -/
abbrev xLoc (d : Dev nD) : Loc nD τ sig := (SparseCore.T d).loc main_arg0
abbrev oLoc (d : Dev nD) : Loc nD τ sig := (SparseCore.T d).loc main_v0_0
abbrev kLoc (d : Dev nD) : Loc nD τ sig := (SparseCore.T d).loc main_v0_1
abbrev sLoc (d : Dev nD) (L : grid0.Coords) : Loc nD τ sig := (th d L).loc cc0_scratch0
abbrev pLoc (d : Dev nD) (L : grid0.Coords) : Loc nD τ sig := (th d L).loc cc0_scratch1
abbrev qLoc (d : Dev nD) (L : grid0.Coords) : Loc nD τ sig := (th d L).loc cc0_scratch2

/-! ## Indices by natural numbers -/

/-- The index of a shape at given coordinates, each reduced modulo its axis's length. -/
def pt (s : Shape) (h : ∀ a, 0 < s.size a) (v : Fin s.rank → ℕ) : s.Idx := fun a => ⟨v a % s.size a, Nat.mod_lt _ (h a)⟩

/-- An index whose coordinates are the given numbers is the index at them. -/
theorem eq_pt {s : Shape} {h : ∀ a, 0 < s.size a} {v : Fin s.rank → ℕ} {x : s.Idx} (hx : ∀ a, (x a).val = v a) : x = pt s h v := by
  funext a; apply Fin.ext
  show (x a).val = v a % s.size a
  rw [← hx a, Nat.mod_eq_of_lt (x a).isLt]

theorem posX : ∀ a, 0 < S64x32x128x128.size a := by decide

/-- The volume at channel `c`, depth `e`, row `r`, column `w`. -/
def vol {α : Type} (f : S64x32x128x128.Idx → α) (c e r w : ℕ) : α := f (pt S64x32x128x128 posX ![c, e, r, w])

theorem vol_eq {α : Type} (f : S64x32x128x128.Idx → α) {x : S64x32x128x128.Idx} {c e r w : ℕ}
    (h0 : (x 0).val = c) (h1 : (x 1).val = e) (h2 : (x 2).val = r) (h3 : (x 3).val = w) : f x = vol f c e r w := by
  unfold vol
  congr 1
  refine eq_pt fun a => ?_
  match a with
  | 0 => exact h0
  | 1 => exact h1
  | 2 => exact h2
  | 3 => exact h3

/-! ## The numbers of a task -/

/-- The task's number. -/
def wid (L : grid0.Coords) : ℕ := (L 0).val * 16 + (L 1).val
/-- The depth and the row its slab begins at. -/
def dep (L : grid0.Coords) : ℕ := k0_off1 L 1
def row (L : grid0.Coords) : ℕ := k0_off1 L 2
/-- The column patch `p` of the task begins at within its slab; the last of them is 96, in the last task 112. -/
def col (L : grid0.Coords) (p : ℕ) : ℕ := if p < 3 then 32 * p else k0_off5 L 3

/-! ## The values -/

section Values

variable {α : Type} (f : S64x32x128x128.Idx → α)

/-- The slab of channel `c`, as either slot of the task's slab buffer holds it. -/
def slabF (L : grid0.Coords) (c : ℕ) : S2x8x16x128.Idx → α :=
  fun i => vol f c (dep L + (i 1).val) (row L + (i 2).val) (i 3).val

/-- The task's four patches of channel `c`, as either slot of its patch buffer holds them: row by row. -/
def patF (L : grid0.Coords) (c : ℕ) : S2x4x2048.Idx → α :=
  fun j => vol f c (dep L + (j 2).val / 256) (row L + (j 2).val / 16 % 16) (col L (j 1).val + (j 2).val % 16)

/-- The patch of the grid of 256 that is the `n`-th of the 128 taken: every other one, and the last. -/
def sel (n : ℕ) : ℕ := 2 * n + (n + 1) / 128

/-- The result: patch `n`, channel `c`, the patch's voxels row by row. -/
def outF : S128x64x2048.Idx → α :=
  fun i => vol f (i 1).val (8 * (sel (i 0).val / 64) + (i 2).val / 256) (16 * (sel (i 0).val / 8 % 8) + (i 2).val / 16 % 16)
    (16 * (sel (i 0).val % 8) + (i 2).val % 16)

end Values

/-! ## Slots -/

/-- Slot `b` of the slab buffer; slot `b` of the patch buffer, and its patch `p`. -/
def slotS (b : ℕ) : Finset S2x8x16x128.Idx := Finset.univ.filter fun i => (i 0).val = b
def slotP (b : ℕ) : Finset S2x4x2048.Idx := Finset.univ.filter fun j => (j 0).val = b

theorem mem_slotS {b : ℕ} {i : S2x8x16x128.Idx} : i ∈ slotS b ↔ (i 0).val = b := by simp [slotS]
theorem mem_slotP {b : ℕ} {j : S2x4x2048.Idx} : j ∈ slotP b ↔ (j 0).val = b := by simp [slotP]

end Cert.Proof

end
-- ==== Proof.Copy.lean ====
/-
  One step of the copying: a vector of sixteen voxels of a patch's row read from the slab buffer, the same sixteen places
  of the patch buffer read (the value is not used), and the vector stored there.

  A channel's slot is filled by 512 such steps, numbered `q`: patch `q / 128`, depth `q / 16 % 8`, row `q % 16`. The
  assertion `Copied … q` says that the slab has landed in the slot and that the first `q` steps are done; the three step
  rules say what a load of the slab buffer, a load of the patch buffer and a store of the vector read do to it. They are
  stated for any rest of the program and any further resource, so that they chain.
-/
module

public import proofs.«01_k».proof.Proof.Setup

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The state -/

/-- The slab of channel `c` in slot `b` of the slab buffer. -/
def Slab (d : Dev nD) (L : grid0.Coords) (f : S64x32x128x128.Idx → Elt F .f32) (b c : ℕ) : sProp 𝕄 :=
  sLoc d L ↦[slotS b]{fullShare} (slabF f L c : Buf (Elt F) (sLoc d L))

/-- The first `q` vectors of contents `g` of the patch buffer's slot `b` are channel `c`'s. -/
def Upto (L : grid0.Coords) (f : S64x32x128x128.Idx → Elt F .f32) (b c q : ℕ) (g : S2x4x2048.Idx → Elt F .f32) : Prop :=
  ∀ j : S2x4x2048.Idx, (j 0).val = b → (j 1).val * 128 + (j 2).val / 16 < q → g j = patF f L c j

/-- Slot `b` of the patch buffer with its first `q` vectors copied. -/
def Part (d : Dev nD) (L : grid0.Coords) (f : S64x32x128x128.Idx → Elt F .f32) (b c q : ℕ) : sProp 𝕄 :=
  iprop(∃ g : Buf (Elt F) (pLoc d L), ⌜Upto L f b c q g⌝ ∗ pLoc d L ↦[slotP b]{fullShare} g)

/-- Both. -/
abbrev Copied (d : Dev nD) (L : grid0.Coords) (f : S64x32x128x128.Idx → Elt F .f32) (b c q : ℕ) : sProp 𝕄 :=
  iprop(Slab d L f b c ∗ Part d L f b c q)

/-! ## The vector read and the vector stored -/

/-- What a load of the slab buffer at `off` reads. -/
abbrev ld (L : grid0.Coords) (f : S64x32x128x128.Idx → Elt F .f32) (c : ℕ) (off : Fin 4 → ℕ)
    (inb : ∀ a, off a + S1x1x1x16.size a ≤ S2x8x16x128.size a) : S1x1x1x16.Idx → Elt F .f32 :=
  (sM : Memref sig .scVector .vmem S2x8x16x128 .f32).view.readAt (Elt F) (Rect.unit (s := S2x8x16x128) off S1x1x1x16.size inb).toLoadRect (slabF f L c)

/-- The vector as it is stored: its shape changed twice, its sixteen values kept. -/
abbrev asRow (v : Vec F S1x1x1x16 .f32) : FVec F S1x1x16 .f32 :=
  shapeCast S1x1x16 (shapeCast S16 v shapeCasts_S1x1x1x16_S16) shapeCasts_S16_S1x1x16

omit [FloatOps F] in
theorem asRow_apply (v : Vec F S1x1x1x16 .f32) (x : S1x1x16.Idx) (y : S1x1x1x16.Idx) (h : (y 3).val = (x 2).val) : asRow v x = v y := by
  unfold asRow shapeCast
  congr 1
  rw [Shape.reshapeEquiv_reshapeEquiv]
  refine Shape.reshapeEquiv_eq_of_rowMajor _ ?_
  have h0 : (x 0).val < 1 := (x 0).isLt
  have h1 : (x 1).val < 1 := (x 1).isLt
  have k0 : (y 0).val < 1 := (y 0).isLt
  have k1 : (y 1).val < 1 := (y 1).isLt
  have k2 : (y 2).val < 1 := (y 2).isLt
  rw [Shape.rowMajor_val_three, Shape.rowMajor_val_four]
  simp [Nat.lt_one_iff.mp h0, Nat.lt_one_iff.mp h1, Nat.lt_one_iff.mp k0, Nat.lt_one_iff.mp k1, Nat.lt_one_iff.mp k2, h]

omit [FloatOps F] in
/-- The vector of step `q`, stored at its place, is what is wanted there. -/
theorem asRow_ld (L : grid0.Coords) (f : S64x32x128x128.Idx → Elt F .f32) {b c q : ℕ} (hq : q < 512) (off : Fin 4 → ℕ)
    (inb : ∀ a, off a + S1x1x1x16.size a ≤ S2x8x16x128.size a) (hoff : off = ![b, q / 16 % 8, q % 16, col L (q / 128)])
    (j : S2x4x2048.Idx) (x : S1x1x16.Idx) (h1 : (j 1).val = q / 128) (h2 : (j 2).val = q % 128 * 16 + (x 2).val) :
    asRow (ld L f c off inb) x = patF f L c j := by
  subst hoff
  have hx : (x 2).val < 16 := (x 2).isLt
  rw [asRow_apply _ x (fun | 0 => (0 : Fin 1) | 1 => (0 : Fin 1) | 2 => (0 : Fin 1) | 3 => (⟨(x 2).val, hx⟩ : Fin 16)) rfl]
  show slabF f L c _ = _
  unfold slabF patF
  rw [h1, h2]
  simp only [LoadRect.idx_apply]
  show vol f c (dep L + (q / 16 % 8 + 1 * 0)) (row L + (q % 16 + 1 * 0)) (col L (q / 128) + 1 * (x 2).val) = _
  congr 1 <;> omega

/-! ## The step rules -/

section Steps

variable {d : Dev nD} {L : grid0.Coords} {f : S64x32x128x128.Idx → Elt F .f32} {b c q : ℕ}
variable {α : Type} {Q : α → sProp (MT nD τ sig (HIx 1) (Elt F) ℕ UU ℕ)} {R : sProp (MT nD τ sig (HIx 1) (Elt F) ℕ UU ℕ)}

local notation "WP" => wp frame (wpE (defs₀ (F := F)) 𝒱₀ (th d L) none) Set.univ

/-- A load of the slab buffer in the slot reads the slab. -/
theorem step_read (off : Fin 4 → ℕ) (inb : ∀ a, off a + S1x1x1x16.size a ≤ S2x8x16x128.size a)
    {hl : (sM : Memref sig .scVector .vmem S2x8x16x128 .f32).view.LoadsAt (Rect.unit (s := S2x8x16x128) off S1x1x1x16.size inb).toLoadRect}
    {k : (S1x1x1x16.Idx → Elt F .f32) → Prog (TpuEff nD τ sig (Elt F) Λ₀ (th d L).2) α} (hb : off 0 = b)
    (h : iprop(Copied d L f b c q ∗ R) ⊢ WP (k (ld L f c off inb)) Q) :
    iprop(Copied d L f b c q ∗ R)
      ⊢ WP (.op (.load (sM : Memref sig .scVector .vmem S2x8x16x128 .f32) (Rect.unit (s := S2x8x16x128) off S1x1x1x16.size inb).toLoadRect hl) k) Q := by
  iintro ⟨⟨Hs, Hp⟩, HR⟩
  unfold Slab
  iapply (wp_load 𝒱₀ (th d L) none Set.univ (m := (sM : Memref sig .scVector .vmem S2x8x16x128 .f32)) (S := slotS b)
    (f := (slabF f L c : Buf (Elt F) (sLoc d L))) ?hs) $$ Hs
  case hs =>
    show Finset.map _ (Rect.unit (s := S2x8x16x128) off S1x1x1x16.size inb).set ⊆ _
    intro i hi
    obtain ⟨i', hi', rfl⟩ := Finset.mem_map.mp hi
    have := Rect.mem_set_unit.mp hi' 0
    refine mem_slotS.mpr ?_
    rw [← hb]
    have h1 : S1x1x1x16.size 0 = 1 := rfl
    show (i' 0).val = off 0
    omega
  iintro Hs
  iapply h
  isplitr [HR]
  · isplitl [Hs]; · unfold Slab; iexact Hs
    iexact Hp
  · iexact HR

/-- A load of the patch buffer in the slot reads something. -/
theorem step_skip (off : Fin 3 → ℕ) (inb : ∀ a, off a + S1x1x16.size a ≤ S2x4x2048.size a)
    {hl : (pM : Memref sig .scVector .vmem S2x4x2048 .f32).view.LoadsAt (Rect.unit (s := S2x4x2048) off S1x1x16.size inb).toLoadRect}
    {k : (S1x1x16.Idx → Elt F .f32) → Prog (TpuEff nD τ sig (Elt F) Λ₀ (th d L).2) α} (hb : off 0 = b)
    (h : ∀ v, iprop(Copied d L f b c q ∗ R) ⊢ WP (k v) Q) :
    iprop(Copied d L f b c q ∗ R)
      ⊢ WP (.op (.load (pM : Memref sig .scVector .vmem S2x4x2048 .f32) (Rect.unit (s := S2x4x2048) off S1x1x16.size inb).toLoadRect hl) k) Q := by
  iintro ⟨⟨Hs, Hp⟩, HR⟩
  unfold Part
  icases Hp with ⟨%g, %hg, Hp⟩
  iapply (wp_load 𝒱₀ (th d L) none Set.univ (m := (pM : Memref sig .scVector .vmem S2x4x2048 .f32)) (S := slotP b) (f := g) ?hs) $$ Hp
  case hs =>
    show Finset.map _ (Rect.unit (s := S2x4x2048) off S1x1x16.size inb).set ⊆ _
    intro i hi
    obtain ⟨i', hi', rfl⟩ := Finset.mem_map.mp hi
    have := Rect.mem_set_unit.mp hi' 0
    refine mem_slotP.mpr ?_
    rw [← hb]
    have h1 : S1x1x16.size 0 = 1 := rfl
    show (i' 0).val = off 0
    omega
  iintro Hp
  iapply (h _)
  isplitr [HR]
  · isplitl [Hs]; · iexact Hs
    unfold Part
    iexists g; isplitr; · ipureintro; exact hg
    iexact Hp
  · iexact HR

/-- The store of step `q`'s vector makes step `q` done. -/
theorem step_write (q' : ℕ) (off : Fin 3 → ℕ) (inb : ∀ a, off a + S1x1x16.size a ≤ S2x4x2048.size a) {w : FVec F S1x1x16 .f32}
    {hx : ((pM : Memref sig .scVector .vmem S2x4x2048 .f32).access (Rect.unit (s := S2x4x2048) off S1x1x16.size inb)).Stores Finset.univ}
    {hm : (Finset.univ : Finset S1x1x16.Idx) = Finset.univ ∨ ∀ a, (Rect.unit (s := S2x4x2048) off S1x1x16.size inb).stride a = 1}
    {k : PUnit → Prog (TpuEff nD τ sig (Elt F) Λ₀ (th d L).2) α}
    (off' : Fin 4 → ℕ) (inb' : ∀ a, off' a + S1x1x1x16.size a ≤ S2x8x16x128.size a)
    (hw : w = asRow (ld L f c off' inb'))
    (hoff : off = ![b, q / 128, q % 128 * 16]) (hoff' : off' = ![b, q / 16 % 8, q % 16, col L (q / 128)]) (hq : q < 512) (hq' : q + 1 = q')
    (h : iprop(Copied d L f b c q' ∗ R) ⊢ WP (k ⟨⟩) Q) :
    iprop(Copied d L f b c q ∗ R)
      ⊢ WP (.op (.store (pM : Memref sig .scVector .vmem S2x4x2048 .f32) (Rect.unit (s := S2x4x2048) off S1x1x16.size inb) w Finset.univ hx hm) k) Q := by
  subst hq' hw
  iintro ⟨⟨Hs, Hp⟩, HR⟩
  unfold Part
  icases Hp with ⟨%g, %hg, Hp⟩
  have hset : ∀ i : S2x4x2048.Idx, i ∈ (Rect.unit (s := S2x4x2048) off S1x1x16.size inb).set ↔
      (i 0).val = b ∧ (i 1).val * 128 + (i 2).val / 16 = q := by
    intro i
    rw [Rect.mem_set_unit, hoff]
    have i1 : (i 1).val < 4 := (i 1).isLt
    have i2 : (i 2).val < 2048 := (i 2).isLt
    constructor
    · intro h
      have h0 : b ≤ (i 0).val ∧ (i 0).val < b + 1 := h 0
      have h1 : q / 128 ≤ (i 1).val ∧ (i 1).val < q / 128 + 1 := h 1
      have h2 : q % 128 * 16 ≤ (i 2).val ∧ (i 2).val < q % 128 * 16 + 16 := h 2
      omega
    · rintro ⟨h0, h1⟩ a
      match a with
      | 0 => show b ≤ (i 0).val ∧ (i 0).val < b + 1; omega
      | 1 => show q / 128 ≤ (i 1).val ∧ (i 1).val < q / 128 + 1; omega
      | 2 => show q % 128 * 16 ≤ (i 2).val ∧ (i 2).val < q % 128 * 16 + 16; omega
  iapply (wp_store 𝒱₀ (th d L) none Set.univ (m := (pM : Memref sig .scVector .vmem S2x4x2048 .f32)) (r := Rect.unit (s := S2x4x2048) off S1x1x16.size inb) (S := slotP b) (f := g) ?hs) $$ Hp
  case hs =>
    intro i hi
    have hi' : i ∈ ((View.whole (cc0_scratch1 : Ref sig .scVector)).slice (Rect.unit (s := S2x4x2048) off S1x1x16.size inb)).set := hi
    rw [View.set_slice_whole] at hi'
    exact mem_slotP.mpr ((hset i).mp hi').1
  iintro Hp
  iapply h
  isplitr [HR]
  · isplitl [Hs]; · iexact Hs
    unfold Part
    iexists _; isplitr
    · ipureintro
      show Upto L f b c (q + 1) ((pM : Memref sig .scVector .vmem S2x4x2048 .f32).access (Rect.unit (s := S2x4x2048) off S1x1x16.size inb) |>.write (Elt F) g
        (asRow (ld L f c off' inb')) Finset.univ)
      intro j hj0 hj
      by_cases hjr : j ∈ (Rect.unit (s := S2x4x2048) off S1x1x16.size inb).set
      · rw [← Rect.map_emb_univ] at hjr
        obtain ⟨x, -, rfl⟩ := Finset.mem_map.mp hjr
        refine (View.read_slice_write_emb (v := View.whole (cc0_scratch1 : Ref sig .scVector)) (Val := Elt F)
          (Rect.unit (s := S2x4x2048) off S1x1x16.size inb) g _ (M := Finset.univ) (x := x) (Finset.mem_univ _)).trans ?_
        have x1 : (x 1).val < 1 := (x 1).isLt
        refine asRow_ld L f hq off' inb' hoff' _ x ?_ ?_
        · show off 1 + 1 * (x 1).val = _
          have e : off 1 = q / 128 := congrFun hoff 1
          omega
        · show off 2 + 1 * (x 2).val = _
          have e : off 2 = q % 128 * 16 := congrFun hoff 2
          omega
      · refine (View.read_slice_write_of_not_mem (v := View.whole (cc0_scratch1 : Ref sig .scVector)) (Val := Elt F)
          (Rect.unit (s := S2x4x2048) off S1x1x16.size inb) g _ Finset.univ (y := j) (by rwa [Rect.map_emb_univ])).trans ?_
        refine hg j hj0 ?_
        have : ¬ ((j 0).val = b ∧ (j 1).val * 128 + (j 2).val / 16 = q) := fun h => hjr ((hset j).mpr h)
        omega
    iexact Hp
  · iexact HR

end Steps

end Cert.Proof

end
-- ==== Proof.Windows.lean ====
/-
  Three stretches of the loop's body that only copy: two hundred steps each.

  A trip of the loop is cut into stretches of fixed length. The three here hold nothing but copying steps; each theorem
  says that the stretch takes its slot from so many steps done to two hundred more. They are the step rules of
  `Copy.lean`, one after another.
-/
module

public import proofs.«01_k».proof.Proof.Copy

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Windows

variable {d : Dev nD} {L : grid0.Coords} {f : S64x32x128x128.Idx → Elt F .f32} {c : ℕ}
variable {R : sProp (MT nD τ sig (HIx 1) (Elt F) ℕ UU ℕ)}

local notation "WP" => wp frame (wpE (defs₀ (F := F)) 𝒱₀ (th d L) none) Set.univ

/-- A program that only returns. -/
theorem step_ret {A : sProp (MT nD τ sig (HIx 1) (Elt F) ℕ UU ℕ)} {α : Type} {v : α}
    {Q : α → sProp (MT nD τ sig (HIx 1) (Elt F) ℕ UU ℕ)} (h : A ⊢ Q v) : A ⊢ WP (.ret v) Q := by
  rw [wp_ret]
  iintro H
  imodintro
  iapply h
  iexact H

set_option maxHeartbeats 4000000 in
set_option maxRecDepth 10000 in
/-- The second stretch: steps 198 to 398 of the first slot. -/
theorem wp_part314 (v9 c6 : BitVec 32) {Q : BitVec 32 → sProp (MT nD τ sig (HIx 1) (Elt F) ℕ UU ℕ)}
    (h : ∀ v, iprop(Copied d L f 0 c 398 ∗ R) ⊢ Q v) :
    iprop(Copied d L f 0 c 198 ∗ R) ⊢ WP (k0_part314 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 v9 c6) Q := by
  iterate 200
    refine step_read _ _ rfl ?_
    refine step_skip _ _ rfl fun _ => ?_
    refine step_write _ _ _ _ _ rfl rfl rfl (by decide) (by simp only [Nat.reduceAdd]; rfl) ?_
  exact step_ret (h _)

set_option maxHeartbeats 4000000 in
set_option maxRecDepth 10000 in
/-- The fourth stretch: steps 80 to 280 of the second slot. -/
theorem wp_part316 (c0 : BitVec 32) {Q : BitVec 32 → sProp (MT nD τ sig (HIx 1) (Elt F) ℕ UU ℕ)}
    (h : ∀ v, iprop(Copied d L f 1 c 280 ∗ R) ⊢ Q v) :
    iprop(Copied d L f 1 c 80 ∗ R) ⊢ WP (k0_part316 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 c0) Q := by
  iterate 200
    refine step_read _ _ rfl ?_
    refine step_skip _ _ rfl fun _ => ?_
    refine step_write _ _ _ _ _ rfl rfl rfl (by decide) (by simp only [Nat.reduceAdd]; rfl) ?_
  exact step_ret (h _)

set_option maxHeartbeats 4000000 in
set_option maxRecDepth 10000 in
/-- The fifth stretch: steps 280 to 480 of the second slot. -/
theorem wp_part317 (v9 c8 : BitVec 32) {Q : BitVec 32 → sProp (MT nD τ sig (HIx 1) (Elt F) ℕ UU ℕ)}
    (h : ∀ v, iprop(Copied d L f 1 c 480 ∗ R) ⊢ Q v) :
    iprop(Copied d L f 1 c 280 ∗ R) ⊢ WP (k0_part317 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 v9 c8) Q := by
  iterate 200
    refine step_read _ _ rfl ?_
    refine step_skip _ _ rfl fun _ => ?_
    refine step_write _ _ _ _ _ rfl rfl rfl (by decide) (by simp only [Nat.reduceAdd]; rfl) ?_
  exact step_ret (h _)

end Windows

end Cert.Proof

end
-- ==== Proof.Dma.lean ====
/-
  The transfers of a task: a channel's slab into a slot of the slab buffer, and a channel's four patches out of a slot of
  the patch buffer into the result.

  An input transfer has the slot's semaphore to itself. The four output transfers of a channel share theirs and are awaited
  together: only the fourth wait gives anything back. Each rule is stated for any rest of the program and any further
  resource, as the step rules of `Copy.lean` are, and says where the data has gone in terms of `slabF`, `patF` and `outF`.
-/
module

public import proofs.«01_k».proof.Proof.Copy

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Where the patches lie in the volume -/

def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem coordsV_eta (L : grid0.Coords) : coordsV (L 0) (L 1) = L := by
  funext a
  match a with
  | 0 => rfl
  | 1 => rfl

/-- The slab's depth and row and the patch's column are those of the patch taken. -/
theorem place_all : ∀ (c : Fin 2) (s : Fin 16) (t : Fin 4),
    dep (coordsV c s) = 8 * (sel (4 * wid (coordsV c s) + t.val) / 64)
      ∧ row (coordsV c s) = 16 * (sel (4 * wid (coordsV c s) + t.val) / 8 % 8)
      ∧ col (coordsV c s) t.val = 16 * (sel (4 * wid (coordsV c s) + t.val) % 8) := by decide +kernel

theorem place (L : grid0.Coords) {t : ℕ} (ht : t < 4) :
    dep L = 8 * (sel (4 * wid L + t) / 64) ∧ row L = 16 * (sel (4 * wid L + t) / 8 % 8) ∧ col L t = 16 * (sel (4 * wid L + t) % 8) := by
  have h := place_all (L 0) (L 1) ⟨t, ht⟩
  rwa [show coordsV (L 0) (L 1) = L from coordsV_eta L] at h

/-! ## Parts of the buffers -/

/-- Patch `t` in slot `b` of the patch buffer; patch `n`, channel `c` of the result. -/
def patS (b t : ℕ) : Finset S2x4x2048.Idx := Finset.univ.filter fun j => (j 0).val = b ∧ (j 1).val = t
def rowO (n c : ℕ) : Finset S128x64x2048.Idx := Finset.univ.filter fun i => (i 0).val = n ∧ (i 1).val = c

theorem mem_patS {b t : ℕ} {j : S2x4x2048.Idx} : j ∈ patS b t ↔ (j 0).val = b ∧ (j 1).val = t := by simp [patS]
theorem mem_rowO {n c : ℕ} {i : S128x64x2048.Idx} : i ∈ rowO n c ↔ (i 0).val = n ∧ (i 1).val = c := by simp [rowO]

theorem slotP_eq (b : ℕ) : slotP b = (Finset.univ : Finset (Fin 4)).biUnion fun t => patS b t.val := by
  ext j
  simp only [mem_slotP, Finset.mem_biUnion, Finset.mem_univ, true_and, mem_patS]
  exact ⟨fun h => ⟨⟨(j 1).val, (j 1).isLt⟩, h, rfl⟩, fun ⟨_, h, _⟩ => h⟩

theorem patS_disjoint (b : ℕ) : ∀ t ∈ (Finset.univ : Finset (Fin 4)), ∀ t' ∈ (Finset.univ : Finset (Fin 4)), t ≠ t' → Disjoint (patS b t.val) (patS b t'.val) := by
  intro t _ t' _ h
  refine Finset.disjoint_left.mpr fun j hj hj' => h (Fin.ext ?_)
  rw [← (mem_patS.mp hj).2, (mem_patS.mp hj').2]

/-! ## The input transfer -/

/-- The credit of a slab's transfer, and of a patch's. -/
abbrev NIn : ℕ := (cc0_scratch0 : Ref sig .scVector).dmaCredit S8x16x128 .f32
abbrev NOut : ℕ := (main_v0_0_scv : Ref sig .scVector).dmaCredit S2048 .f32

section Rules

variable {d : Dev nD} {L : grid0.Coords} {f : S64x32x128x128.Idx → Elt F .f32} {b c : ℕ} {q : PosShare TreeShare} {sm : DmaSem sig}
variable {O : CellTallies nD τ sig (HIx 1)} {W : Waits sig (HIx 1)}
variable {α : Type} {Q : α → sProp (MT nD τ sig (HIx 1) (Elt F) ℕ UU ℕ)} {R : sProp (MT nD τ sig (HIx 1) (Elt F) ℕ UU ℕ)}

local notation "WP" => wp frame (wpE (defs₀ (F := F)) 𝒱₀ (th d L) none) Set.univ

/-- A slot of the slab buffer with no transfer under way: a share of the volume, the slot, the semaphore at zero. -/
def InIdle (d : Dev nD) (L : grid0.Coords) (f : S64x32x128x128.Idx → Elt F .f32) (q : PosShare TreeShare) (sm : DmaSem sig) (b : ℕ) : sProp 𝕄 :=
  iprop((xLoc d ↦{q} (f : Buf (Elt F) (xLoc d))) ∗ (∃ g : Buf (Elt F) (sLoc d L), sLoc d L ↦[slotS b]{fullShare} g) ∗ semVal (th d L, SemLoc.dma sm) 0)

/-- Channel `c`'s slab on its way into the slot. -/
def InFl (d : Dev nD) (L : grid0.Coords) (f : S64x32x128x128.Idx → Elt F .f32) (q : PosShare TreeShare) (sm : DmaSem sig) (b c : ℕ) : sProp 𝕄 :=
  iprop(∃ S : Finset (Idx (xLoc d)), Transfers.Flight (EC (F := F)) (th d L) (.dma sm) (none : HIx 1) NIn
      iprop(Slab d L f b c ∗ xLoc d ↦[S]{q} (f : Buf (Elt F) (xLoc d))) ∗ xLoc d ↦[Finset.univ \ S]{q} (f : Buf (Elt F) (xLoc d)))

/-- The waits the task has made beyond `W` are at no call's index, and it may wait on any of its semaphores. -/
def Ob (d : Dev nD) (L : grid0.Coords) (O : CellTallies nD τ sig (HIx 1)) (W : Waits sig (HIx 1)) : sProp 𝕄 :=
  iprop(Transfers.MayWaits (th d L) (none : HIx 1) O ∗ ∃ W', ⌜∀ p ∈ W', p ∈ W ∨ p.2 = none⌝ ∗ owes (th d L) O W')

/-- A channel's slab in the volume, and a slot of the slab buffer, as the transfers name them. -/
abbrev srcIn (off : Fin 4 → ℕ) (inb : ∀ a, off a + S1x8x16x128.size a ≤ S64x32x128x128.size a)
    (hq : S1x8x16x128.Squeezes S8x16x128) : Memref sig .scVector .hbm S8x16x128 .f32 :=
  (xM.slice (Rect.unit (s := S64x32x128x128) off S1x8x16x128.size inb) (fun _ => rfl)).squeeze S8x16x128 hq

abbrev dstIn (off : Fin 4 → ℕ) (inb : ∀ a, off a + S1x8x16x128.size a ≤ S2x8x16x128.size a)
    (hq : S1x8x16x128.Squeezes S8x16x128) : Memref sig .scVector .vmem S8x16x128 .f32 :=
  (sM.slice (Rect.unit (s := S2x8x16x128) off S1x8x16x128.size inb) (fun _ => rfl)).squeeze S8x16x128 hq

omit [FloatOps F] in
theorem dstIn_set {b : ℕ} {off : Fin 4 → ℕ} {inb} {hq} (hoff : off = ![b, 0, 0, 0]) : (dstIn off inb hq).view.set = slotS b := by
  subst hoff
  show (((View.whole (cc0_scratch0 : Ref sig .scVector)).slice (Rect.unit (s := S2x8x16x128) ![b, 0, 0, 0] S1x8x16x128.size inb)).reshape _ _).set = _
  rw [View.set_reshape, View.set_slice_whole]
  ext i
  rw [Rect.mem_set_unit, mem_slotS]
  constructor
  · intro h
    have h0 : b ≤ (i 0).val ∧ (i 0).val < b + 1 := h 0
    omega
  · intro h a
    match a with
    | 0 => show b ≤ (i 0).val ∧ (i 0).val < b + 1; omega
    | 1 => exact ⟨Nat.zero_le _, (i 1).isLt.trans_eq (Nat.zero_add 8).symm⟩
    | 2 => exact ⟨Nat.zero_le _, (i 2).isLt.trans_eq (Nat.zero_add 16).symm⟩
    | 3 => exact ⟨Nat.zero_le _, (i 3).isLt.trans_eq (Nat.zero_add 128).symm⟩

omit [FloatOps F] in
/-- What the transfer leaves in the slot is the slab. -/
theorem in_value (L : grid0.Coords) (f : S64x32x128x128.Idx → Elt F .f32) {b c : ℕ} {off offD : Fin 4 → ℕ} {inb inbD} {hq hq'}
    (hoff : off = ![c, dep L, row L, 0]) (hoffD : offD = ![b, 0, 0, 0]) (g : S2x8x16x128.Idx → Elt F .f32)
    (i : S2x8x16x128.Idx) (hi : i ∈ slotS b) :
    (dstIn offD inbD hq').view.write (Elt F) g ((srcIn off inb hq).view.read (Elt F) f) Finset.univ i = slabF f L c i := by
  rw [← dstIn_set (inb := inbD) (hq := hq') hoffD] at hi
  obtain ⟨y, -, rfl⟩ := Finset.mem_map.mp hi
  refine (View.write_emb_of_mem (Val := Elt F) (v := (dstIn offD inbD hq').view) g ((srcIn off inb hq).view.read (Elt F) f)
    (Finset.mem_univ y)).trans ?_
  subst hoff hoffD
  have z0 : (Shape.reshapeEquiv hq.numel_eq y 0).val < 1 := (Shape.reshapeEquiv hq.numel_eq y 0).isLt
  unfold slabF
  refine vol_eq f (x := (srcIn ![c, dep L, row L, 0] inb hq).view.emb y) ?_ ?_ ?_ ?_
  · show c + 1 * (Shape.reshapeEquiv _ y 0).val = c
    omega
  · show dep L + 1 * (Shape.reshapeEquiv _ y 1).val = dep L + (0 + 1 * (Shape.reshapeEquiv _ y 1).val)
    omega
  · show row L + 1 * (Shape.reshapeEquiv _ y 2).val = row L + (0 + 1 * (Shape.reshapeEquiv _ y 2).val)
    omega
  · show 0 + 1 * (Shape.reshapeEquiv _ y 3).val = 0 + 1 * (Shape.reshapeEquiv _ y 3).val
    rfl

set_option maxHeartbeats 1000000 in
/-- Starting the transfer of channel `c`'s slab. -/
theorem start_in (c : ℕ) (off offD : Fin 4 → ℕ) (inb : ∀ a, off a + S1x8x16x128.size a ≤ S64x32x128x128.size a)
    (inbD : ∀ a, offD a + S1x8x16x128.size a ≤ S2x8x16x128.size a) {hq hq'}
    {h1 : (srcIn off inb hq).view.WordExact} {h2} {h3}
    {k : PUnit → Prog (TpuEff nD τ sig (Elt F) Λ₀ (th d L).2) α}
    (hoff : off = ![c, dep L, row L, 0]) (hoffD : offD = ![b, 0, 0, 0])
    (h : iprop(InFl d L f q sm b c ∗ R) ⊢ WP (k ⟨⟩) Q) :
    iprop(InIdle d L f q sm b ∗ R)
      ⊢ WP (.op (.enqueueDma (srcIn off inb hq) (.here (dstIn offD inbD hq')) (.dma sm) h1 h2 h3) k) Q := by
  iintro ⟨HI, HR⟩
  unfold InIdle
  icases HI with ⟨Hx, ⟨%g, Hs⟩, Hv⟩
  ihave Hx := (pointsTo_split_subset (q := q) (Finset.subset_univ (srcIn off inb hq).view.set)).1 $$ Hx
  icases Hx with ⟨Hx, Hrest⟩
  iapply (Transfers.wp_dmaLocal (EC (F := F)) 𝒱₀ (th d L) none (src := srcIn off inb hq) (dst := dstIn offD inbD hq') (none : HIx 1) NIn
    (q := q) (fs := f) (Sd := slotS b) (fd := g) rfl (by decide) (dstIn_set hoffD).subset) $$ [Hx Hs Hv]
  · isplitl [Hx]; · iexact Hx
    isplitl [Hs]; · iexact Hs
    iexact Hv
  iintro Hfl
  iapply h
  isplitr [HR]
  · unfold InFl
    iexists (srcIn off inb hq).view.set
    isplitr [Hrest]
    · iapply (Transfers.Flight_mono (EC (F := F)) (th d L) (sep_mono_left ?hm)) $$ Hfl
      case hm =>
        unfold Slab
        refine Entails.of_eq (pointsTo_congr fun i hi => ?_)
        exact in_value L f hoff hoffD _ i hi
    · iexact Hrest
  · iexact HR

/-- The wait for it. -/
theorem wait_in {s' : Shape} {src : Memref sig .scVector .hbm s' .f32} (offD : Fin 4 → ℕ)
    (inbD : ∀ a, offD a + S1x8x16x128.size a ≤ S2x8x16x128.size a) {hq'} {h1 : src.view.WordExact} {h2}
    {k : PUnit → Prog (TpuEff nD τ sig (Elt F) Λ₀ (th d L).2) α}
    (h : iprop(Slab d L f b c ∗ (xLoc d ↦{q} (f : Buf (Elt F) (xLoc d))) ∗ semVal (th d L, SemLoc.dma sm) 0 ∗ Ob d L O W ∗ R) ⊢ WP (k ⟨⟩) Q) :
    iprop(InFl d L f q sm b c ∗ Ob d L O W ∗ R)
      ⊢ WP (.op (.waitDma2 sm src (dstIn offD inbD hq') h1 h2) k) Q := by
  iintro ⟨HI, HO, HR⟩
  unfold InFl Ob
  icases HI with ⟨%S, Hfl, Hrest⟩
  icases HO with ⟨#Hmw, ⟨%W', %hW, HO⟩⟩
  iapply (Transfers.wp_waitLocalO (EC (F := F)) 𝒱₀ (th d L) none (none : HIx 1) (N := NIn) ?hN) $$ [Hfl HO]
  case hN => exact rfl
  · isplitl [Hfl]; · iexact Hfl
    isplitl [HO]; · iexact HO
    iapply (Transfers.MayWaits.elim (SemLoc.dma sm)) $$ Hmw
  iintro ⟨⟨Hs, Hx⟩, Hv, HO⟩
  iapply h
  isplitl [Hs]; · iexact Hs
  isplitl [Hx Hrest]
  · iapply (pointsTo_split_subset (q := q) (Finset.subset_univ S)).2
    isplitl [Hx] <;> iassumption
  isplitl [Hv]; · iexact Hv
  isplitl [HO]
  · unfold Ob
    isplitr; · iexact Hmw
    iexists (insert (SemLoc.dma sm, none) W')
    isplitr
    · ipureintro
      intro p hp
      rcases Finset.mem_insert.mp hp with h | hp
      · exact Or.inr (congrArg Prod.snd h)
      · exact hW p hp
    · iexact HO
  · iexact HR

/-! ## The output transfers -/

/-- A slot of the patch buffer with no transfer under way. -/
def OutIdle (d : Dev nD) (L : grid0.Coords) (sm : DmaSem sig) (b : ℕ) : sProp 𝕄 :=
  iprop((∃ g : Buf (Elt F) (pLoc d L), pLoc d L ↦[slotP b]{fullShare} g) ∗ semVal (th d L, SemLoc.dma sm) 0)

/-- Channel `c` of the task's `t`-th patch in the result: at some contents, and at its right ones. -/
def OutCell (d : Dev nD) (L : grid0.Coords) (c : ℕ) (t : Fin 4) : sProp 𝕄 :=
  iprop(∃ g : Buf (Elt F) (oLoc d), oLoc d ↦[rowO (4 * wid L + t.val) c]{fullShare} g)
def OutDone (d : Dev nD) (L : grid0.Coords) (f : S64x32x128x128.Idx → Elt F .f32) (c : ℕ) (t : Fin 4) : sProp 𝕄 :=
  iprop(oLoc d ↦[rowO (4 * wid L + t.val) c]{fullShare} (outF f : Buf (Elt F) (oLoc d)))

/-- Patch `t` of channel `c` in the patch buffer, ready to go. -/
def Ready (d : Dev nD) (L : grid0.Coords) (f : S64x32x128x128.Idx → Elt F .f32) (b c : ℕ) (t : Fin 4) : sProp 𝕄 :=
  iprop(pLoc d L ↦[patS b t.val]{fullShare} (patF f L c : Buf (Elt F) (pLoc d L)))

/-- What the `t`-th transfer of channel `c` delivers: the channel of the patch in the result, and the patch's place in the
    buffer back. -/
def Deliv (d : Dev nD) (L : grid0.Coords) (f : S64x32x128x128.Idx → Elt F .f32) (b c : ℕ) (t : Fin 4) : sProp 𝕄 :=
  iprop(OutDone d L f c t ∗ Ready d L f b c t)

instance (d : Dev nD) (L : grid0.Coords) (f : S64x32x128x128.Idx → Elt F .f32) (b c : ℕ) (t : Fin 4) :
    Storable (upEmb : UEmb _ 𝕄) (Deliv d L f b c t) := by
  unfold Deliv OutDone Ready; infer_instance

/-- The first `j` of channel `c`'s four transfers are under way, the rest are ready to go. -/
def OutGo (d : Dev nD) (L : grid0.Coords) (f : S64x32x128x128.Idx → Elt F .f32) (sm : DmaSem sig) (b c j : ℕ) : sProp 𝕄 :=
  iprop(Transfers.Batch (EC (F := F)) (th d L) (.dma sm) (none : HIx 1) NOut (Deliv d L f b c) j 0
    ∗ bigSep (Transfers.pending j) fun t : Fin 4 => iprop(Ready d L f b c t ∗ OutCell (F := F) d L c t))

/-- All four are, and `u` of them have been waited for. -/
def OutFl (d : Dev nD) (L : grid0.Coords) (f : S64x32x128x128.Idx → Elt F .f32) (sm : DmaSem sig) (b c u : ℕ) : sProp 𝕄 :=
  Transfers.Batch (EC (F := F)) (th d L) (.dma sm) (none : HIx 1) NOut (Deliv d L f b c) 4 (u * NOut)

/-- A patch of the patch buffer, and a patch's channel in the result, as the transfers name them. -/
abbrev srcOut (off : Fin 3 → ℕ) (inb : ∀ a, off a + S1x1x2048.size a ≤ S2x4x2048.size a)
    (hq : S1x1x2048.Squeezes S2048) : Memref sig .scVector .vmem S2048 .f32 :=
  (pM.slice (Rect.unit (s := S2x4x2048) off S1x1x2048.size inb) (fun _ => rfl)).squeeze S2048 hq

abbrev dstOut (off : Fin 3 → ℕ) (inb : ∀ a, off a + S1x1x2048.size a ≤ S128x64x2048.size a)
    (hq : S1x1x2048.Squeezes S2048) : Memref sig .scVector .hbm S2048 .f32 :=
  (oM.slice (Rect.unit (s := S128x64x2048) off S1x1x2048.size inb) (fun _ => rfl)).squeeze S2048 hq

omit [FloatOps F] in
theorem srcOut_set {b t : ℕ} {off : Fin 3 → ℕ} {inb} {hq} (hoff : off = ![b, t, 0]) : (srcOut off inb hq).view.set = patS b t := by
  subst hoff
  show (((View.whole (cc0_scratch1 : Ref sig .scVector)).slice (Rect.unit (s := S2x4x2048) ![b, t, 0] S1x1x2048.size inb)).reshape _ _).set = _
  rw [View.set_reshape, View.set_slice_whole]
  ext i
  rw [Rect.mem_set_unit, mem_patS]
  constructor
  · intro h
    have h0 : b ≤ (i 0).val ∧ (i 0).val < b + 1 := h 0
    have h1 : t ≤ (i 1).val ∧ (i 1).val < t + 1 := h 1
    omega
  · rintro ⟨h0, h1⟩ a
    match a with
    | 0 => show b ≤ (i 0).val ∧ (i 0).val < b + 1; omega
    | 1 => show t ≤ (i 1).val ∧ (i 1).val < t + 1; omega
    | 2 => exact ⟨Nat.zero_le _, (i 2).isLt.trans_eq (Nat.zero_add 2048).symm⟩

omit [FloatOps F] in
theorem dstOut_set {n c : ℕ} {off : Fin 3 → ℕ} {inb} {hq} (hoff : off = ![n, c, 0]) : (dstOut off inb hq).view.set = rowO n c := by
  subst hoff
  show (((View.whole (main_v0_0_scv : Ref sig .scVector)).slice (Rect.unit (s := S128x64x2048) ![n, c, 0] S1x1x2048.size inb)).reshape _ _).set = _
  rw [View.set_reshape, View.set_slice_whole]
  ext i
  rw [Rect.mem_set_unit, mem_rowO]
  constructor
  · intro h
    have h0 : n ≤ (i 0).val ∧ (i 0).val < n + 1 := h 0
    have h1 : c ≤ (i 1).val ∧ (i 1).val < c + 1 := h 1
    omega
  · rintro ⟨h0, h1⟩ a
    match a with
    | 0 => show n ≤ (i 0).val ∧ (i 0).val < n + 1; omega
    | 1 => show c ≤ (i 1).val ∧ (i 1).val < c + 1; omega
    | 2 => exact ⟨Nat.zero_le _, (i 2).isLt.trans_eq (Nat.zero_add 2048).symm⟩

omit [FloatOps F] in
/-- What the transfer leaves in the result is what the result is to hold. -/
theorem out_value (L : grid0.Coords) (f : S64x32x128x128.Idx → Elt F .f32) {b c t : ℕ} (ht : t < 4) {off offD : Fin 3 → ℕ} {inb inbD} {hq hq'}
    (hoff : off = ![b, t, 0]) (hoffD : offD = ![4 * wid L + t, c, 0]) (g : S128x64x2048.Idx → Elt F .f32)
    (i : S128x64x2048.Idx) (hi : i ∈ rowO (4 * wid L + t) c) :
    (dstOut offD inbD hq').view.write (Elt F) g ((srcOut off inb hq).view.read (Elt F) (patF f L c)) Finset.univ i = outF f i := by
  rw [← dstOut_set (inb := inbD) (hq := hq') hoffD] at hi
  obtain ⟨y, -, rfl⟩ := Finset.mem_map.mp hi
  refine (View.write_emb_of_mem (Val := Elt F) (v := (dstOut offD inbD hq').view) g ((srcOut off inb hq).view.read (Elt F) (patF f L c))
    (Finset.mem_univ y)).trans ?_
  subst hoff hoffD
  have z0 : (Shape.reshapeEquiv hq.numel_eq y 0).val < 1 := (Shape.reshapeEquiv hq.numel_eq y 0).isLt
  have z1 : (Shape.reshapeEquiv hq.numel_eq y 1).val < 1 := (Shape.reshapeEquiv hq.numel_eq y 1).isLt
  generalize hz : Shape.reshapeEquiv hq.numel_eq y = z at z0 z1
  have hd : ∀ a, ((dstOut ![4 * wid L + t, c, 0] inbD hq').view.emb y a).val = ![4 * wid L + t, c, 0] a + 1 * (z a).val := by
    intro a; rw [← hz]; rfl
  have hs : ∀ a, ((srcOut ![b, t, 0] inb hq).view.emb y a).val = ![b, t, 0] a + 1 * (z a).val := by
    intro a; rw [← hz]; rfl
  show patF f L c ((srcOut ![b, t, 0] inb hq).view.emb y) = outF f ((dstOut ![4 * wid L + t, c, 0] inbD hq').view.emb y)
  unfold patF outF
  have d0 : ((dstOut ![4 * wid L + t, c, 0] inbD hq').view.emb y 0).val = 4 * wid L + t + 1 * (z 0).val := hd 0
  have d1 : ((dstOut ![4 * wid L + t, c, 0] inbD hq').view.emb y 1).val = c + 1 * (z 1).val := hd 1
  have d2 : ((dstOut ![4 * wid L + t, c, 0] inbD hq').view.emb y 2).val = 0 + 1 * (z 2).val := hd 2
  have s1 : ((srcOut ![b, t, 0] inb hq).view.emb y 1).val = t + 1 * (z 1).val := hs 1
  have s2 : ((srcOut ![b, t, 0] inb hq).view.emb y 2).val = 0 + 1 * (z 2).val := hs 2
  rw [d0, d1, d2, s1, s2, Nat.lt_one_iff.mp z0, Nat.lt_one_iff.mp z1]
  simp only [Nat.mul_zero, Nat.add_zero]
  obtain ⟨p0, p1, p2⟩ := place L ht
  rw [p0, p1, p2]

/-- With its slot filled and the result's cells at hand, channel `c`'s four transfers may start. -/
theorem out_ready : iprop(Part d L f b c 512 ∗ semVal (th d L, SemLoc.dma sm) 0 ∗ bigSep Finset.univ (OutCell (F := F) d L c))
    ⊢ |={Set.univ}=> OutGo d L f sm b c 0 := by
  iintro ⟨Hp, Hv, Ho⟩
  unfold Part
  icases Hp with ⟨%g, %hg, Hp⟩
  imod (Transfers.batch_alloc' (EC (F := F)) (th d L) (none : HIx 1) NOut (Deliv d L f b c)) $$ Hv with Hb
  imodintro
  unfold OutGo
  isplitl [Hb]; · iexact Hb
  rw [Transfers.pending_zero, bigSep_sep']
  isplitl [Hp]
  · unfold Ready
    rw [← pointsTo_biUnion (ℓ := pLoc d L) Finset.univ (fun t : Fin 4 => (patS b t.val : Finset (Idx (pLoc d L)))) (patS_disjoint b)]
    iapply (Entails.of_eq ?he) $$ Hp
    case he =>
      rw [slotP_eq]
      refine pointsTo_congr fun (j : S2x4x2048.Idx) hj => ?_
      have hj' : (j 0).val = b := by
        rw [← slotP_eq] at hj
        exact mem_slotP.mp hj
      have j1 : (j 1).val < 4 := (j 1).isLt
      have j2 : (j 2).val < 2048 := (j 2).isLt
      exact hg j hj' (by omega)
  · iexact Ho

/-- Starting the next of the four. -/
theorem start_out (j : ℕ) (j' : ℕ) (off offD : Fin 3 → ℕ) (inb : ∀ a, off a + S1x1x2048.size a ≤ S2x4x2048.size a)
    (inbD : ∀ a, offD a + S1x1x2048.size a ≤ S128x64x2048.size a) {hq hq'}
    {h1 : (srcOut off inb hq).view.WordExact} {h2} {h3}
    {k : PUnit → Prog (TpuEff nD τ sig (Elt F) Λ₀ (th d L).2) α}
    (hj : j < 4) (hj' : j + 1 = j') (hoff : off = ![b, j, 0]) (hoffD : offD = ![4 * wid L + j, c, 0])
    (h : iprop(OutGo d L f sm b c j' ∗ R) ⊢ WP (k ⟨⟩) Q) :
    iprop(OutGo d L f sm b c j ∗ R)
      ⊢ WP (.op (.enqueueDma (srcOut off inb hq) (.here (dstOut offD inbD hq')) (.dma sm) h1 h2 h3) k) Q := by
  subst hj'
  iintro ⟨HG, HR⟩
  unfold OutGo
  icases HG with ⟨Hb, Hr⟩
  ihave Hr := (show bigSep (Transfers.pending j) (fun t : Fin 4 => iprop(Ready d L f b c t ∗ OutCell (F := F) d L c t))
      ⊢ iprop((Ready d L f b c ⟨j, hj⟩ ∗ OutCell (F := F) d L c ⟨j, hj⟩)
        ∗ bigSep (Transfers.pending (j + 1)) (fun t : Fin 4 => iprop(Ready d L f b c t ∗ OutCell (F := F) d L c t)))
    from Entails.of_eq (by rw [Transfers.pending_succ hj, bigSep_insert (Transfers.not_mem_pending_succ hj)]; rfl)) $$ Hr
  icases Hr with ⟨⟨Hp, Ho⟩, Hr⟩
  unfold Ready OutCell
  icases Ho with ⟨%g, Ho⟩
  ihave Hp := (Entails.of_eq (show (pLoc d L ↦[patS b j]{fullShare} (patF f L c : Buf (Elt F) (pLoc d L)) : sProp 𝕄)
    = pLoc d L ↦[(srcOut off inb hq).view.set]{fullShare} (patF f L c : Buf (Elt F) (pLoc d L)) by rw [srcOut_set hoff])) $$ Hp
  iapply (Transfers.wp_dmaBatch (EC (F := F)) 𝒱₀ (th d L) none (src := srcOut off inb hq) (dst := dstOut offD inbD hq') (none : HIx 1) NOut
    (q := fullShare) (fs := patF f L c) (Sd := rowO (4 * wid L + j) c) (fd := g) (D := Deliv d L f b c) (u := 0) rfl (dstOut_set hoffD).subset hj
    (Nat.zero_le _) ?hD) $$ [Hp Ho Hb]
  case hD =>
    unfold Deliv OutDone Ready
    refine sep_mono (Entails.of_eq (pointsTo_congr fun i hi => ?_)) (Entails.of_eq ?_)
    · exact out_value L f hj hoff hoffD _ i hi
    · rw [srcOut_set hoff]
  · isplitl [Hp]; · iexact Hp
    isplitl [Ho]; · iexact Ho
    iexact Hb
  iintro Hb
  iapply h
  isplitr [HR]
  · unfold OutGo
    isplitl [Hb]; · iexact Hb
    iexact Hr
  · iexact HR

/-- All four started. -/
theorem out_started : OutGo d L f sm b c 4 ⊢ OutFl d L f sm b c 0 := by
  unfold OutGo OutFl
  rw [Nat.zero_mul]
  exact sep_elim_left

theorem NOut_pos : 0 < NOut := by decide

/-- A wait for one of the four that is not the last. -/
theorem wait_out (u : ℕ) (u' : ℕ) {s' : Shape} {src : Memref sig .scVector .vmem s' .f32} {offD : Fin 3 → ℕ}
    {inbD : ∀ a, offD a + S1x1x2048.size a ≤ S128x64x2048.size a} {hq'} {h1 : src.view.WordExact} {h2}
    {k : PUnit → Prog (TpuEff nD τ sig (Elt F) Λ₀ (th d L).2) α} (hu : u < 3) (hu' : u + 1 = u')
    (h : iprop(OutFl d L f sm b c u' ∗ Ob d L O W ∗ R) ⊢ WP (k ⟨⟩) Q) :
    iprop(OutFl d L f sm b c u ∗ Ob d L O W ∗ R)
      ⊢ WP (.op (.waitDma2 sm src (dstOut offD inbD hq') h1 h2) k) Q := by
  subst hu'
  iintro ⟨HI, HO, HR⟩
  unfold OutFl Ob
  icases HO with ⟨#Hmw, ⟨%W', %hW, HO⟩⟩
  iapply (Transfers.wp_waitBatchO (EC (F := F)) 𝒱₀ (th d L) none (none : HIx 1) (N := NOut) (D := Deliv d L f b c) (u := u * NOut) rfl ?hu) $$ [HI HO]
  case hu => have := NOut_pos; generalize NOut = N at *; nlinarith
  · isplitl [HI]; · iexact HI
    isplitl [HO]; · iexact HO
    iapply (Transfers.MayWaits.elim (SemLoc.dma sm)) $$ Hmw
  iintro ⟨HI, HO⟩
  iapply h
  isplitl [HI]
  · unfold OutFl; rw [Nat.succ_mul]; iexact HI
  isplitl [HO]
  · unfold Ob
    isplitr; · iexact Hmw
    iexists (insert (SemLoc.dma sm, none) W')
    isplitr
    · ipureintro
      intro p hp
      rcases Finset.mem_insert.mp hp with h | hp
      · exact Or.inr (congrArg Prod.snd h)
      · exact hW p hp
    · iexact HO
  · iexact HR

/-- The wait for the last. -/
theorem wait_out_last {s' : Shape} {src : Memref sig .scVector .vmem s' .f32} {offD : Fin 3 → ℕ}
    {inbD : ∀ a, offD a + S1x1x2048.size a ≤ S128x64x2048.size a} {hq'} {h1 : src.view.WordExact} {h2}
    {k : PUnit → Prog (TpuEff nD τ sig (Elt F) Λ₀ (th d L).2) α}
    (h : iprop(OutIdle (F := F) d L sm b ∗ bigSep Finset.univ (OutDone d L f c) ∗ Ob d L O W ∗ R) ⊢ WP (k ⟨⟩) Q) :
    iprop(OutFl d L f sm b c 3 ∗ Ob d L O W ∗ R)
      ⊢ WP (.op (.waitDma2 sm src (dstOut offD inbD hq') h1 h2) k) Q := by
  iintro ⟨HI, HO, HR⟩
  unfold OutFl Ob
  icases HO with ⟨#Hmw, ⟨%W', %hW, HO⟩⟩
  iapply (Transfers.wp_waitBatchLastO (EC (F := F)) 𝒱₀ (th d L) none (none : HIx 1) (N := NOut) (D := Deliv d L f b c) (u := 3 * NOut) rfl NOut_pos ?hu) $$ [HI HO]
  case hu => generalize NOut = N; omega
  · isplitl [HI]; · iexact HI
    isplitl [HO]; · iexact HO
    iapply (Transfers.MayWaits.elim (SemLoc.dma sm)) $$ Hmw
  iintro ⟨HD, Hv, HO⟩
  ihave HD := (show bigSep Finset.univ (Deliv d L f b c) ⊢ iprop(bigSep Finset.univ (OutDone d L f c) ∗ bigSep Finset.univ (Ready d L f b c))
    from Entails.of_eq (bigSep_sep' _ _ _)) $$ HD
  icases HD with ⟨HD, Hr⟩
  iapply h
  isplitl [Hr Hv]
  · unfold OutIdle
    isplitl [Hr]
    · unfold Ready
      iexists (patF f L c : Buf (Elt F) (pLoc d L))
      rw [slotP_eq]
      iapply (Entails.of_eq (pointsTo_biUnion (ℓ := pLoc d L) Finset.univ (fun t : Fin 4 => (patS b t.val : Finset (Idx (pLoc d L)))) (patS_disjoint b)).symm) $$ Hr
    · iexact Hv
  isplitl [HD]; · iexact HD
  isplitl [HO]
  · unfold Ob
    isplitr; · iexact Hmw
    iexists (insert (SemLoc.dma sm, none) W')
    isplitr
    · ipureintro
      intro p hp
      rcases Finset.mem_insert.mp hp with h | hp
      · exact Or.inr (congrArg Prod.snd h)
      · exact hW p hp
    · iexact HO
  · iexact HR

end Rules

end Cert.Proof

end
-- ==== Proof.State.lean ====
/-
  The state of a task between two trips of its loop, and the conditions and offsets of a trip in closed form.

  Trip `t` handles channel `2 t` in the first slots and channel `2 t + 1` in the second. When it begins, both channels'
  slabs are on their way in (or none is, after the last trip), the patches of channels `2 t - 2` and `2 t - 1` are on their
  way out (or none is, before the first), the channels before those are in the result, and the channels from `2 t` on are
  still to be written there.
-/
module

public import proofs.«01_k».proof.Proof.Windows
public import proofs.«01_k».proof.Proof.Dma

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section State

variable {d : Dev nD} {L : grid0.Coords} {f : S64x32x128x128.Idx → Elt F .f32} {b c : ℕ} {q : PosShare TreeShare} {sm : DmaSem sig}

/-- An entailment by way of a third assertion. -/
theorem by_way {A G : sProp (MT nD τ sig (HIx 1) (Elt F) ℕ UU ℕ)} (B : sProp (MT nD τ sig (HIx 1) (Elt F) ℕ UU ℕ)) (h : A ⊢ B) (h' : B ⊢ G) : A ⊢ G :=
  h.trans h'

/-- The semaphores of the input's two slots and of the output's. -/
abbrev sinA : DmaSem sig := cc0_scratch3.sem
abbrev sinB : DmaSem sig := cc0_scratch4.sem
abbrev soutA : DmaSem sig := cc0_scratch5.sem
abbrev soutB : DmaSem sig := cc0_scratch6.sem

/-- The channels before `m` are in the result; the channels from `m` on have still to be written. -/
def OutFin (d : Dev nD) (L : grid0.Coords) (f : S64x32x128x128.Idx → Elt F .f32) (m : ℕ) : sProp 𝕄 :=
  bigSep (Finset.range m) fun c => bigSep Finset.univ (OutDone d L f c)
def OutTodo (d : Dev nD) (L : grid0.Coords) (m : ℕ) : sProp 𝕄 :=
  bigSep (Finset.Ico m 64) fun c => bigSep Finset.univ (OutCell (F := F) d L c)

theorem outFin_succ (m : ℕ) : iprop(OutFin d L f m ∗ bigSep Finset.univ (OutDone d L f m)) ⊢ OutFin d L f (m + 1) := by
  unfold OutFin
  rw [Finset.range_add_one, bigSep_insert Finset.notMem_range_self]
  exact sep_comm.1

theorem outTodo_next {m : ℕ} (hm : m < 64) :
    OutTodo (F := F) d L m ⊢ iprop(bigSep Finset.univ (OutCell (F := F) d L m) ∗ OutTodo (F := F) d L (m + 1)) := by
  unfold OutTodo
  rw [← Finset.insert_Ico_add_one_left_eq_Ico hm, bigSep_insert (by simp)]
  exact .rfl

/-- A share of the volume and an input semaphore at zero: what an input slot holds beside its buffer. -/
def Lent (d : Dev nD) (L : grid0.Coords) (f : S64x32x128x128.Idx → Elt F .f32) (q : PosShare TreeShare) (sm : DmaSem sig) : sProp 𝕄 :=
  iprop((xLoc d ↦{q} (f : Buf (Elt F) (xLoc d))) ∗ semVal (th d L, SemLoc.dma sm) 0)

/-- An input slot awaiting channel `c`, when there is one; an output slot at trip `t`. -/
def InSt (d : Dev nD) (L : grid0.Coords) (f : S64x32x128x128.Idx → Elt F .f32) (q : PosShare TreeShare) (sm : DmaSem sig) (b c : ℕ) : sProp 𝕄 :=
  if c < 64 then InFl d L f q sm b c else InIdle d L f q sm b
def OutSt (d : Dev nD) (L : grid0.Coords) (f : S64x32x128x128.Idx → Elt F .f32) (sm : DmaSem sig) (b t : ℕ) : sProp 𝕄 :=
  if t = 0 then OutIdle (F := F) d L sm b else OutFl d L f sm b (2 * t - 2 + b) 0

/-- A free output slot has no vector copied yet. -/
theorem outIdle_part : OutIdle (F := F) d L sm b ⊢ iprop(Part d L f b c 0 ∗ semVal (th d L, SemLoc.dma sm) 0) := by
  unfold OutIdle Part
  refine sep_mono_left ?_
  iintro ⟨%g, Hp⟩
  iexists g
  isplitr
  · ipureintro; exact fun _ _ h => absurd h (Nat.not_lt_zero _)
  · iexact Hp

/-- A landed slab is a free input slot again. -/
theorem slab_idle : iprop(Slab d L f b c ∗ Lent d L f q sm) ⊢ InIdle d L f q sm b := by
  unfold Slab Lent InIdle
  iintro ⟨Hs, Hx, Hv⟩
  isplitl [Hx]; · iexact Hx
  isplitl [Hs]; · iexists (slabF f L c : Buf (Elt F) (sLoc d L)); iexact Hs
  iexact Hv

theorem inSt_fl (hc : c < 64) : InFl d L f q sm b c ⊢ InSt d L f q sm b c := by
  unfold InSt; rw [if_pos hc]

theorem inSt_idle (hc : ¬ c < 64) : InIdle d L f q sm b ⊢ InSt d L f q sm b c := by
  unfold InSt; rw [if_neg hc]

/-! The state rearranged for the step that comes next. -/

variable {O : CellTallies nD τ sig (HIx 1)} {W : Waits sig (HIx 1)} {R : sProp (MT nD τ sig (HIx 1) (Elt F) ℕ UU ℕ)} {sm' : DmaSem sig} {m t : ℕ}

/-- A slab has landed; the slot's output transfers are to be waited for. -/
theorem landed_later (ht : 0 < t) :
    iprop(Slab d L f b c ∗ (xLoc d ↦{q} (f : Buf (Elt F) (xLoc d))) ∗ semVal (th d L, SemLoc.dma sm) 0 ∗ Ob (F := F) d L O W ∗ OutSt d L f sm' b t ∗ R)
      ⊢ iprop(OutFl d L f sm' b (2 * t - 2 + b) 0 ∗ Ob (F := F) d L O W ∗ (Slab d L f b c ∗ Lent d L f q sm ∗ R)) := by
  unfold OutSt Lent
  rw [if_neg (by omega)]
  iintro ⟨Hs, Hx, Hv, HO, Ho, HR⟩
  isplitl [Ho]; · iexact Ho
  isplitl [HO]; · iexact HO
  isplitl [Hs]; · iexact Hs
  isplitl [Hx Hv]; · isplitl [Hx] <;> iassumption
  iexact HR

/-- They have been: the channel they carried is in the result, and the slot can be filled. -/
theorem drained {k m' : ℕ} (hk : m = k) (hm : k + 1 = m') :
    iprop(OutIdle (F := F) d L sm' b ∗ bigSep Finset.univ (OutDone d L f k) ∗ Ob (F := F) d L O W
        ∗ (Slab d L f b c ∗ Lent d L f q sm ∗ OutFin d L f m ∗ R))
      ⊢ iprop(Copied d L f b c 0 ∗ (Lent d L f q sm ∗ Ob (F := F) d L O W ∗ semVal (th d L, SemLoc.dma sm') 0 ∗ OutFin d L f m' ∗ R)) := by
  subst hk hm
  iintro ⟨Ho, HD, HO, Hs, Hl, Hf, HR⟩
  ihave Ho := outIdle_part (f := f) (c := c) $$ Ho
  icases Ho with ⟨Hp, Hv⟩
  isplitl [Hs Hp]; · isplitl [Hs] <;> iassumption
  isplitl [Hl]; · iexact Hl
  isplitl [HO]; · iexact HO
  isplitl [Hv]; · iexact Hv
  isplitr [HR]
  · iapply outFin_succ
    isplitl [Hf] <;> iassumption
  · iexact HR

/-- A slab has landed on the first trip: there is nothing to wait for. -/
theorem landed_first (ht : t = 0) :
    iprop(Slab d L f b c ∗ (xLoc d ↦{q} (f : Buf (Elt F) (xLoc d))) ∗ semVal (th d L, SemLoc.dma sm) 0 ∗ Ob (F := F) d L O W ∗ OutSt d L f sm' b t ∗ R)
      ⊢ iprop(Copied d L f b c 0 ∗ (Lent d L f q sm ∗ Ob (F := F) d L O W ∗ semVal (th d L, SemLoc.dma sm') 0 ∗ R)) := by
  unfold OutSt Lent
  rw [if_pos ht]
  iintro ⟨Hs, Hx, Hv, HO, Ho, HR⟩
  ihave Ho := outIdle_part (f := f) (c := c) $$ Ho
  icases Ho with ⟨Hp, Hv'⟩
  isplitl [Hs Hp]; · isplitl [Hs] <;> iassumption
  isplitl [Hx Hv]; · isplitl [Hx] <;> iassumption
  isplitl [HO]; · iexact HO
  isplitl [Hv']; · iexact Hv'
  iexact HR

/-- A slot's output transfers have all started: its input slot is next. -/
theorem sent {A B : sProp (MT nD τ sig (HIx 1) (Elt F) ℕ UU ℕ)} : iprop(OutGo d L f sm b c 4 ∗ (A ∗ B)) ⊢ iprop(A ∗ (OutFl d L f sm b c 0 ∗ B)) := by
  iintro ⟨Hg, HA, HB⟩
  isplitl [HA]; · iexact HA
  isplitl [Hg]; · iapply out_started; iexact Hg
  iexact HB

/-- The other slot is next. -/
theorem turn {A B C D E G A' : sProp (MT nD τ sig (HIx 1) (Elt F) ℕ UU ℕ)} (h : A ⊢ A') :
    iprop(A ∗ (B ∗ (C ∗ D ∗ E ∗ G ∗ R))) ⊢ iprop(C ∗ D ∗ (E ∗ G ∗ (A' ∗ B ∗ R))) := by
  iintro ⟨HA, HB, HC, HD, HE, HG, HR⟩
  isplitl [HC]; · iexact HC
  isplitl [HD]; · iexact HD
  isplitl [HE]; · iexact HE
  isplitl [HG]; · iexact HG
  isplitl [HA]; · iapply h; iexact HA
  isplitl [HB] <;> iassumption

end State

/-! ## Conditions and offsets of a trip -/

theorem cond1_iff : ∀ t : Fin k0_t1_loop.trips, k0_cond1 t = 1#1 ↔ 0 < t.val := by decide +kernel
theorem cond2_iff : ∀ t : Fin k0_t1_loop.trips, k0_cond2 t = 1#1 ↔ 2 * t.val + 2 < 64 := by decide +kernel
theorem cond3_iff : ∀ t : Fin k0_t1_loop.trips, k0_cond3 t = 1#1 ↔ 0 < t.val := by decide +kernel
theorem cond4_iff : ∀ t : Fin k0_t1_loop.trips, k0_cond4 t = 1#1 ↔ 2 * t.val + 3 < 64 := by decide +kernel
theorem trips_eq : k0_t1_loop.trips = 32 := by decide +kernel

theorem off1_eq (L : grid0.Coords) : k0_off1 L = ![0, dep L, row L, 0] := by
  funext a
  match a with
  | 0 => rfl
  | 1 => rfl
  | 2 => rfl
  | 3 => rfl

theorem off2_all : ∀ (c : Fin 2) (s : Fin 16), k0_off2 (coordsV c s) = ![1, dep (coordsV c s), row (coordsV c s), 0] := by decide +kernel
theorem off2_eq (L : grid0.Coords) : k0_off2 L = ![1, dep L, row L, 0] := by
  have h := off2_all (L 0) (L 1)
  rwa [show coordsV (L 0) (L 1) = L from coordsV_eta L] at h

theorem off134_all : ∀ (c : Fin 2) (s : Fin 16) (t : Fin k0_t1_loop.trips),
    k0_off134 (coordsV c s) t = ![2 * t.val + 2, dep (coordsV c s), row (coordsV c s), 0] := by decide +kernel
theorem off134_eq (L : grid0.Coords) (t : Fin k0_t1_loop.trips) : k0_off134 L t = ![2 * t.val + 2, dep L, row L, 0] := by
  have h := off134_all (L 0) (L 1) t
  rwa [show coordsV (L 0) (L 1) = L from coordsV_eta L] at h

theorem off264_all : ∀ (c : Fin 2) (s : Fin 16) (t : Fin k0_t1_loop.trips),
    k0_off264 (coordsV c s) t = ![2 * t.val + 3, dep (coordsV c s), row (coordsV c s), 0] := by decide +kernel
theorem off264_eq (L : grid0.Coords) (t : Fin k0_t1_loop.trips) : k0_off264 L t = ![2 * t.val + 3, dep L, row L, 0] := by
  have h := off264_all (L 0) (L 1) t
  rwa [show coordsV (L 0) (L 1) = L from coordsV_eta L] at h

theorem off133_eq (L : grid0.Coords) (t : Fin k0_t1_loop.trips) (p : Fin 4) (b : Fin 2) :
    k0_off133 L t (BitVec.ofNat 32 p.val) (BitVec.ofNat 32 b.val) = ![4 * wid L + p.val, 2 * t.val + b.val, 0] := by
  rw [k0_off133_eq]
  unfold wid
  congr 1
  omega

end Cert.Proof

end
-- ==== Proof.Coords.lean ====
/-
  The coordinates: the first task writes the 128 patches' depths, then their rows, then their columns, sixteen at a time, into
  its coordinate buffer, and copies the buffer to the second result.
-/
module

public import proofs.«01_k».proof.Proof.Windows
public import proofs.«01_k».proof.Proof.State

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Where patch `n` lies along axis `a` of the volume. -/
def crd (n a : ℕ) : ℕ := if a = 0 then 8 * (sel n / 64) else if a = 1 then 16 * (sel n / 8 % 8) else 16 * (sel n % 8)

/-- The coordinates, axis by axis. -/
def coordF : S384.Idx → BitVec 32 := fun i => BitVec.ofNat 32 (crd ((i 0).val % 128) ((i 0).val / 128))

section Coords

variable {d : Dev nD} {L : grid0.Coords} {R : sProp (MT nD τ sig (HIx 1) (Elt F) ℕ UU ℕ)}
variable {O : CellTallies nD τ sig (HIx 1)} {W : Waits sig (HIx 1)}
variable {α : Type} {Q : α → sProp (MT nD τ sig (HIx 1) (Elt F) ℕ UU ℕ)}

local notation "WP" => wp frame (wpE (defs₀ (F := F)) 𝒱₀ (th d L) none) Set.univ

/-- The coordinate buffer after `k` of the 24 stores. -/
def Noted (d : Dev nD) (L : grid0.Coords) (k : ℕ) : sProp 𝕄 :=
  iprop(∃ g : Buf (Elt F) (qLoc d L), ⌜∀ i : S384.Idx, 3 * ((i 0).val % 128 / 16) + (i 0).val / 128 < k → g i = coordF i⌝ ∗ qLoc d L ↦{fullShare} g)

/-- A load of the coordinate buffer reads something. -/
theorem step_look (off : Fin 1 → ℕ) (inb : ∀ a, off a + S16.size a ≤ S384.size a) {k : ℕ}
    {hl : (qM : Memref sig .scVector .vmem S384 .i32).view.LoadsAt (Rect.unit (s := S384) off S16.size inb).toLoadRect}
    {kk : (S16.Idx → Elt F .i32) → Prog (TpuEff nD τ sig (Elt F) Λ₀ (th d L).2) α}
    (h : ∀ v, iprop(Noted (F := F) d L k ∗ R) ⊢ WP (kk v) Q) :
    iprop(Noted (F := F) d L k ∗ R)
      ⊢ WP (.op (.load (qM : Memref sig .scVector .vmem S384 .i32) (Rect.unit (s := S384) off S16.size inb).toLoadRect hl) kk) Q := by
  iintro ⟨Hp, HR⟩
  unfold Noted
  icases Hp with ⟨%g, %hg, Hp⟩
  iapply (wp_load 𝒱₀ (th d L) none Set.univ (m := (qM : Memref sig .scVector .vmem S384 .i32)) (S := Finset.univ) (f := g) (Finset.subset_univ _)) $$ Hp
  iintro Hp
  iapply (h _)
  isplitr [HR]
  · unfold Noted
    iexists g; isplitr; · ipureintro; exact hg
    iexact Hp
  · iexact HR

/-- The store of the `k`-th vector. -/
theorem step_note (k k' : ℕ) (off : Fin 1 → ℕ) (inb : ∀ a, off a + S16.size a ≤ S384.size a) {w : S16.Idx → BitVec 32}
    {hx : ((qM : Memref sig .scVector .vmem S384 .i32).access (Rect.unit (s := S384) off S16.size inb)).Stores Finset.univ}
    {hm : (Finset.univ : Finset S16.Idx) = Finset.univ ∨ ∀ a, (Rect.unit (s := S384) off S16.size inb).stride a = 1}
    {kk : PUnit → Prog (TpuEff nD τ sig (Elt F) Λ₀ (th d L).2) α}
    (hoff : off 0 = 128 * (k % 3) + 16 * (k / 3))
    (hw : ∀ x : S16.Idx, w x = BitVec.ofNat 32 (crd ((128 * (k % 3) + 16 * (k / 3) + (x 0).val) % 128) ((128 * (k % 3) + 16 * (k / 3) + (x 0).val) / 128)))
    (hk : k < 24) (hk' : k + 1 = k')
    (h : iprop(Noted (F := F) d L k' ∗ R) ⊢ WP (kk ⟨⟩) Q) :
    iprop(Noted (F := F) d L k ∗ R)
      ⊢ WP (.op (.store (qM : Memref sig .scVector .vmem S384 .i32) (Rect.unit (s := S384) off S16.size inb) w Finset.univ hx hm) kk) Q := by
  subst hk'
  iintro ⟨Hp, HR⟩
  unfold Noted
  icases Hp with ⟨%g, %hg, Hp⟩
  have hset : ∀ i : S384.Idx, i ∈ (Rect.unit (s := S384) off S16.size inb).set ↔ 3 * ((i 0).val % 128 / 16) + (i 0).val / 128 = k := by
    intro i
    rw [Rect.mem_set_unit]
    have i0 : (i 0).val < 384 := (i 0).isLt
    constructor
    · intro h
      have h0 : off 0 ≤ (i 0).val ∧ (i 0).val < off 0 + 16 := h 0
      omega
    · intro h0 a
      match a with
      | 0 => show off 0 ≤ (i 0).val ∧ (i 0).val < off 0 + 16; omega
  iapply (wp_store 𝒱₀ (th d L) none Set.univ (m := (qM : Memref sig .scVector .vmem S384 .i32)) (r := Rect.unit (s := S384) off S16.size inb) (S := Finset.univ) (f := g) (Finset.subset_univ _)) $$ Hp
  iintro Hp
  iapply h
  isplitr [HR]
  · unfold Noted
    iexists _; isplitr
    · ipureintro
      show ∀ i : S384.Idx, _ → ((qM : Memref sig .scVector .vmem S384 .i32).access (Rect.unit (s := S384) off S16.size inb) |>.write (Elt F) g w Finset.univ) i = coordF i
      intro j hj
      by_cases hjr : j ∈ (Rect.unit (s := S384) off S16.size inb).set
      · rw [← Rect.map_emb_univ] at hjr
        obtain ⟨x, -, rfl⟩ := Finset.mem_map.mp hjr
        refine (View.read_slice_write_emb (v := View.whole (cc0_scratch2 : Ref sig .scVector)) (Val := Elt F)
          (Rect.unit (s := S384) off S16.size inb) g _ (M := Finset.univ) (x := x) (Finset.mem_univ _)).trans ?_
        refine (hw x).trans ?_
        unfold coordF
        rw [show ((Rect.unit (s := S384) off S16.size inb).emb x 0).val = 128 * (k % 3) + 16 * (k / 3) + (x 0).val from by
          show off 0 + 1 * (x 0).val = _; omega]
      · refine (View.read_slice_write_of_not_mem (v := View.whole (cc0_scratch2 : Ref sig .scVector)) (Val := Elt F)
          (Rect.unit (s := S384) off S16.size inb) g _ Finset.univ (y := j) (by rwa [Rect.map_emb_univ])).trans ?_
        refine hg j ?_
        have := mt (hset j).mpr hjr
        omega
    iexact Hp
  · iexact HR

theorem note_begin (g : Buf (Elt F) (qLoc d L)) : (qLoc d L ↦{fullShare} g) ⊢ Noted (F := F) d L 0 := by
  unfold Noted
  iintro H
  iexists g
  isplitr
  · ipureintro; exact fun _ h => absurd h (Nat.not_lt_zero _)
  · iexact H

theorem note_end : Noted (F := F) d L 24 ⊢ (qLoc d L ↦{fullShare} (coordF : Buf (Elt F) (qLoc d L))) := by
  unfold Noted
  iintro ⟨%g, %hg, H⟩
  have e : g = (coordF : Buf (Elt F) (qLoc d L)) := by
    funext i
    refine hg i ?_
    have i0 : ((i : S384.Idx) 0).val < 384 := ((i : S384.Idx) 0).isLt
    omega
  rw [e]
  iexact H

theorem two_vecs {A : sProp (MT nD τ sig (HIx 1) (Elt F) ℕ UU ℕ)} {a a' b b' : S16.Idx → BitVec 32} {Q : (Σ' (_ : IVec S16 32), IVec S16 32) → sProp (MT nD τ sig (HIx 1) (Elt F) ℕ UU ℕ)}
    (ha : ∀ x, a x = a' x) (hb : ∀ x, b x = b' x) (h : A ⊢ Q ⟨a', b'⟩) : A ⊢ Q ⟨a, b⟩ := by
  rwa [show a = a' from funext ha, show b = b' from funext hb]

theorem three_vecs {A : sProp (MT nD τ sig (HIx 1) (Elt F) ℕ UU ℕ)} {a a' b b' c c' : S16.Idx → BitVec 32} {Q : (Σ' (_ : IVec S16 32) (_ : IVec S16 32), IVec S16 32) → sProp (MT nD τ sig (HIx 1) (Elt F) ℕ UU ℕ)}
    (ha : ∀ x, a x = a' x) (hb : ∀ x, b x = b' x) (hc : ∀ x, c x = c' x) (h : A ⊢ Q ⟨a', b', c'⟩) : A ⊢ Q ⟨a, b, c⟩ := by
  rwa [show a = a' from funext ha, show b = b' from funext hb, show c = c' from funext hc]

theorem vec_word {A : sProp (MT nD τ sig (HIx 1) (Elt F) ℕ UU ℕ)} {a a' : S16.Idx → BitVec 32} {b : BitVec 32} {Q : (Σ' (_ : IVec S16 32), BitVec 32) → sProp (MT nD τ sig (HIx 1) (Elt F) ℕ UU ℕ)}
    (ha : ∀ x, a x = a' x) (h : A ⊢ Q ⟨a', b⟩) : A ⊢ Q ⟨a, b⟩ := by
  rwa [show a = a' from funext ha]

set_option maxHeartbeats 2000000 in
set_option maxRecDepth 10000 in
/-- Patches 0 to 15. -/
theorem wp_part319 {Q : (Σ' (_ : IVec S16 32), IVec S16 32) → sProp (MT nD τ sig (HIx 1) (Elt F) ℕ UU ℕ)}
    (h : iprop(Noted (F := F) d L 3 ∗ R) ⊢ Q ⟨(fun x => BitVec.ofNat 32 (2 * (16 + (x 0).val))), (fun x => BitVec.ofNat 32 (16 + (x 0).val + 1))⟩) :
    iprop(Noted (F := F) d L 0 ∗ R) ⊢ WP (k0_part319 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0) Q := by
  unfold k0_part319
  iterate 3
    refine step_look _ _ fun _ => ?_
    refine step_note _ _ _ _ rfl (by decide +kernel) (by decide) rfl ?_
  exact step_ret (two_vecs (by decide +kernel) (by decide +kernel) h)

set_option maxHeartbeats 2000000 in
set_option maxRecDepth 10000 in
/-- Patches 16 to 31. -/
theorem wp_part320 {Q : (Σ' (_ : IVec S16 32), IVec S16 32) → sProp (MT nD τ sig (HIx 1) (Elt F) ℕ UU ℕ)}
    (h : iprop(Noted (F := F) d L 6 ∗ R) ⊢ Q ⟨(fun x => BitVec.ofNat 32 (sel (32 + (x 0).val))), (fun x => BitVec.ofNat 32 (crd (32 + (x 0).val) 0))⟩) :
    iprop(Noted (F := F) d L 3 ∗ R) ⊢ WP (k0_part320 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 (fun x => BitVec.ofNat 32 (2 * (16 + (x 0).val))) (fun x => BitVec.ofNat 32 (16 + (x 0).val + 1))) Q := by
  unfold k0_part320
  iterate 3
    refine step_look _ _ fun _ => ?_
    refine step_note _ _ _ _ rfl (by decide +kernel) (by decide) rfl ?_
  exact step_ret (two_vecs (by decide +kernel) (by decide +kernel) h)

set_option maxHeartbeats 2000000 in
set_option maxRecDepth 10000 in
/-- Patches 32 to 47, and the depths of the next sixteen. -/
theorem wp_part321 {Q : (Σ' (_ : IVec S16 32) (_ : IVec S16 32), IVec S16 32) → sProp (MT nD τ sig (HIx 1) (Elt F) ℕ UU ℕ)}
    (h : iprop(Noted (F := F) d L 10 ∗ R) ⊢ Q ⟨(fun x => BitVec.ofNat 32 (sel (48 + (x 0).val))), (fun x => BitVec.ofNat 32 (sel (48 + (x 0).val) / 8)), (fun _ => 7#32)⟩) :
    iprop(Noted (F := F) d L 6 ∗ R) ⊢ WP (k0_part321 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 (fun x => BitVec.ofNat 32 (sel (32 + (x 0).val))) (fun x => BitVec.ofNat 32 (crd (32 + (x 0).val) 0))) Q := by
  unfold k0_part321
  iterate 4
    refine step_look _ _ fun _ => ?_
    refine step_note _ _ _ _ rfl (by decide +kernel) (by decide) rfl ?_
  exact step_ret (three_vecs (by decide +kernel) (by decide +kernel) (by decide +kernel) h)

set_option maxHeartbeats 2000000 in
set_option maxRecDepth 10000 in
/-- The rest of patches 48 to 63, and the depths and rows of the next sixteen. -/
theorem wp_part322 {Q : (Σ' (_ : IVec S16 32), BitVec 32) → sProp (MT nD τ sig (HIx 1) (Elt F) ℕ UU ℕ)}
    (h : iprop(Noted (F := F) d L 14 ∗ R) ⊢ Q ⟨(fun x => BitVec.ofNat 32 (sel (64 + (x 0).val))), 7#32⟩) :
    iprop(Noted (F := F) d L 10 ∗ R) ⊢ WP (k0_part322 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 (fun x => BitVec.ofNat 32 (sel (48 + (x 0).val))) (fun x => BitVec.ofNat 32 (sel (48 + (x 0).val) / 8)) (fun _ => 7#32)) Q := by
  unfold k0_part322
  iterate 4
    refine step_look _ _ fun _ => ?_
    refine step_note _ _ _ _ rfl (by decide +kernel) (by decide) rfl ?_
  exact step_ret (vec_word (by decide +kernel) h)

set_option maxHeartbeats 2000000 in
set_option maxRecDepth 10000 in
/-- The columns of patches 64 to 79, and patches 80 to 95. -/
theorem wp_part323 {Q : (PUnit) → sProp (MT nD τ sig (HIx 1) (Elt F) ℕ UU ℕ)}
    (h : iprop(Noted (F := F) d L 18 ∗ R) ⊢ Q ⟨⟩) :
    iprop(Noted (F := F) d L 14 ∗ R) ⊢ WP (k0_part323 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 (fun x => BitVec.ofNat 32 (sel (64 + (x 0).val))) 7#32) Q := by
  unfold k0_part323
  iterate 4
    refine step_look _ _ fun _ => ?_
    refine step_note _ _ _ _ rfl (by decide +kernel) (by decide) rfl ?_
  exact step_ret h

set_option maxHeartbeats 2000000 in
set_option maxRecDepth 10000 in
/-- Patches 96 to 111. -/
theorem wp_part324 {Q : (Σ' (_ : IVec S16 32), IVec S16 32) → sProp (MT nD τ sig (HIx 1) (Elt F) ℕ UU ℕ)}
    (h : iprop(Noted (F := F) d L 21 ∗ R) ⊢ Q ⟨(fun x => BitVec.ofNat 32 (2 * (112 + (x 0).val))), (fun x => BitVec.ofNat 32 (112 + (x 0).val + 1))⟩) :
    iprop(Noted (F := F) d L 18 ∗ R) ⊢ WP (k0_part324 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0) Q := by
  unfold k0_part324
  iterate 3
    refine step_look _ _ fun _ => ?_
    refine step_note _ _ _ _ rfl (by decide +kernel) (by decide) rfl ?_
  exact step_ret (two_vecs (by decide +kernel) (by decide +kernel) h)

end Coords

end Cert.Proof

end
-- ==== Proof.Trip.lean ====
/-
  How a trip begins with a slot, and how it ends with one.

  It waits for the slot's slab and, after the first trip, for the four output transfers the slot's patches left by. Once all of
  the slab is copied the four output transfers may start again.
-/
module

public import proofs.«01_k».proof.Proof.State

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Trip

variable {d : Dev nD} {L : grid0.Coords} {f : S64x32x128x128.Idx → Elt F .f32} {q q' : PosShare TreeShare}
variable {O : CellTallies nD τ sig (HIx 1)} {W : Waits sig (HIx 1)} {R : sProp (MT nD τ sig (HIx 1) (Elt F) ℕ UU ℕ)}

local notation "WP" => wp frame (wpE (defs₀ (F := F)) 𝒱₀ (th d L) none) Set.univ

/-- The waits at the head of a trip, and the first copying step and half of the second. -/
theorem wp_part3 (v1 c0 c1 : BitVec 32) (t : Fin k0_t1_loop.trips)
    {Q : (Σ' (_ : BitVec 32) (_ : BitVec 32) (_ : FVec F S16 .f32) (_ : BitVec 32), BitVec 32) → sProp (MT nD τ sig (HIx 1) (Elt F) ℕ UU ℕ)}
    (h : ∀ a b e e', iprop(Copied d L f 0 (2 * t.val) 1
        ∗ (Lent d L f q sinA ∗ Ob (F := F) d L O W ∗ semVal (th d L, SemLoc.dma soutA) 0 ∗ OutFin d L f (2 * t.val - 1) ∗ R))
      ⊢ Q ⟨a, b, shapeCast S16 (ld L f (2 * t.val) ![0, 0, 1, 0] inb_S2x8x16x128_S1x1x1x16_0_0_1_0) shapeCasts_S1x1x1x16_S16, e, e'⟩) :
    iprop(InFl d L f q sinA 0 (2 * t.val) ∗ Ob (F := F) d L O W ∗ OutSt d L f soutA 0 t.val ∗ OutFin d L f (2 * t.val - 2) ∗ R)
      ⊢ WP (k0_part3 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 v1 c0 c1 t) Q := by
  unfold k0_part3
  by_cases hc : k0_cond1 t = 1#1
  · have ht := (cond1_iff t).mp hc
    simp only [hc, ↓reduceDIte]
    refine wait_in _ _ ?_
    refine (landed_later ht).trans ?_
    refine wait_out 0 1 (by decide) rfl ?_
    refine wait_out 1 2 (by decide) rfl ?_
    refine wait_out 2 3 (by decide) rfl ?_
    refine wait_out_last ?_
    refine (drained (m' := 2 * t.val - 1) (by omega) (by omega)).trans ?_
    refine step_read _ _ rfl ?_
    refine step_skip _ _ rfl fun _ => ?_
    refine step_write 1 _ _ _ _ rfl rfl rfl (by decide) rfl ?_
    refine step_read _ _ rfl ?_
    exact step_ret (h _ _ _ _)
  · have ht : t.val = 0 := by have := mt (cond1_iff t).mpr hc; omega
    simp only [hc, ↓reduceDIte]
    rw [show 2 * t.val - 1 = 2 * t.val - 2 by omega] at h
    refine wait_in _ _ ?_
    refine (landed_first ht).trans ?_
    refine step_read _ _ rfl ?_
    refine step_skip _ _ rfl fun _ => ?_
    refine step_write 1 _ _ _ _ rfl rfl rfl (by decide) rfl ?_
    refine step_read _ _ rfl ?_
    exact step_ret (h _ _ _ _)

set_option maxHeartbeats 4000000 in
set_option maxRecDepth 10000 in
/-- The first stretch: the waits, and steps 0 to 198 of the first slot. -/
theorem wp_part313 (v1 c0 c1 : BitVec 32) (t : Fin k0_t1_loop.trips)
    {Q : (Σ' (_ : BitVec 32) (_ : BitVec 32), BitVec 32) → sProp (MT nD τ sig (HIx 1) (Elt F) ℕ UU ℕ)}
    (h : ∀ v, iprop(Copied d L f 0 (2 * t.val) 198
        ∗ (Lent d L f q sinA ∗ Ob (F := F) d L O W ∗ semVal (th d L, SemLoc.dma soutA) 0 ∗ OutFin d L f (2 * t.val - 1) ∗ R)) ⊢ Q v) :
    iprop(InFl d L f q sinA 0 (2 * t.val) ∗ Ob (F := F) d L O W ∗ OutSt d L f soutA 0 t.val ∗ OutFin d L f (2 * t.val - 2) ∗ R)
      ⊢ WP (k0_part313 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 v1 c0 c1 t) Q := by
  unfold k0_part313
  rw [wp_bind]
  refine wp_part3 v1 c0 c1 t fun a b e e' => ?_
  refine step_skip _ _ rfl fun _ => ?_
  refine step_write 2 _ _ _ _ rfl rfl rfl (by decide) rfl ?_
  iterate 196
    refine step_read _ _ rfl ?_
    refine step_skip _ _ rfl fun _ => ?_
    refine step_write _ _ _ _ _ rfl rfl rfl (by decide) (by simp only [Nat.reduceAdd]; rfl) ?_
  exact step_ret (h _)

/-- With a slot filled, its output transfers may start. -/
theorem start_four {b m : ℕ} {sm sm' : DmaSem sig} (hm : m < 64) {α : Type} {p : Prog (TpuEff nD τ sig (Elt F) Λ₀ (th d L).2) α} {Q : α → sProp (MT nD τ sig (HIx 1) (Elt F) ℕ UU ℕ)}
    (h : iprop(OutGo d L f sm b m 0 ∗ (InIdle d L f q sm' b ∗ OutTodo (F := F) d L (m + 1) ∗ R)) ⊢ WP p Q) :
    iprop(Copied d L f b m 512 ∗ (Lent d L f q sm' ∗ semVal (th d L, SemLoc.dma sm) 0 ∗ OutTodo (F := F) d L m ∗ R)) ⊢ WP p Q := by
  iintro ⟨⟨Hs, Hp⟩, Hl, Hv, Ht, HR⟩
  ihave Ht := outTodo_next hm $$ Ht
  icases Ht with ⟨Ho, Ht⟩
  imod (out_ready (L := L) (f := f) (b := b) (c := m) (sm := sm)) $$ [Hp Hv Ho] with Hg
  · isplitl [Hp]; · iexact Hp
    isplitl [Hv] <;> iassumption
  iapply h
  isplitl [Hg]; · iexact Hg
  isplitl [Hs Hl]
  · iapply slab_idle
    isplitl [Hs] <;> iassumption
  isplitl [Ht] <;> iassumption

end Trip

end Cert.Proof

end
-- ==== Proof.Turn.lean ====
/-
  Where a trip turns from the first slot to the second.

  The last output transfers of the first slot start, then the input transfer of the channel after next, unless there is none.
  Then the second slot's slab is waited for and, after the first trip, the four output transfers its patches left by.
-/
module

public import proofs.«01_k».proof.Proof.Trip

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Turn

variable {d : Dev nD} {L : grid0.Coords} {f : S64x32x128x128.Idx → Elt F .f32} {q q' : PosShare TreeShare}
variable {O : CellTallies nD τ sig (HIx 1)} {W : Waits sig (HIx 1)} {R : sProp (MT nD τ sig (HIx 1) (Elt F) ℕ UU ℕ)}

local notation "WP" => wp frame (wpE (defs₀ (F := F)) 𝒱₀ (th d L) none) Set.univ

set_option maxHeartbeats 4000000 in
/-- From the third output transfer of the first slot to the second slot's waits. -/
theorem wp_part158 (v1 v111 v112 : BitVec 32) (t : Fin k0_t1_loop.trips)
    {Q : (Σ' (_ : BitVec 32), BitVec 32) → sProp (MT nD τ sig (HIx 1) (Elt F) ℕ UU ℕ)}
    (h : ∀ v, iprop(Copied d L f 1 (2 * t.val + 1) 0
        ∗ (Lent d L f q' sinB ∗ Ob (F := F) d L O W ∗ semVal (th d L, SemLoc.dma soutB) 0 ∗ OutFin d L f (2 * t.val)
          ∗ InSt d L f q sinA 0 (2 * t.val + 2) ∗ OutFl d L f soutA 0 (2 * t.val) 0 ∗ R)) ⊢ Q v) :
    iprop(OutGo d L f soutA 0 (2 * t.val) 2 ∗ (InIdle d L f q sinA 0 ∗ InFl d L f q' sinB 1 (2 * t.val + 1) ∗ Ob (F := F) d L O W
        ∗ OutSt d L f soutB 1 t.val ∗ OutFin d L f (2 * t.val - 1) ∗ R))
      ⊢ WP (k0_part158 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 v1 t v111 v112) Q := by
  unfold k0_part158
  by_cases h3 : k0_cond3 t = 1#1
  · have ht := (cond3_iff t).mp h3
    by_cases h2 : k0_cond2 t = 1#1
    · simp only [h2, h3, ↓reduceDIte]
      refine start_out 2 3 _ _ _ _ (by decide) rfl rfl (off133_eq L t 2 0) ?_
      refine start_out 3 4 _ _ _ _ (by decide) rfl rfl (off133_eq L t 3 0) ?_
      refine sent.trans ?_
      refine start_in _ _ _ _ _ (off134_eq L t) rfl ?_
      refine (turn (inSt_fl ((cond2_iff t).mp h2))).trans ?_
      refine wait_in _ _ ?_
      refine (landed_later ht).trans ?_
      refine wait_out 0 1 (by decide) rfl ?_
      refine wait_out 1 2 (by decide) rfl ?_
      refine wait_out 2 3 (by decide) rfl ?_
      refine wait_out_last ?_
      refine (drained (m' := 2 * t.val) (by omega) (by omega)).trans ?_
      exact step_ret (h _)
    · simp only [h2, h3, ↓reduceDIte]
      refine start_out 2 3 _ _ _ _ (by decide) rfl rfl (off133_eq L t 2 0) ?_
      refine start_out 3 4 _ _ _ _ (by decide) rfl rfl (off133_eq L t 3 0) ?_
      refine sent.trans ?_
      refine (turn (inSt_idle (mt (cond2_iff t).mpr h2))).trans ?_
      refine wait_in _ _ ?_
      refine (landed_later ht).trans ?_
      refine wait_out 0 1 (by decide) rfl ?_
      refine wait_out 1 2 (by decide) rfl ?_
      refine wait_out 2 3 (by decide) rfl ?_
      refine wait_out_last ?_
      refine (drained (m' := 2 * t.val) (by omega) (by omega)).trans ?_
      exact step_ret (h _)
  · have ht : t.val = 0 := by have := mt (cond3_iff t).mpr h3; omega
    have h2 : k0_cond2 t = 1#1 := (cond2_iff t).mpr (by omega)
    simp only [h2, h3, ↓reduceDIte]
    rw [show 2 * t.val - 1 = 2 * t.val by omega]
    refine start_out 2 3 _ _ _ _ (by decide) rfl rfl (off133_eq L t 2 0) ?_
    refine start_out 3 4 _ _ _ _ (by decide) rfl rfl (off133_eq L t 3 0) ?_
    refine sent.trans ?_
    refine start_in _ _ _ _ _ (off134_eq L t) rfl ?_
    refine (turn (inSt_fl ((cond2_iff t).mp h2))).trans ?_
    refine wait_in _ _ ?_
    refine (landed_first ht).trans ?_
    exact step_ret (h _)

end Turn

end Cert.Proof

end
-- ==== Proof.Middle.lean ====
/-
  The stretch of a trip in which the first slot's copying ends and the second slot's begins.
-/
module

public import proofs.«01_k».proof.Proof.Turn

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Middle

variable {d : Dev nD} {L : grid0.Coords} {f : S64x32x128x128.Idx → Elt F .f32} {q q' : PosShare TreeShare}
variable {O : CellTallies nD τ sig (HIx 1)} {W : Waits sig (HIx 1)} {R : sProp (MT nD τ sig (HIx 1) (Elt F) ℕ UU ℕ)}

local notation "WP" => wp frame (wpE (defs₀ (F := F)) 𝒱₀ (th d L) none) Set.univ

/-- What `k` does with the result of `p` is a condition to run `p` for. -/
theorem step_bind {A : sProp (MT nD τ sig (HIx 1) (Elt F) ℕ UU ℕ)} {α β : Type} {p : Prog (TpuEff nD τ sig (Elt F) Λ₀ (th d L).2) α}
    {k : α → Prog (TpuEff nD τ sig (Elt F) Λ₀ (th d L).2) β} {Q : β → sProp (MT nD τ sig (HIx 1) (Elt F) ℕ UU ℕ)} (h : A ⊢ WP p fun a => WP (k a) Q) : A ⊢ WP (p >>= k) Q := by
  rw [wp_bind]; exact h

/-- Before the first slot's output transfers start, the order of what is held. -/
theorem before_four {A B C D E G H I : sProp (MT nD τ sig (HIx 1) (Elt F) ℕ UU ℕ)} : iprop(A ∗ (B ∗ C ∗ D ∗ E ∗ G ∗ H ∗ I ∗ R)) ⊢ iprop(A ∗ (B ∗ D ∗ G ∗ (C ∗ E ∗ H ∗ I ∗ R))) := by
  iintro ⟨HA, HB, HC, HD, HE, HG, HR⟩
  isplitl [HA]; · iexact HA
  isplitl [HB]; · iexact HB
  isplitl [HD]; · iexact HD
  isplitl [HG]; · iexact HG
  isplitl [HC]; · iexact HC
  isplitl [HE]; · iexact HE
  iexact HR

/-- After they have started. -/
theorem after_four {A B C D E G H : sProp (MT nD τ sig (HIx 1) (Elt F) ℕ UU ℕ)} : iprop(A ∗ (B ∗ C ∗ (D ∗ E ∗ G ∗ H ∗ R))) ⊢ iprop(A ∗ (B ∗ G ∗ D ∗ H ∗ E ∗ (C ∗ R))) := by
  iintro ⟨HA, HB, HC, HD, HE, HG, HH, HR⟩
  isplitl [HA]; · iexact HA
  isplitl [HB]; · iexact HB
  isplitl [HG]; · iexact HG
  isplitl [HD]; · iexact HD
  isplitl [HH]; · iexact HH
  isplitl [HE]; · iexact HE
  isplitl [HC]; · iexact HC
  iexact HR

set_option maxHeartbeats 8000000 in
set_option maxRecDepth 10000 in
/-- The third stretch: steps 398 to 512 of the first slot, and 0 to 80 of the second. -/
theorem wp_part315 (v1 v9 v111 v112 c14 : BitVec 32) (t : Fin k0_t1_loop.trips) {Q : (Σ' (_ : BitVec 32), BitVec 32) → sProp (MT nD τ sig (HIx 1) (Elt F) ℕ UU ℕ)}
    (h : ∀ v, iprop(Copied d L f 1 (2 * t.val + 1) 80
        ∗ (Lent d L f q' sinB ∗ Ob (F := F) d L O W ∗ semVal (th d L, SemLoc.dma soutB) 0 ∗ OutFin d L f (2 * t.val)
          ∗ InSt d L f q sinA 0 (2 * t.val + 2) ∗ OutFl d L f soutA 0 (2 * t.val) 0 ∗ OutTodo (F := F) d L (2 * t.val + 1) ∗ R)) ⊢ Q v) :
    iprop(Copied d L f 0 (2 * t.val) 398
        ∗ (Lent d L f q sinA ∗ Ob (F := F) d L O W ∗ semVal (th d L, SemLoc.dma soutA) 0 ∗ OutFin d L f (2 * t.val - 1)
          ∗ OutTodo (F := F) d L (2 * t.val) ∗ InFl d L f q' sinB 1 (2 * t.val + 1) ∗ OutSt d L f soutB 1 t.val ∗ R))
      ⊢ WP (k0_part315 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 v1 v9 t v111 v112 c14) Q := by
  iterate 114
    refine step_read _ _ rfl ?_
    refine step_skip _ _ rfl fun _ => ?_
    refine step_write _ _ _ _ _ rfl rfl rfl (by decide) (by simp only [Nat.reduceAdd]; rfl) ?_
  refine before_four.trans ?_
  refine start_four (by have := t.isLt.trans_eq trips_eq; omega) ?_
  refine start_out 0 1 _ _ _ _ (by decide) rfl rfl (off133_eq L t 0 0) ?_
  refine start_out 1 2 _ _ _ _ (by decide) rfl rfl (off133_eq L t 1 0) ?_
  refine after_four.trans ?_
  refine step_bind (p := k0_part158 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 v1 t v111 v112) ?_
  refine wp_part158 v1 v111 v112 t fun v => ?_
  iterate 80
    refine step_read _ _ rfl ?_
    refine step_skip _ _ rfl fun _ => ?_
    refine step_write _ _ _ _ _ rfl rfl rfl (by decide) (by simp only [Nat.reduceAdd]; rfl) ?_
  exact step_ret (h _)

end Middle

end Cert.Proof

end
-- ==== Proof.Late.lean ====
/-
  The stretch of a trip in which the second slot's copying ends.
-/
module

public import proofs.«01_k».proof.Proof.Trip

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Late

variable {d : Dev nD} {L : grid0.Coords} {f : S64x32x128x128.Idx → Elt F .f32} {q q' : PosShare TreeShare}
variable {O : CellTallies nD τ sig (HIx 1)} {W : Waits sig (HIx 1)} {R : sProp (MT nD τ sig (HIx 1) (Elt F) ℕ UU ℕ)}

local notation "WP" => wp frame (wpE (defs₀ (F := F)) 𝒱₀ (th d L) none) Set.univ

set_option maxHeartbeats 4000000 in
set_option maxRecDepth 10000 in
/-- The sixth stretch: steps 480 to 512 of the second slot, whose output transfers start. -/
theorem wp_part318 (v1 v9 v111 c0 : BitVec 32) (t : Fin k0_t1_loop.trips) {Q : BitVec 32 → sProp (MT nD τ sig (HIx 1) (Elt F) ℕ UU ℕ)}
    (h : ∀ v, iprop(InIdle d L f q' sinB 1 ∗ (OutFl d L f soutB 1 (2 * t.val + 1) 0 ∗ (OutTodo (F := F) d L (2 * t.val + 2) ∗ R))) ⊢ Q v) :
    iprop(Copied d L f 1 (2 * t.val + 1) 480
        ∗ (Lent d L f q' sinB ∗ semVal (th d L, SemLoc.dma soutB) 0 ∗ OutTodo (F := F) d L (2 * t.val + 1) ∗ R))
      ⊢ WP (k0_part318 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 v1 v9 t v111 c0) Q := by
  iterate 32
    refine step_read _ _ rfl ?_
    refine step_skip _ _ rfl fun _ => ?_
    refine step_write _ _ _ _ _ rfl rfl rfl (by decide) (by simp only [Nat.reduceAdd]; rfl) ?_
  refine start_four (by have := t.isLt.trans_eq trips_eq; omega) ?_
  refine start_out 0 1 _ _ _ _ (by decide) rfl rfl (off133_eq L t 0 1) ?_
  refine start_out 1 2 _ _ _ _ (by decide) rfl rfl (off133_eq L t 1 1) ?_
  refine start_out 2 3 _ _ _ _ (by decide) rfl rfl (off133_eq L t 2 1) ?_
  refine start_out 3 4 _ _ _ _ (by decide) rfl rfl (off133_eq L t 3 1) ?_
  refine sent.trans ?_
  exact step_ret (h _)

end Late

end Cert.Proof

end
-- ==== Proof.Loop.lean ====
/-
  The loop over the channels, two a trip, and the transfers before and after it.

  Before trip `t` the two input slots await channels `2t` and `2t+1`, the output slots' transfers of the trip before are under
  way, and every earlier channel's patches are in the result.
-/
module

public import proofs.«01_k».proof.Proof.Windows
public import proofs.«01_k».proof.Proof.Middle
public import proofs.«01_k».proof.Proof.Late

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Loop

variable {d : Dev nD} {L : grid0.Coords} {f : S64x32x128x128.Idx → Elt F .f32} {q q' : PosShare TreeShare}
variable {O : CellTallies nD τ sig (HIx 1)} {W : Waits sig (HIx 1)} {R : sProp (MT nD τ sig (HIx 1) (Elt F) ℕ UU ℕ)}

local notation "WP" => wp frame (wpE (defs₀ (F := F)) 𝒱₀ (th d L) none) Set.univ

/-- What the task holds before trip `t`. -/
def Inv (d : Dev nD) (L : grid0.Coords) (f : S64x32x128x128.Idx → Elt F .f32) (q q' : PosShare TreeShare) (O : CellTallies nD τ sig (HIx 1)) (W : Waits sig (HIx 1))
    (R : sProp (MT nD τ sig (HIx 1) (Elt F) ℕ UU ℕ)) (t : ℕ) : sProp (MT nD τ sig (HIx 1) (Elt F) ℕ UU ℕ) :=
  iprop(InSt d L f q sinA 0 (2 * t) ∗ Ob (F := F) d L O W ∗ OutSt d L f soutA 0 t ∗ OutFin d L f (2 * t - 2)
    ∗ (OutTodo (F := F) d L (2 * t) ∗ InSt d L f q' sinB 1 (2 * t + 1) ∗ OutSt d L f soutB 1 t ∗ R))

theorem inSt_out {b c : ℕ} {sm : DmaSem sig} (hc : c < 64) : InSt d L f q sm b c ⊢ InFl d L f q sm b c := by
  unfold InSt; rw [if_pos hc]

theorem inv_begin {t : ℕ} (ht : t < 32) : Inv d L f q q' O W R t
    ⊢ iprop(InFl d L f q sinA 0 (2 * t) ∗ Ob (F := F) d L O W ∗ OutSt d L f soutA 0 t ∗ OutFin d L f (2 * t - 2)
      ∗ (OutTodo (F := F) d L (2 * t) ∗ InFl d L f q' sinB 1 (2 * t + 1) ∗ OutSt d L f soutB 1 t ∗ R)) := by
  unfold Inv
  iintro ⟨HA, HO, HoA, Hf, Ht, HB, HoB, HR⟩
  ihave HA := inSt_out (c := 2 * t) (by omega) $$ HA
  ihave HB := inSt_out (c := 2 * t + 1) (by omega) $$ HB
  isplitl [HA]; · iexact HA
  isplitl [HO]; · iexact HO
  isplitl [HoA]; · iexact HoA
  isplitl [Hf]; · iexact Hf
  isplitl [Ht]; · iexact Ht
  isplitl [HB]; · iexact HB
  isplitl [HoB] <;> iassumption

theorem before_last {A B C D E G H I : sProp (MT nD τ sig (HIx 1) (Elt F) ℕ UU ℕ)} : iprop(A ∗ (B ∗ C ∗ D ∗ E ∗ G ∗ H ∗ I ∗ R)) ⊢ iprop(A ∗ (B ∗ D ∗ I ∗ (C ∗ E ∗ G ∗ H ∗ R))) := by
  iintro ⟨HA, HB, HC, HD, HE, HG, HH, HI, HR⟩
  isplitl [HA]; · iexact HA
  isplitl [HB]; · iexact HB
  isplitl [HD]; · iexact HD
  isplitl [HI]; · iexact HI
  isplitl [HC]; · iexact HC
  isplitl [HE]; · iexact HE
  isplitl [HG]; · iexact HG
  isplitl [HH] <;> iassumption

theorem outSt_next {t : ℕ} {b c : ℕ} {sm : DmaSem sig} (hc : 2 * t + b = c) : OutFl d L f sm b c 0 ⊢ OutSt d L f sm b (t + 1) := by
  unfold OutSt
  rw [if_neg (by omega), show 2 * (t + 1) - 2 + b = c by omega]

/-- The end of a trip is the beginning of the next. -/
theorem inv_end {A : sProp (MT nD τ sig (HIx 1) (Elt F) ℕ UU ℕ)} {t : ℕ} (hA : A ⊢ InSt d L f q' sinB 1 (2 * t + 3)) :
    iprop(A ∗ (OutFl d L f soutB 1 (2 * t + 1) 0 ∗ (OutTodo (F := F) d L (2 * t + 2) ∗ (Ob (F := F) d L O W ∗ OutFin d L f (2 * t)
      ∗ InSt d L f q sinA 0 (2 * t + 2) ∗ OutFl d L f soutA 0 (2 * t) 0 ∗ R)))) ⊢ Inv d L f q q' O W R (t + 1) := by
  unfold Inv
  rw [show 2 * (t + 1) = 2 * t + 2 by omega, show 2 * t + 2 - 2 = 2 * t by omega, show 2 * t + 2 + 1 = 2 * t + 3 by omega]
  iintro ⟨HB, HoB, Ht, HO, Hf, HA, HoA, HR⟩
  ihave HoA := outSt_next (t := t) (b := 0) (c := 2 * t) rfl $$ HoA
  ihave HoB := outSt_next (t := t) (b := 1) (c := 2 * t + 1) rfl $$ HoB
  isplitl [HA]; · iexact HA
  isplitl [HO]; · iexact HO
  isplitl [HoA]; · iexact HoA
  isplitl [Hf]; · iexact Hf
  isplitl [Ht]; · iexact Ht
  isplitl [HB]; · iapply hA; iexact HB
  isplitl [HoB]; · iexact HoB
  iexact HR

/-- A loop without carried values, by an invariant. -/
theorem step_for {l : Scf.Loop 32} {hok : l.OK} {body : Fin l.trips → PUnit → Prog (TpuEff nD τ sig (Elt F) Λ₀ (th d L).2) PUnit}
    {I : ℕ → sProp (MT nD τ sig (HIx 1) (Elt F) ℕ UU ℕ)} {Q : PUnit → sProp (MT nD τ sig (HIx 1) (Elt F) ℕ UU ℕ)} (hbody : ∀ k, I k.val ⊢ WP (body k ⟨⟩) fun _ => I (k.val + 1)) (h : I l.trips ⊢ Q ⟨⟩) :
    I 0 ⊢ WP (Scf.Loop.for l hok ⟨⟩ body) Q := by
  iintro H
  iapply (Scf.wp_for _ _ _ l.lb l.ub l.st hok PUnit.unit body (fun k _ => I k) (fun k _ => hbody k))
  isplitl [H]; · iexact H
  iintro %acc H
  iapply h
  iexact H

set_option maxHeartbeats 2000000 in
/-- The transfers of the first two channels' slabs start. -/
theorem wp_part325 {Q : (Σ' (_ : BitVec 32) (_ : BitVec 32), BitVec 32) → sProp (MT nD τ sig (HIx 1) (Elt F) ℕ UU ℕ)}
    (h : ∀ v9 c0, iprop(InFl d L f q' sinB 1 1 ∗ (InFl d L f q sinA 0 0 ∗ R))
      ⊢ Q ⟨Scalar.addi (Scalar.muli (BitVec.ofNat 32 (L 0).val) 16#32) (BitVec.ofNat 32 (L 1).val), v9, c0⟩) :
    iprop(InIdle d L f q sinA 0 ∗ (InIdle d L f q' sinB 1 ∗ R))
      ⊢ WP (k0_part325 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0) Q := by
  unfold k0_part325
  refine start_in 0 _ _ _ _ (off1_eq L) rfl ?_
  refine by_way _ sep_left_comm.1 ?_
  refine start_in 1 _ _ _ _ (off2_eq L) rfl ?_
  exact step_ret (h _ _)

theorem inv_last : Inv d L f q q' O W R 32
    ⊢ iprop(OutFl d L f soutA 0 62 0 ∗ Ob (F := F) d L O W ∗ (OutFin d L f 62 ∗ OutFl d L f soutB 1 63 0 ∗ InIdle d L f q sinA 0 ∗ InIdle d L f q' sinB 1 ∗ R)) := by
  unfold Inv InSt OutSt
  rw [if_neg (by decide), if_neg (by decide), if_neg (by decide), if_neg (by decide)]
  iintro ⟨HA, HO, HoA, Hf, Ht, HB, HoB, HR⟩
  isplitl [HoA]; · iexact HoA
  isplitl [HO]; · iexact HO
  isplitl [Hf]; · iexact Hf
  isplitl [HoB]; · iexact HoB
  isplitl [HA]; · iexact HA
  isplitl [HB] <;> iassumption

set_option maxHeartbeats 4000000 in
set_option maxRecDepth 10000 in
/-- The loop, and the waits for the first two of the last transfers of the first slot. -/
theorem wp_part326 (v1 v9 c0 : BitVec 32) {Q : PUnit → sProp (MT nD τ sig (HIx 1) (Elt F) ℕ UU ℕ)}
    (h : iprop(OutFl d L f soutA 0 62 2 ∗ Ob (F := F) d L O W ∗ (OutFin d L f 62 ∗ OutFl d L f soutB 1 63 0 ∗ InIdle d L f q sinA 0 ∗ InIdle d L f q' sinB 1 ∗ R)) ⊢ Q ⟨⟩) :
    Inv d L f q q' O W R 0 ⊢ WP (k0_part326 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 v1 v9 c0) Q := by
  unfold k0_part326
  refine step_bind ?_
  refine step_for (I := Inv d L f q q' O W R) (fun t => ?_) ?_
  · have ht := t.isLt.trans_eq trips_eq
    refine (inv_begin ht).trans ?_
    rw [wp_bind]
    apply wp_part313 v1 _ _ t
    rintro ⟨v111, v112, c6⟩
    dsimp only
    rw [wp_bind]
    apply wp_part314 v9 _
    intro v
    rw [wp_bind]
    apply wp_part315 v1 v9 _ _ _ t
    rintro ⟨v5415, c4⟩
    dsimp only
    rw [wp_bind]
    apply wp_part316 _
    intro v
    rw [wp_bind]
    apply wp_part317 v9 _
    intro v
    refine before_last.trans ?_
    rw [wp_bind]
    apply wp_part318 v1 v9 _ _ t
    intro v
    by_cases h4 : k0_cond4 t = 1#1
    · simp only [h4, ↓reduceDIte]
      refine start_in (2 * t.val + 3) _ _ _ _ (off264_eq L t) rfl ?_
      exact step_ret (inv_end (inSt_fl ((cond4_iff t).mp h4)))
    · simp only [h4, ↓reduceDIte]
      exact step_ret (inv_end (inSt_idle (mt (cond4_iff t).mpr h4)))
  · rw [trips_eq]
    refine inv_last.trans ?_
    refine wait_out 0 1 (by decide) rfl ?_
    refine wait_out 1 2 (by decide) rfl ?_
    exact step_ret h

end Loop

end Cert.Proof

end
-- ==== Proof.Body.lean ====
/-
  The whole of a task: the loop over the channels, the waits for the last transfers, and, in the first task, the coordinates.
-/
module

public import proofs.«01_k».proof.Proof.Coords
public import proofs.«01_k».proof.Proof.Loop

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Body

variable {d : Dev nD} {L : grid0.Coords} {f : S64x32x128x128.Idx → Elt F .f32} {q q' : PosShare TreeShare}
variable {O : CellTallies nD τ sig (HIx 1)} {W : Waits sig (HIx 1)} {R : sProp (MT nD τ sig (HIx 1) (Elt F) ℕ UU ℕ)}
variable {α : Type} {Q : α → sProp (MT nD τ sig (HIx 1) (Elt F) ℕ UU ℕ)}

local notation "WP" => wp frame (wpE (defs₀ (F := F)) 𝒱₀ (th d L) none) Set.univ

/-! ## The coordinates' copy -/

abbrev semC : DmaSem sig := cc0_scoped0.sem
abbrev NCrd : ℕ := (main_v0_1_scv : Ref sig .scVector).dmaCredit S384 .i32

/-- The coordinates on their way to the result. -/
def CrdFl (d : Dev nD) (L : grid0.Coords) : sProp 𝕄 :=
  Transfers.Flight (EC (F := F)) (th d L) (.dma semC) (none : HIx 1) NCrd
    iprop((kLoc d ↦{fullShare} (coordF : Buf (Elt F) (kLoc d))) ∗ qLoc d L ↦{fullShare} (coordF : Buf (Elt F) (qLoc d L)))

omit [FloatOps F] in
theorem crd_value (g : S384.Idx → Elt F .i32) (i : S384.Idx) :
    (kM : Memref sig .scVector .hbm S384 .i32).view.write (Elt F) g ((qM : Memref sig .scVector .vmem S384 .i32).view.read (Elt F) coordF) Finset.univ i = coordF i :=
  View.write_emb_of_mem (Val := Elt F) (v := (kM : Memref sig .scVector .hbm S384 .i32).view) g
    ((qM : Memref sig .scVector .vmem S384 .i32).view.read (Elt F) coordF) (Finset.mem_univ i)

theorem start_crd {h1 : (qM : Memref sig .scVector .vmem S384 .i32).view.WordExact} {h2} {h3}
    {k : PUnit → Prog (TpuEff nD τ sig (Elt F) Λ₀ (th d L).2) α}
    (h : iprop(CrdFl (F := F) d L ∗ R) ⊢ WP (k ⟨⟩) Q) :
    iprop((qLoc d L ↦{fullShare} (coordF : Buf (Elt F) (qLoc d L))) ∗ (∃ g : Buf (Elt F) (kLoc d), kLoc d ↦{fullShare} g) ∗ semVal (th d L, SemLoc.dma semC) 0 ∗ R)
      ⊢ WP (.op (.enqueueDma (qM : Memref sig .scVector .vmem S384 .i32) (.here (kM : Memref sig .scVector .hbm S384 .i32)) (.dma semC) h1 h2 h3) k) Q := by
  iintro ⟨Hq, ⟨%g, Hk⟩, Hv, HR⟩
  have hset : (qM : Memref sig .scVector .vmem S384 .i32).view.set = Finset.univ := View.set_whole _
  ihave Hq := (Entails.of_eq (show (qLoc d L ↦{fullShare} (coordF : Buf (Elt F) (qLoc d L)) : sProp 𝕄)
    = qLoc d L ↦[(qM : Memref sig .scVector .vmem S384 .i32).view.set]{fullShare} (coordF : Buf (Elt F) (qLoc d L)) by rw [hset])) $$ Hq
  iapply (Transfers.wp_dmaLocal (EC (F := F)) 𝒱₀ (th d L) none (src := (qM : Memref sig .scVector .vmem S384 .i32)) (dst := (kM : Memref sig .scVector .hbm S384 .i32)) (none : HIx 1) NCrd
    (q := fullShare) (fs := coordF) (Sd := Finset.univ) (fd := g) rfl (by decide) (Finset.subset_univ _)) $$ [Hq Hk Hv]
  · isplitl [Hq]; · iexact Hq
    isplitl [Hk]; · iexact Hk
    iexact Hv
  iintro Hfl
  iapply h
  isplitr [HR]
  · unfold CrdFl
    iapply (Transfers.Flight_mono (EC (F := F)) (th d L) (BIClass.sep_mono ?hm ?hn)) $$ Hfl
    case hm =>
      refine Entails.of_eq (pointsTo_congr fun i _ => ?_)
      exact crd_value _ i
    case hn => exact Entails.of_eq (by rw [hset])
  · iexact HR

theorem wait_crd {s' : Shape} {src : Memref sig .scVector .vmem s' .i32} {h1 : src.view.WordExact} {h2}
    {k : PUnit → Prog (TpuEff nD τ sig (Elt F) Λ₀ (th d L).2) α}
    (h : iprop((kLoc d ↦{fullShare} (coordF : Buf (Elt F) (kLoc d))) ∗ (qLoc d L ↦{fullShare} (coordF : Buf (Elt F) (qLoc d L)))
      ∗ semVal (th d L, SemLoc.dma semC) 0 ∗ Ob (F := F) d L O W ∗ R) ⊢ WP (k ⟨⟩) Q) :
    iprop(CrdFl (F := F) d L ∗ (Ob (F := F) d L O W ∗ R))
      ⊢ WP (.op (.waitDma2 semC src (kM : Memref sig .scVector .hbm S384 .i32) h1 h2) k) Q := by
  iintro ⟨HI, HO, HR⟩
  unfold CrdFl Ob
  icases HO with ⟨#Hmw, ⟨%W', %hW, HO⟩⟩
  iapply (Transfers.wp_waitLocalO (EC (F := F)) 𝒱₀ (th d L) none (none : HIx 1) (N := NCrd) ?hN) $$ [HI HO]
  case hN => exact rfl
  · isplitl [HI]; · iexact HI
    isplitl [HO]; · iexact HO
    iapply (Transfers.MayWaits.elim (SemLoc.dma semC)) $$ Hmw
  iintro ⟨⟨Hk, Hq⟩, Hv, HO⟩
  iapply h
  isplitl [Hk]; · iexact Hk
  isplitl [Hq]; · iexact Hq
  isplitl [Hv]; · iexact Hv
  isplitl [HO]
  · unfold Ob
    isplitr; · iexact Hmw
    iexists (insert (SemLoc.dma semC, none) W')
    isplitr
    · ipureintro
      intro p hp
      rcases Finset.mem_insert.mp hp with h | hp
      · exact Or.inr (congrArg Prod.snd h)
      · exact hW p hp
    · iexact HO
  · iexact HR

/-! ## What a task holds of the second result -/

/-- The first task holds the second result, at some contents and then at the coordinates; the others nothing of it. -/
def CrdIn (d : Dev nD) (L : grid0.Coords) : sProp 𝕄 := if wid L = 0 then iprop(∃ g : Buf (Elt F) (kLoc d), kLoc d ↦{fullShare} g) else iprop(emp)
def CrdOut (d : Dev nD) (L : grid0.Coords) : sProp 𝕄 := if wid L = 0 then (kLoc d ↦{fullShare} (coordF : Buf (Elt F) (kLoc d))) else iprop(emp)

/-- The coordinate buffer and the semaphore of its copy. -/
def CrdBuf (d : Dev nD) (L : grid0.Coords) : sProp 𝕄 := iprop((∃ g : Buf (Elt F) (qLoc d L), qLoc d L ↦{fullShare} g) ∗ semVal (th d L, SemLoc.dma semC) 0)

/-- The test the task makes is whether it is the first. -/
theorem first_all : ∀ (c : Fin 2) (s : Fin 16),
    (Scalar.cmpi .ne (Scalar.extui (Scalar.cmpi .eq (Scalar.addi (Scalar.muli (BitVec.ofNat 32 c.val) 16#32) (BitVec.ofNat 32 s.val)) 0#32) : BitVec 32) 0#32 = 1#1)
      ↔ c.val * 16 + s.val = 0 := by decide +kernel

theorem first_iff (L : grid0.Coords) :
    (Scalar.cmpi .ne (Scalar.extui (Scalar.cmpi .eq (Scalar.addi (Scalar.muli (BitVec.ofNat 32 (L 0).val) 16#32) (BitVec.ofNat 32 (L 1).val)) 0#32) : BitVec 32) 0#32 = 1#1)
      ↔ wid L = 0 := first_all (L 0) (L 1)

theorem crd_begin (hw : wid L = 0) : iprop(CrdBuf (F := F) d L ∗ CrdIn (F := F) d L ∗ R)
    ⊢ iprop(Noted (F := F) d L 0 ∗ ((∃ g : Buf (Elt F) (kLoc d), kLoc d ↦{fullShare} g) ∗ semVal (th d L, SemLoc.dma semC) 0 ∗ R)) := by
  unfold CrdBuf CrdIn
  rw [if_pos hw]
  iintro ⟨⟨⟨%g, Hq⟩, Hv⟩, Hk, HR⟩
  isplitl [Hq]; · iapply note_begin; iexact Hq
  isplitl [Hk]; · iexact Hk
  isplitl [Hv] <;> iassumption

theorem crd_end (hw : wid L = 0) : iprop((kLoc d ↦{fullShare} (coordF : Buf (Elt F) (kLoc d))) ∗ (qLoc d L ↦{fullShare} (coordF : Buf (Elt F) (qLoc d L)))
      ∗ semVal (th d L, SemLoc.dma semC) 0 ∗ Ob (F := F) d L O W ∗ R)
    ⊢ iprop(CrdBuf (F := F) d L ∗ CrdOut (F := F) d L ∗ (Ob (F := F) d L O W ∗ R)) := by
  unfold CrdBuf CrdOut
  rw [if_pos hw]
  iintro ⟨Hk, Hq, Hv, HR⟩
  isplitr [Hk HR]
  · isplitl [Hq]; · iexists _; iexact Hq
    iexact Hv
  isplitl [Hk] <;> iassumption

theorem crd_none (hw : ¬ wid L = 0) : iprop(CrdBuf (F := F) d L ∗ CrdIn (F := F) d L ∗ R) ⊢ iprop(CrdBuf (F := F) d L ∗ CrdOut (F := F) d L ∗ R) := by
  unfold CrdIn CrdOut
  rw [if_neg hw, if_neg hw]

/-! ## The waits after the loop -/

/-- What the task is left with when the transfers are over. -/
def Quiet (d : Dev nD) (L : grid0.Coords) (f : S64x32x128x128.Idx → Elt F .f32) (q q' : PosShare TreeShare) : sProp 𝕄 :=
  iprop(InIdle d L f q sinA 0 ∗ InIdle d L f q' sinB 1 ∗ OutIdle (F := F) d L soutA 0 ∗ OutIdle (F := F) d L soutB 1 ∗ OutFin d L f 64)

theorem last_even {A B C : sProp (MT nD τ sig (HIx 1) (Elt F) ℕ UU ℕ)} : iprop(OutIdle (F := F) d L soutA 0 ∗ bigSep Finset.univ (OutDone d L f 62) ∗ Ob (F := F) d L O W
      ∗ (OutFin d L f 62 ∗ A ∗ B ∗ C ∗ R))
    ⊢ iprop(A ∗ Ob (F := F) d L O W ∗ (OutFin d L f 63 ∗ OutIdle (F := F) d L soutA 0 ∗ B ∗ C ∗ R)) := by
  iintro ⟨Ho, HD, HO, Hf, HA, HB, HC, HR⟩
  isplitl [HA]; · iexact HA
  isplitl [HO]; · iexact HO
  isplitl [Hf HD]
  · iapply (outFin_succ (m := 62)); isplitl [Hf] <;> iassumption
  isplitl [Ho]; · iexact Ho
  isplitl [HB]; · iexact HB
  isplitl [HC] <;> iassumption

theorem last_odd {A B : sProp (MT nD τ sig (HIx 1) (Elt F) ℕ UU ℕ)} : iprop(OutIdle (F := F) d L soutB 1 ∗ bigSep Finset.univ (OutDone d L f 63) ∗ Ob (F := F) d L O W
      ∗ (OutFin d L f 63 ∗ OutIdle (F := F) d L soutA 0 ∗ InIdle d L f q sinA 0 ∗ InIdle d L f q' sinB 1 ∗ A ∗ B))
    ⊢ iprop(A ∗ B ∗ (Ob (F := F) d L O W ∗ Quiet d L f q q')) := by
  iintro ⟨Ho, HD, HO, Hf, HoA, HA, HB, HC, HR⟩
  isplitl [HC]; · iexact HC
  isplitl [HR]; · iexact HR
  isplitl [HO]; · iexact HO
  unfold Quiet
  isplitl [HA]; · iexact HA
  isplitl [HB]; · iexact HB
  isplitl [HoA]; · iexact HoA
  isplitl [Ho]; · iexact Ho
  iapply (outFin_succ (m := 63)); isplitl [Hf] <;> iassumption

set_option maxHeartbeats 2000000 in
/-- The rest of the waits for channel 62's transfers, and the first for channel 63's. -/
theorem wp_part327 (v1 : BitVec 32) {B C : sProp (MT nD τ sig (HIx 1) (Elt F) ℕ UU ℕ)} {Q : PUnit → sProp (MT nD τ sig (HIx 1) (Elt F) ℕ UU ℕ)}
    (h : iprop(OutFl d L f soutB 1 63 1 ∗ Ob (F := F) d L O W ∗ (OutFin d L f 63 ∗ OutIdle (F := F) d L soutA 0 ∗ B ∗ C ∗ R)) ⊢ Q ⟨⟩) :
    iprop(OutFl d L f soutA 0 62 2 ∗ Ob (F := F) d L O W ∗ (OutFin d L f 62 ∗ OutFl d L f soutB 1 63 0 ∗ B ∗ C ∗ R))
      ⊢ WP (k0_part327 L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0 v1) Q := by
  unfold k0_part327
  refine wait_out 2 3 (by decide) rfl ?_
  refine wait_out_last ?_
  refine last_even.trans ?_
  refine wait_out 0 1 (by decide) rfl ?_
  exact step_ret h

/-! ## The task -/

theorem begin_in {A : sProp (MT nD τ sig (HIx 1) (Elt F) ℕ UU ℕ)} : iprop(InFl d L f q' sinB 1 1 ∗ (InFl d L f q sinA 0 0 ∗ (Ob (F := F) d L O W ∗ OutIdle (F := F) d L soutA 0
      ∗ OutIdle (F := F) d L soutB 1 ∗ OutTodo (F := F) d L 0 ∗ A))) ⊢ Inv d L f q q' O W A 0 := by
  unfold Inv InSt OutSt OutFin
  rw [if_pos (by decide), if_pos (by decide), if_pos (by decide), if_pos (by decide)]
  iintro ⟨HB, HA, HO, HoA, HoB, Ht, HR⟩
  isplitl [HA]; · iexact HA
  isplitl [HO]; · iexact HO
  isplitl [HoA]; · iexact HoA
  isplitr
  · rw [show Finset.range (2 * 0 - 2) = ∅ from rfl, bigSep_empty]
    iempintro
  isplitl [Ht]; · iexact Ht
  isplitl [HB]; · iexact HB
  isplitl [HoB] <;> iassumption

/-- A test whose outcome is known. -/
theorem step_if {A : sProp (MT nD τ sig (HIx 1) (Elt F) ℕ UU ℕ)} {v : PUnit} {c : Prop} [Decidable c] (hc : c) {t : c → Prog (TpuEff nD τ sig (Elt F) Λ₀ (th d L).2) α}
    {e : ¬ c → Prog (TpuEff nD τ sig (Elt F) Λ₀ (th d L).2) α} (h : A ⊢ WP (t hc) Q) :
    A ⊢ WP ((Prog.ret v).bind fun _ => if h : c then t h else e h) Q := by
  show A ⊢ WP (if h : c then t h else e h) Q
  rwa [dif_pos hc]

theorem step_else {A : sProp (MT nD τ sig (HIx 1) (Elt F) ℕ UU ℕ)} {v : PUnit} {c : Prop} [Decidable c] (hc : ¬ c) {t : c → Prog (TpuEff nD τ sig (Elt F) Λ₀ (th d L).2) α}
    {e : ¬ c → Prog (TpuEff nD τ sig (Elt F) Λ₀ (th d L).2) α} (h : A ⊢ WP (e hc) Q) :
    A ⊢ WP ((Prog.ret v).bind fun _ => if h : c then t h else e h) Q := by
  show A ⊢ WP (if h : c then t h else e h) Q
  rwa [dif_neg hc]

set_option maxHeartbeats 8000000 in
set_option maxRecDepth 10000 in
/-- From idle slots and the cells of the result that are its own, the task runs and leaves them right. -/
theorem wp_body :
    iprop(InIdle d L f q sinA 0 ∗ (InIdle d L f q' sinB 1 ∗ (Ob (F := F) d L O W ∗ OutIdle (F := F) d L soutA 0
        ∗ OutIdle (F := F) d L soutB 1 ∗ OutTodo (F := F) d L 0 ∗ (CrdBuf (F := F) d L ∗ CrdIn (F := F) d L))))
      ⊢ WP (cc0__body L xM (Memref.isWhole_whole _) oM (Memref.isWhole_whole _) kM (Memref.isWhole_whole _)
      sM (Memref.isWhole_whole _) pM (Memref.isWhole_whole _) qM (Memref.isWhole_whole _) cc0_scratch3 cc0_scratch4 cc0_scratch5 cc0_scratch6 cc0_scoped0)
        fun _ => iprop(CrdBuf (F := F) d L ∗ CrdOut (F := F) d L ∗ (Ob (F := F) d L O W ∗ Quiet d L f q q')) := by
  unfold cc0__body
  rw [wp_bind]
  apply wp_part325
  intro v9 c0
  dsimp only
  refine begin_in.trans ?_
  rw [wp_bind]
  apply wp_part326
  rw [wp_bind]
  apply wp_part327
  refine wait_out 1 2 (by decide) rfl ?_
  refine wait_out 2 3 (by decide) rfl ?_
  refine wait_out_last ?_
  refine last_odd.trans ?_
  by_cases hw : wid L = 0
  · have hc := (first_iff L).mpr hw
    refine step_if hc ?_
    refine (crd_begin hw).trans ?_
    rw [wp_bind]
    apply wp_part319
    dsimp only
    rw [wp_bind]
    apply wp_part320
    dsimp only
    rw [wp_bind]
    apply wp_part321
    dsimp only
    rw [wp_bind]
    apply wp_part322
    dsimp only
    rw [wp_bind]
    apply wp_part323
    rw [wp_bind]
    apply wp_part324
    dsimp only
    iterate 3
      refine step_look _ _ fun _ => ?_
      refine step_note _ _ _ _ rfl (by decide +kernel) (by decide) rfl ?_
    refine (sep_mono_left note_end).trans ?_
    refine start_crd ?_
    refine wait_crd ?_
    exact step_ret (crd_end hw)
  · have hc := mt (first_iff L).mp hw
    refine step_else hc ?_
    exact step_ret (crd_none hw)

end Body

end Cert.Proof

end
-- ==== Proof.Tile.lean ====
/-
  A task as the launch runs it: its five semaphores and three buffers are taken from what its subcore owns, the body runs, and
  they go back.
-/
module

public import proofs.«01_k».proof.Proof.Body

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Tile

open Idealize.ShloMosaic.SparseCore.Cfg (ownSems0 ownBufs ownCells mem_ownCells ownRefs)

/-- The task's semaphores, and its buffers. -/
abbrev sems : Finset (DmaSem sig) := {sinA, sinB, soutA, soutB, semC}
abbrev bufs : Finset (Ref sig .scVector) := {cc0_scratch0, cc0_scratch1, cc0_scratch2}

variable (d : Dev nD) (L : grid0.Coords)

abbrev semCells : Finset (GSem nD τ sig) :=
  sems.map ⟨fun s => (th d L, SemLoc.dma s), fun _ _ e => SemLoc.dma.inj (Prod.mk.inj e).2⟩
abbrev bufRefs : Finset (DevRef τ sig) :=
  bufs.map ⟨(th d L).2.devRef, Proc.devRef_injective _⟩

omit [FloatOps F] in
theorem ownSems_split : (ownSems0 (th d L) : sProp 𝕄)
    = iprop((semVal (th d L, SemLoc.dma sinA) 0 ∗ semVal (th d L, SemLoc.dma sinB) 0 ∗ semVal (th d L, SemLoc.dma soutA) 0
        ∗ semVal (th d L, SemLoc.dma soutB) 0 ∗ semVal (th d L, SemLoc.dma semC) 0)
      ∗ bigSep (ownCells (th d L) \ semCells d L) fun g => semVal g 0) := by
  unfold ownSems0
  have hs : semCells d L ⊆ ownCells (th d L) := by
    intro g hg
    obtain ⟨s, hs, rfl⟩ := Finset.mem_map.mp hg
    exact mem_ownCells.mpr ⟨rfl, (show ∀ s ∈ sems, (SemLoc.dma s : SemLoc sig).isScoped .scVector = true by decide) s hs⟩
  rw [SparseCore.bigSep_sdiff_split' hs, bigSep_map, SparseCore.bigSep_insert' (by decide), SparseCore.bigSep_insert' (by decide),
    SparseCore.bigSep_insert' (by decide), SparseCore.bigSep_insert' (by decide), bigSep_singleton]
  rfl

omit [FloatOps F] in
theorem ownBufs_split : (ownBufs (th d L) : sProp 𝕄)
    = iprop(((∃ g, sLoc d L ↦{fullShare} g) ∗ (∃ g, pLoc d L ↦{fullShare} g) ∗ (∃ g, qLoc d L ↦{fullShare} g))
      ∗ bigSep (ownRefs (τ := τ) (th d L).2 \ bufRefs d L) fun b => iprop(∃ g, ((d, b) : Loc nD τ sig) ↦{fullShare} g)) := by
  unfold ownBufs
  have hs : bufRefs d L ⊆ ownRefs (τ := τ) (th d L).2 := by
    intro g hg
    obtain ⟨r, hr, rfl⟩ := Finset.mem_map.mp hg
    refine SparseCore.Cfg.mem_ownRefs_of_owner (p := (th d L).2) (b := (th d L).2.devRef r) ?_
    simp only [bufs, Finset.mem_insert, Finset.mem_singleton] at hr
    rcases hr with rfl | rfl | rfl <;> rfl
  refine (SparseCore.bigSep_sdiff_split' hs).trans ?_
  rw [bigSep_map]
  have h₀ : (cc0_scratch0 : Ref sig .scVector) ∉ ({cc0_scratch1, cc0_scratch2} : Finset (Ref sig .scVector)) := by decide
  have h₁ : (cc0_scratch1 : Ref sig .scVector) ∉ ({cc0_scratch2} : Finset (Ref sig .scVector)) := by decide
  refine congrArg (fun X => iprop(X ∗ _)) ?_
  exact (SparseCore.bigSep_insert' h₀).trans (congrArg _ ((SparseCore.bigSep_insert' h₁).trans (congrArg _ (bigSep_singleton))))

/-! ## Slots -/

omit [FloatOps F] in
theorem slotS_disjoint : Disjoint (slotS 0) (slotS 1) :=
  Finset.disjoint_left.mpr fun _ h h' => absurd ((mem_slotS.mp h).symm.trans (mem_slotS.mp h')) (by decide)
omit [FloatOps F] in
theorem slotP_disjoint : Disjoint (slotP 0) (slotP 1) :=
  Finset.disjoint_left.mpr fun _ h h' => absurd ((mem_slotP.mp h).symm.trans (mem_slotP.mp h')) (by decide)
omit [FloatOps F] in
theorem slotS_union : slotS 0 ∪ slotS 1 = Finset.univ := by
  ext i
  have h : (i 0).val < 2 := (i 0).isLt
  simp only [Finset.mem_union, mem_slotS, Finset.mem_univ, iff_true]
  omega
omit [FloatOps F] in
theorem slotP_union : slotP 0 ∪ slotP 1 = Finset.univ := by
  ext i
  have h : (i 0).val < 2 := (i 0).isLt
  simp only [Finset.mem_union, mem_slotP, Finset.mem_univ, iff_true]
  omega

omit [FloatOps F] in
/-- A buffer at some contents, in two parts. -/
theorem some_split {ℓ : Loc nD τ sig} {I J : Finset (Idx ℓ)} (hd : Disjoint I J) (hu : I ∪ J = Finset.univ) :
    (iprop(∃ g : Buf (Elt F) ℓ, ℓ ↦{fullShare} g) : sProp 𝕄)
      ⊢ iprop((∃ g : Buf (Elt F) ℓ, ℓ ↦[I]{fullShare} g) ∗ ∃ g : Buf (Elt F) ℓ, ℓ ↦[J]{fullShare} g) := by
  iintro ⟨%g, H⟩
  rw [← hu]
  ihave H := (pointsTo_union hd).1 $$ H
  icases H with ⟨HI, HJ⟩
  isplitl [HI] <;> iexists g
  · iexact HI
  · iexact HJ

omit [FloatOps F] in
theorem some_join {ℓ : Loc nD τ sig} {I J : Finset (Idx ℓ)} (hd : Disjoint I J) (hu : I ∪ J = Finset.univ) :
    iprop((∃ g : Buf (Elt F) ℓ, ℓ ↦[I]{fullShare} g) ∗ ∃ g : Buf (Elt F) ℓ, ℓ ↦[J]{fullShare} g)
      ⊢ (iprop(∃ g : Buf (Elt F) ℓ, ℓ ↦{fullShare} g) : sProp 𝕄) := by
  iintro ⟨⟨%g, HI⟩, ⟨%g', HJ⟩⟩
  ihave H := (pointsTo_join (f := g) (g := g') hd) $$ [HI HJ]
  · isplitl [HI] <;> iassumption
  rw [hu]
  iexists _
  iexact H

/-! ## What a task is given and gives back -/

/-- The read shares of the volume a task's two input slots use. -/
abbrev tokA (L : grid0.Coords) : PosShare TreeShare := Transfers.shareTokN fullShare (2 * wid L)
abbrev tokB (L : grid0.Coords) : PosShare TreeShare := Transfers.shareTokN fullShare (2 * wid L + 1)

variable (f : S64x32x128x128.Idx → Elt F .f32)

def Vol : sProp 𝕄 := iprop((xLoc d ↦{tokA L} (f : Buf (Elt F) (xLoc d))) ∗ xLoc d ↦{tokB L} (f : Buf (Elt F) (xLoc d)))
def Go : sProp 𝕄 := iprop(Vol d L f ∗ OutTodo (F := F) d L 0 ∗ CrdIn (F := F) d L)
def Td : sProp 𝕄 := iprop(Vol d L f ∗ OutFin d L f 64 ∗ CrdOut (F := F) d L)

instance : Storable (upEmb : UEmb _ 𝕄) (CrdIn (F := F) d L) := by
  unfold CrdIn; split <;> infer_instance
instance : Storable (upEmb : UEmb _ 𝕄) (CrdOut (F := F) d L) := by
  unfold CrdOut; split <;> infer_instance
instance : Storable (upEmb : UEmb _ 𝕄) (Go d L f) := by
  unfold Go Vol OutTodo OutCell; infer_instance
instance : Storable (upEmb : UEmb _ 𝕄) (Td d L f) := by
  unfold Td Vol OutFin OutDone; infer_instance

/-- What its subcore owns beside. -/
def Rest : sProp 𝕄 :=
  iprop((bigSep (ownRefs (τ := τ) (th d L).2 \ bufRefs d L) fun b => iprop(∃ g : Buf (Elt F) ((d, b) : Loc nD τ sig), ((d, b) : Loc nD τ sig) ↦{fullShare} g))
    ∗ bigSep (ownCells (th d L) \ semCells d L) fun g => semVal g 0)

variable (O : CellTallies nD τ sig (HIx 1)) (W : Waits sig (HIx 1))

/-- What the subcore is given, and what it gives back. -/
def Given : sProp 𝕄 := iprop(Go d L f ∗ ownBufs (th d L) ∗ ownSems0 (th d L) ∗ owes (th d L) O W)
def Back : sProp 𝕄 := iprop(Td d L f ∗ ownBufs (th d L) ∗ ownSems0 (th d L) ∗ ∃ W', ⌜∀ p ∈ W', p ∈ W ∨ p.2 = none⌝ ∗ owes (th d L) O W')

theorem given_open : iprop(Transfers.MayWaits (th d L) (none : HIx 1) O ∗ Given d L f O W)
    ⊢ iprop((InIdle d L f (tokA L) sinA 0 ∗ (InIdle d L f (tokB L) sinB 1 ∗ (Ob (F := F) d L O W ∗ OutIdle (F := F) d L soutA 0
        ∗ OutIdle (F := F) d L soutB 1 ∗ OutTodo (F := F) d L 0 ∗ (CrdBuf (F := F) d L ∗ CrdIn (F := F) d L)))) ∗ Rest (F := F) d L) := by
  unfold Given Go Vol
  rw [ownSems_split, ownBufs_split]
  iintro ⟨Hmw, ⟨⟨HxA, HxB⟩, Ht, Hk⟩, ⟨⟨Hs, Hp, Hq⟩, Hbufs⟩, ⟨⟨HvA, HvB, HwA, HwB, Hc⟩, Hsems⟩, HO⟩
  ihave Hs := (some_split (F := F) (ℓ := sLoc d L) slotS_disjoint slotS_union) $$ Hs
  icases Hs with ⟨Hs0, Hs1⟩
  ihave Hp := (some_split (F := F) (ℓ := pLoc d L) slotP_disjoint slotP_union) $$ Hp
  icases Hp with ⟨Hp0, Hp1⟩
  unfold InIdle OutIdle Ob CrdBuf Rest
  isplitr [Hbufs Hsems]
  · isplitl [HxA Hs0 HvA]
    · isplitl [HxA]; · iexact HxA
      isplitl [Hs0] <;> iassumption
    isplitl [HxB Hs1 HvB]
    · isplitl [HxB]; · iexact HxB
      isplitl [Hs1] <;> iassumption
    isplitl [Hmw HO]
    · isplitl [Hmw]; · iexact Hmw
      iexists W
      isplitr
      · ipureintro; exact fun p hp => Or.inl hp
      · iexact HO
    isplitl [Hp0 HwA]
    · isplitl [Hp0] <;> iassumption
    isplitl [Hp1 HwB]
    · isplitl [Hp1] <;> iassumption
    isplitl [Ht]; · iexact Ht
    isplitr [Hk]
    · isplitl [Hq] <;> iassumption
    · iexact Hk
  · isplitl [Hbufs] <;> iassumption

theorem back_close : iprop((CrdBuf (F := F) d L ∗ CrdOut (F := F) d L ∗ (Ob (F := F) d L O W ∗ Quiet d L f (tokA L) (tokB L))) ∗ Rest (F := F) d L)
    ⊢ Back d L f O W := by
  unfold Back Td Vol
  rw [ownSems_split, ownBufs_split]
  unfold Quiet InIdle OutIdle Ob CrdBuf Rest
  iintro ⟨⟨⟨Hq, Hc⟩, Hk, ⟨-, HO⟩, ⟨HxA, Hs0, HvA⟩, ⟨HxB, Hs1, HvB⟩, ⟨Hp0, HwA⟩, ⟨Hp1, HwB⟩, Hf⟩, Hbufs, Hsems⟩
  ihave Hs := (some_join (F := F) (ℓ := sLoc d L) slotS_disjoint slotS_union) $$ [Hs0 Hs1]
  · isplitl [Hs0] <;> iassumption
  ihave Hp := (some_join (F := F) (ℓ := pLoc d L) slotP_disjoint slotP_union) $$ [Hp0 Hp1]
  · isplitl [Hp0] <;> iassumption
  isplitl [HxA HxB Hf Hk]
  · isplitl [HxA HxB]; · isplitl [HxA] <;> iassumption
    isplitl [Hf] <;> iassumption
  isplitl [Hs Hp Hq Hbufs]
  · isplitr [Hbufs]
    · isplitl [Hs]; · iexact Hs
      isplitl [Hp] <;> iassumption
    · iexact Hbufs
  isplitr [HO]
  · isplitr [Hsems]
    · isplitl [HvA]; · iexact HvA
      isplitl [HvB]; · iexact HvB
      isplitl [HwA]; · iexact HwA
      isplitl [HwB] <;> iassumption
    · iexact Hsems
  · iexact HO

set_option maxHeartbeats 2000000 in
/-- The task on its subcore. -/
theorem tile_body (hO : ∀ g, O g none = 0) :
    iprop(levAts (K (F := F)).L (K (F := F)).lev ∗ emp ∗ Go d L f ∗ scopedBufs (th d L) ∗ scopedSems0 (th d L) ∗ owes (th d L) O W)
      ⊢ wp frame (wpE (defs₀ (F := F)) 𝒱₀ (th d L) none) Set.univ
          (cc0__body L xM (Memref.isWhole_whole _) oM (Memref.isWhole_whole _) kM (Memref.isWhole_whole _)
          sM (Memref.isWhole_whole _) pM (Memref.isWhole_whole _) qM (Memref.isWhole_whole _) cc0_scratch3 cc0_scratch4 cc0_scratch5 cc0_scratch6 cc0_scoped0)
          fun _ => iprop(Td d L f ∗ scopedBufs (th d L) ∗ scopedSems0 (th d L) ∗ ∃ W', ⌜∀ p ∈ W', p ∈ W ∨ p.2 = none⌝ ∗ owes (th d L) O W') := by
  rw [(K (F := F)).scopedBufs_V facts d (cV L) (jV L), SparseCore.Cfg.scopedSems0_V (Val := Elt F) d (cV L) (jV L)]
  refine by_way (iprop(Transfers.MayWaits (th d L) (none : HIx 1) O ∗ Given d L f O W)) ?_ ?_
  · unfold Given
    iintro ⟨#Hlv, -, H⟩
    ihave Hmw := ((K (F := F)).mayWaits_none (thr := th d L) hO) $$ Hlv
    isplitr [H]; · iexact Hmw
    iexact H
  · refine (given_open d L f O W).trans ?_
    refine (sep_mono_left wp_body).trans ?_
    refine (wp_frame_r frame _ _).trans ?_
    exact wp_mono frame _ _ fun _ => back_close d L f O W

end Tile

end Cert.Proof

end
-- ==== Proof.Deal.lean ====
/-
  Dealing the arrays out to the thirty-two tasks, and collecting them.

  The volume is read by all: each task has two read shares of it, and what is left over stays behind. The result array goes
  row by row: task `wid` has the rows of patches `4 * wid … 4 * wid + 3`. The coordinate array goes to the first task whole.
-/
module

public import proofs.«01_k».proof.Proof.Tile

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Deal

variable [FloatOps F] (d : Dev nD)

/-! ## One conjunct per task -/

def tasks (Φ : grid0.Coords → sProp 𝕄) : sProp 𝕄 :=
  bigSep (Finset.univ : Finset (Fin 2)) fun c => bigSep (Finset.univ : Finset (Fin 16)) fun i => Φ (coordsV c i)

omit [FloatOps F] in
theorem tasks_sep (Φ Ψ : grid0.Coords → sProp 𝕄) : tasks (fun L => iprop(Φ L ∗ Ψ L)) = iprop(tasks Φ ∗ tasks Ψ) := by
  unfold tasks
  rw [← bigSep_sep']
  exact bigSep_congr fun c _ => bigSep_sep' _ _ _

omit [FloatOps F] in
theorem tasks_mono {Φ Ψ : grid0.Coords → sProp 𝕄} (h : ∀ L, Φ L ⊢ Ψ L) : tasks Φ ⊢ tasks Ψ :=
  bigSep_mono fun _ _ => bigSep_mono fun _ _ => h _

omit [FloatOps F] in
theorem no_conjuncts {I : Type} (s : Finset I) : (bigSep s fun _ => iprop(emp)) = (iprop(emp) : sProp 𝕄) := bigSep_emp_const s

omit [FloatOps F] in
/-- A conjunct of one member alone. -/
theorem only {I : Type} [DecidableEq I] {s : Finset I} {i : I} (hi : i ∈ s) {Φ : I → sProp 𝕄} (h : ∀ j ∈ s, j ≠ i → Φ j = iprop(emp)) :
    bigSep s Φ = Φ i := by
  rw [SparseCore.bigSep_erase' hi, bigSep_congr (fun j hj => h j (Finset.mem_of_mem_erase hj) (Finset.ne_of_mem_erase hj)), no_conjuncts]
  exact sep_emp_eq _

omit [FloatOps F] in
/-- A conjunct of the first task alone. -/
theorem tasks_first (X : sProp 𝕄) : tasks (fun L => if wid L = 0 then X else iprop(emp)) = X := by
  unfold tasks
  rw [only (Finset.mem_univ (0 : Fin 2)), only (Finset.mem_univ (0 : Fin 16))]
  · exact if_pos rfl
  · intro j _ hj
    refine if_neg fun h => hj (Fin.ext ?_)
    have h : 0 * 16 + j.val = 0 := h
    show j.val = 0
    omega
  · intro c _ hc
    rw [bigSep_congr (fun i _ => if_neg (fun h => hc (Fin.ext ?_))), no_conjuncts]
    have h : c.val * 16 + i.val = 0 := h
    show c.val = 0
    omega

/-! ## The parts of an array with a given value of a function -/

omit [FloatOps F] in
theorem by_fibre {J : Type} [DecidableEq J] {ℓ : Loc nD τ sig} {q : PosShare TreeShare} {f : Buf (Elt F) ℓ} {S : Finset (Idx ℓ)} (s : Finset J)
    (g : Idx ℓ → J) (h : ∀ x ∈ S, g x ∈ s) :
    (ℓ ↦[S]{q} f : sProp 𝕄) = bigSep s fun j => ℓ ↦[S.filter fun x => g x = j]{q} f := by
  rw [← pointsTo_biUnion s (fun j => S.filter fun x => g x = j)]
  · congr 1
    ext x
    simp only [Finset.mem_biUnion, Finset.mem_filter]
    exact ⟨fun hx => ⟨_, h x hx, hx, rfl⟩, fun ⟨_, _, hx, _⟩ => hx⟩
  · intro i _ j _ hij
    exact Finset.disjoint_filter.mpr fun x _ hi hj => hij (hi.symm.trans hj)

omit [FloatOps F] in
/-- The result array is its tasks' rows. -/
theorem out_tasks (g : Buf (Elt F) (oLoc d)) :
    (oLoc d ↦{fullShare} g : sProp 𝕄)
      = tasks fun L => bigSep (Finset.range 64) fun ch => bigSep Finset.univ fun t : Fin 4 => oLoc d ↦[rowO (4 * wid L + t.val) ch]{fullShare} g := by
  unfold tasks
  rw [by_fibre (ℓ := oLoc d) (Finset.univ : Finset (Fin 2)) (fun x : S128x64x2048.Idx => ⟨(x 0).val / 64 % 2, Nat.mod_lt _ (by omega)⟩) (fun _ _ => Finset.mem_univ _)]
  refine bigSep_congr fun c _ => ?_
  rw [by_fibre (ℓ := oLoc d) (Finset.univ : Finset (Fin 16)) (fun x : S128x64x2048.Idx => ⟨(x 0).val / 4 % 16, Nat.mod_lt _ (by omega)⟩) (fun _ _ => Finset.mem_univ _)]
  refine bigSep_congr fun i _ => ?_
  rw [by_fibre (ℓ := oLoc d) (Finset.range 64) (fun x : S128x64x2048.Idx => (x 1).val) (fun x _ => Finset.mem_range.mpr ((x : S128x64x2048.Idx) 1).isLt)]
  refine bigSep_congr fun ch _ => ?_
  rw [by_fibre (ℓ := oLoc d) (Finset.univ : Finset (Fin 4)) (fun x : S128x64x2048.Idx => ⟨(x 0).val % 4, Nat.mod_lt _ (by omega)⟩) (fun _ _ => Finset.mem_univ _)]
  refine bigSep_congr fun t _ => ?_
  refine congrArg (fun S : Finset S128x64x2048.Idx => (oLoc d ↦[S]{fullShare} g : sProp 𝕄)) ?_
  refine Finset.ext fun x => ?_
  have key : ∀ n k : ℕ, n < 128 → ((((n / 64 % 2 = c.val ∧ n / 4 % 16 = i.val) ∧ k = ch) ∧ n % 4 = t.val) ↔ (n = 4 * (c.val * 16 + i.val) + t.val ∧ k = ch)) := by
    have := c.isLt
    have := i.isLt
    omega
  have hw : wid (coordsV c i) = c.val * 16 + i.val := rfl
  simp only [Finset.mem_filter, Finset.mem_univ, true_and, Fin.ext_iff, hw]
  exact (key (x 0).val (x 1).val (x 0).isLt).trans (mem_rowO (i := x)).symm

omit [FloatOps F] in
/-- Sixty-four read shares of the volume, two for each task. -/
theorem vol_tasks (f : S64x32x128x128.Idx → Elt F .f32) :
    (bigSep (Finset.range 64) fun i => (xLoc d ↦{Transfers.shareTokN fullShare i} (f : Buf (Elt F) (xLoc d)) : sProp 𝕄)) = tasks fun L => Vol d L f := by
  unfold tasks
  rw [show Finset.range 64 = (Finset.univ : Finset (Fin 2 × Fin 16 × Fin 2)).image (fun p => 2 * (p.1.val * 16 + p.2.1.val) + p.2.2.val) by decide +kernel,
    SparseCore.bigSep_image_of_injOn, BI.bigSep_univ_prod]
  · refine bigSep_congr fun c _ => ?_
    rw [BI.bigSep_univ_prod]
    refine bigSep_congr fun i _ => ?_
    rw [show (Finset.univ : Finset (Fin 2)) = {0, 1} by decide, SparseCore.bigSep_insert' (by decide), bigSep_singleton]
    rfl
  · rintro ⟨a, b, c⟩ - ⟨a', b', c'⟩ - h
    have h : 2 * (a.val * 16 + b.val) + c.val = 2 * (a'.val * 16 + b'.val) + c'.val := h
    simp only [Prod.mk.injEq, Fin.ext_iff]
    omega

/-! ## Out and back -/

variable (f : S64x32x128x128.Idx → Elt F .f32)

/-- What stays behind of the volume. -/
def Left : sProp 𝕄 := iprop(xLoc d ↦{Transfers.shareDrop fullShare 64} (f : Buf (Elt F) (xLoc d)))

omit [FloatOps F] in
theorem cell_some (L : grid0.Coords) (ch : ℕ) (t : Fin 4) (g : Buf (Elt F) (oLoc d)) :
    (oLoc d ↦[rowO (4 * wid L + t.val) ch]{fullShare} g : sProp 𝕄) ⊢ OutCell (F := F) d L ch t := by
  unfold OutCell
  iintro H
  iexists g
  iexact H

theorem deal : iprop((xLoc d ↦{fullShare} (f : Buf (Elt F) (xLoc d))) ∗ (∃ g : Buf (Elt F) (oLoc d), oLoc d ↦{fullShare} g) ∗ ∃ g : Buf (Elt F) (kLoc d), kLoc d ↦{fullShare} g)
    ⊢ iprop(Left d f ∗ tasks fun L => Go d L f) := by
  have e : (tasks fun L => Go d L f) = iprop((tasks fun L => Vol d L f) ∗ (tasks fun L => OutTodo (F := F) d L 0) ∗ tasks fun L => CrdIn (F := F) d L) := by
    unfold Go
    rw [tasks_sep, tasks_sep]
  have hk : (tasks fun L => CrdIn (F := F) d L) = (iprop(∃ g : Buf (Elt F) (kLoc d), kLoc d ↦{fullShare} g) : sProp 𝕄) := by
    unfold CrdIn
    exact tasks_first _
  have ho (g : Buf (Elt F) (oLoc d)) : (oLoc d ↦{fullShare} g : sProp 𝕄) ⊢ tasks fun L => OutTodo (F := F) d L 0 := by
    rw [out_tasks]
    refine tasks_mono fun L => ?_
    unfold OutTodo
    rw [Finset.range_eq_Ico]
    refine bigSep_mono fun ch _ => bigSep_mono fun t _ => ?_
    exact cell_some d L ch t g
  rw [e, hk]
  iintro ⟨Hx, ⟨%g, Ho⟩, Hk⟩
  ihave Hx := (Transfers.pointsTo_toks_range fullShare 64).1 $$ Hx
  icases Hx with ⟨Hl, Hx⟩
  unfold Left
  isplitl [Hl]; · iexact Hl
  isplitl [Hx]
  · rw [← vol_tasks]; iexact Hx
  isplitr [Hk]
  · iapply (ho g) $$ Ho
  · iexact Hk

theorem collect : iprop(Left d f ∗ tasks fun L => Td d L f)
    ⊢ iprop((xLoc d ↦{fullShare} (f : Buf (Elt F) (xLoc d))) ∗ (oLoc d ↦{fullShare} (outF f : Buf (Elt F) (oLoc d))) ∗ kLoc d ↦{fullShare} (coordF : Buf (Elt F) (kLoc d))) := by
  have e : (tasks fun L => Td d L f) = iprop((tasks fun L => Vol d L f) ∗ (tasks fun L => OutFin d L f 64) ∗ tasks fun L => CrdOut (F := F) d L) := by
    unfold Td
    rw [tasks_sep, tasks_sep]
  have hk : (tasks fun L => CrdOut (F := F) d L) = (iprop(kLoc d ↦{fullShare} (coordF : Buf (Elt F) (kLoc d))) : sProp 𝕄) := by
    unfold CrdOut
    exact tasks_first _
  have ho : (tasks fun L => OutFin d L f 64) = (iprop(oLoc d ↦{fullShare} (outF f : Buf (Elt F) (oLoc d))) : sProp 𝕄) := by
    unfold OutFin OutDone
    exact (out_tasks d _).symm
  rw [e, hk, ho, ← vol_tasks]
  unfold Left
  iintro ⟨Hl, Hx, Ho, Hk⟩
  isplitl [Hl Hx]
  · iapply (Transfers.pointsTo_toks_range fullShare 64).2
    isplitl [Hl] <;> iassumption
  isplitl [Ho] <;> iassumption

end Deal

end Cert.Proof

end
-- ==== Proof.Launch.lean ====
/-
  The whole program's run: the launch deals the arrays out to the tasks and collects them, and the host's three operations give
  the two results their shapes.
-/
module

public import proofs.«01_k».proof.Proof.Deal

@[expose] public section

noncomputable section

namespace Cert.Proof

open Cert.KernelIdeal Cert.KernelIdeal.Gen

open Idealize.ShloMosaic
open Idealize.ShloMosaic.SparseCore (V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

section Launch

open Idealize.ShloMosaic.StableHlo (held wp_hlo_within)

/-! ## What passes between the host and the tasks -/

variable (m : (ℓ : Loc nD τ sig) → Buf (Elt F) ℓ) (ρ : Dev nD → PrngReg)

/-- The volume as the program finds it. -/
abbrev volume (d : Dev nD) : S64x32x128x128.Idx → Elt F .f32 := m (xLoc d)

theorem nCore_zero : (K (F := F)).nCore 0 = 2 := rfl
theorem nSub_zero : (K (F := F)).nSub 0 = 16 := rfl

/-- The task on a SparseCore and a subcore of the call. -/
def task (c : Fin ((K (F := F)).nCore 0)) (i : Fin ((K (F := F)).nSub 0)) : grid0.Coords := coordsV (Fin.cast nCore_zero c) (Fin.cast nSub_zero i)

/-- What a SparseCore is given, and what it gives back: what its tasks are given and give back. -/
def CoreGo (d : Dev nD) (c : Fin ((K (F := F)).nCore 0)) : sProp 𝕄 := bigSep Finset.univ fun i : Fin ((K (F := F)).nSub 0) => Go d (task c i) (volume m d)
def CoreTd (d : Dev nD) (c : Fin ((K (F := F)).nCore 0)) : sProp 𝕄 := bigSep Finset.univ fun i : Fin ((K (F := F)).nSub 0) => Td d (task c i) (volume m d)

instance (d : Dev nD) (c : Fin ((K (F := F)).nCore 0)) : Storable (upEmb : UEmb _ 𝕄) (CoreGo m d c) := by
  unfold CoreGo; infer_instance
instance (d : Dev nD) (c : Fin ((K (F := F)).nCore 0)) : Storable (upEmb : UEmb _ 𝕄) (CoreTd m d c) := by
  unfold CoreTd; infer_instance

def P : (K (F := F)).Pay (nD := nD) (Val := Elt F) (Name := ℕ) (U := UU) where
  st := fun q d c => match q with | 0 => CoreGo m d c
  dn := fun q d c => match q with | 0 => CoreTd m d c
  go := fun q d c i => match q with | 0 => Go d (task c i) (volume m d)
  td := fun q d c i => match q with | 0 => Td d (task c i) (volume m d)
  x := fun _ _ => iprop(emp)

instance P_storable : (P (F := F) m).IsStorable where
  st q d c := match q with | 0 => (inferInstance : Storable (upEmb : UEmb _ 𝕄) (CoreGo m d c))
  dn q d c := match q with | 0 => (inferInstance : Storable (upEmb : UEmb _ 𝕄) (CoreTd m d c))
  go q d c i := match q with | 0 => (inferInstance : Storable (upEmb : UEmb _ 𝕄) (Go d (task c i) (volume m d)))
  td q d c i := match q with | 0 => (inferInstance : Storable (upEmb : UEmb _ 𝕄) (Td d (task c i) (volume m d)))

/-! ## The tasks -/

theorem defs₀_vector (c : Fin τ.nSC) (s : Fin τ.nSub) :
    defs₀ (F := F) (.scVector c s) 0 () = SparseCore.onTile hcore0 hsub0 (fun c s => cc0__body (coordsV c s) xM (Memref.isWhole_whole _) oM (Memref.isWhole_whole _)
      kM (Memref.isWhole_whole _) sM (Memref.isWhole_whole _) pM (Memref.isWhole_whole _) qM (Memref.isWhole_whole _)
      cc0_scratch3 cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (volume m d) O W hO).trans (wp_mono frame _ _ fun _ => obl_post)

theorem vecSplit : (K (F := F)).VecSplit' (P m) 0 := by
  intro d c
  show CoreGo m d c ⊢ |={Set.univ}=> iprop(CoreGo m d c ∗ (CoreTd m d c -∗ CoreTd m d c))
  iintro H
  imodintro
  isplitl [H]; · iexact H
  iintro H
  iexact H

omit [FloatOps F] in
theorem bigSep_cast {k n : ℕ} (h : k = n) (Φ : Fin n → sProp 𝕄) : (bigSep Finset.univ fun i : Fin k => Φ (Fin.cast h i)) = bigSep Finset.univ Φ := by
  subst h; rfl

theorem cores_go (d : Dev nD) : (bigSep Finset.univ fun c : Fin ((K (F := F)).nCore 0) => CoreGo m d c) = tasks fun L => Go d L (volume m d) := by
  unfold CoreGo tasks task
  refine Eq.trans ?_ (bigSep_cast (nCore_zero (F := F)) _)
  exact bigSep_congr fun c _ => bigSep_cast (nSub_zero (F := F)) fun i => Go d (coordsV (Fin.cast nCore_zero c) i) (volume m d)
theorem cores_td (d : Dev nD) : (bigSep Finset.univ fun c : Fin ((K (F := F)).nCore 0) => CoreTd m d c) = tasks fun L => Td d L (volume m d) := by
  unfold CoreTd tasks task
  refine Eq.trans ?_ (bigSep_cast (nCore_zero (F := F)) _)
  exact bigSep_congr fun c _ => bigSep_cast (nSub_zero (F := F)) fun i => Td d (coordsV (Fin.cast nCore_zero c) i) (volume m d)

theorem st_eq (d : Dev nD) : (bigSep Finset.univ fun c : Fin ((K (F := F)).nCore 0) => (P m).st 0 d c) = tasks fun L => Go d L (volume m d) := cores_go m d
theorem dn_eq (d : Dev nD) : (bigSep Finset.univ fun c : Fin ((K (F := F)).nCore 0) => (P m).dn 0 d c) = tasks fun L => Td d L (volume m d) := cores_td m d

/-! ## The launch's element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [no_conjuncts]; iempintro
  unfold P; dsimp only
  rw [show (bigSep Finset.univ fun _ : Thread nD τ => bigSep Finset.univ fun _ : Fin 1 => (iprop(emp) : sProp 𝕄)) = iprop(emp) from by
    rw [bigSep_congr fun _ _ => no_conjuncts _, no_conjuncts]]
  iempintro

/-! ## The host's arrays -/

abbrev aR : DevRef τ sig := Proc.devRef .tc (main_arg0 : Ref sig .tc)
abbrev oR : DevRef τ sig := Proc.devRef .tc (main_v0_0 : Ref sig .tc)
abbrev kR : DevRef τ sig := Proc.devRef .tc (main_v0_1 : Ref sig .tc)
abbrev r1R : DevRef τ sig := Proc.devRef .tc (main_v1 : Ref sig .tc)
abbrev r2R : DevRef τ sig := Proc.devRef .tc (main_v2 : Ref sig .tc)
abbrev r3R : DevRef τ sig := Proc.devRef .tc (main_v3 : Ref sig .tc)

/-- The host's operations: the patches take their shape, the coordinates theirs, and the coordinates' axes are exchanged. -/
abbrev op1 : HloOp τ sig (Elt F) := StableHlo.reshape main_v0_0 main_v1 (rfl : (.f32 : EltTy) = .f32) shapeCasts_S128x64x2048_S128x64x8x16x16
abbrev op2 : HloOp τ sig (Elt F) := StableHlo.reshape main_v0_1 main_v2 (rfl : (.i32 : EltTy) = .i32) shapeCasts_S384_S3x128
abbrev op3 : HloOp τ sig (Elt F) := StableHlo.unary main_v2 main_v3
  ((transpose S128x3 [1, 0] · transposes_S3x128_S128x3_1_0) : (⟨S3x128, .i32⟩ : BufTy).Contents (Elt F) → (⟨S128x3, .i32⟩ : BufTy).Contents (Elt F))

abbrev arrays : Finset (DevRef τ sig) := {aR, oR, kR, r1R, r2R, r3R}

omit [FloatOps F] in
theorem held_arrays (d : Dev nD) (W : Valuation τ sig (Elt F)) :
    (held (SparseCore.T d) arrays W : sProp 𝕄) = iprop((xLoc d ↦{fullShare} W aR) ∗ (oLoc d ↦{fullShare} W oR) ∗ (kLoc d ↦{fullShare} W kR)
      ∗ ((SparseCore.T d).loc main_v1 ↦{fullShare} W r1R) ∗ ((SparseCore.T d).loc main_v2 ↦{fullShare} W r2R) ∗ (SparseCore.T d).loc main_v3 ↦{fullShare} W r3R) := by
  unfold held arrays
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscoped_arrays (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0_0) ∗ (kLoc d ↦{fullShare} W main_v0_1)
      ∗ ((SparseCore.T d).loc main_v1 ↦{fullShare} W main_v1) ∗ ((SparseCore.T d).loc main_v2 ↦{fullShare} W main_v2) ∗ (SparseCore.T d).loc main_v3 ↦{fullShare} W main_v3) := by
  unfold unscopedBufs
  rw [show (Finset.univ.filter fun b : Ref sig .tc => ¬ b.isScoped) = {main_arg0, main_v0_0, main_v0_1, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The arrays at the launch; after the call; at the end. -/
def V0 (d : Dev nD) : Valuation τ sig (Elt F) := fun b => m (d, b)
def V1 (d : Dev nD) : Valuation τ sig (Elt F) :=
  Function.update (Function.update (V0 m d) oR (outF (volume m d) : S128x64x2048.Idx → Elt F .f32)) kR (coordF : S384.Idx → BitVec 32)
def V4 (d : Dev nD) : Valuation τ sig (Elt F) := op3.result (op2.result (op1.result (V1 m d)))

omit [FloatOps F] in
theorem V1_ne (d : Dev nD) {b : DevRef τ sig} (ho : b ≠ oR) (hk : b ≠ kR) : V1 m d b = V0 m d b := by
  unfold V1
  rw [Function.update_of_ne hk, Function.update_of_ne ho]
omit [FloatOps F] in
theorem V1_o (d : Dev nD) : V1 m d oR = (outF (volume m d) : S128x64x2048.Idx → Elt F .f32) := by
  unfold V1
  rw [Function.update_of_ne (show oR ≠ kR by decide), Function.update_self]
omit [FloatOps F] in
theorem V1_k (d : Dev nD) : V1 m d kR = (coordF : S384.Idx → BitVec 32) := by
  unfold V1
  rw [Function.update_self]

/-- The results: the patches, five axes; the coordinates, a row for each patch. -/
def res1 (d : Dev nD) : S128x64x8x16x16.Idx → Elt F .f32 := shapeCast S128x64x8x16x16 (outF (volume m d)) shapeCasts_S128x64x2048_S128x64x8x16x16
def res3 : S128x3.Idx → BitVec 32 := transpose S128x3 [1, 0] (shapeCast S3x128 coordF shapeCasts_S384_S3x128) transposes_S3x128_S128x3_1_0

theorem V4_a (d : Dev nD) : V4 m d aR = volume m d := by
  unfold V4
  rw [op3.result_of_not_mem _ (b := aR) (show aR ∉ ({r3R} : Finset (DevRef τ sig)) by decide),
    op2.result_of_not_mem _ (b := aR) (show aR ∉ ({r2R} : Finset (DevRef τ sig)) by decide),
    op1.result_of_not_mem _ (b := aR) (show aR ∉ ({r1R} : Finset (DevRef τ sig)) by decide), V1_ne m d (by decide) (by decide)]
  rfl
theorem V4_r1 (d : Dev nD) : V4 m d r1R = res1 m d := by
  unfold V4
  rw [op3.result_of_not_mem _ (b := r1R) (show r1R ∉ ({r3R} : Finset (DevRef τ sig)) by decide),
    op2.result_of_not_mem _ (b := r1R) (show r1R ∉ ({r2R} : Finset (DevRef τ sig)) by decide), StableHlo.reshape_result]
  unfold res1
  rw [← V1_o]
  rfl
theorem V4_r3 (d : Dev nD) : V4 m d r3R = res3 := by
  unfold V4
  rw [StableHlo.unary_result, StableHlo.reshape_result,
    op1.result_of_not_mem _ (b := kR) (show kR ∉ ({r1R} : Finset (DevRef τ sig)) by decide)]
  unfold res3
  rw [← V1_k m d]
  rfl

/-! ## @main -/

/-- What the program leaves: the volume unchanged, and the two results. -/
def FIN (d : Dev nD) : sProp 𝕄 :=
  iprop((xLoc d ↦{fullShare} (volume m d : Buf (Elt F) (xLoc d))) ∗ ((SparseCore.T d).loc main_v1 ↦{fullShare} (res1 m d : Buf (Elt F) ((SparseCore.T d).loc main_v1)))
    ∗ (SparseCore.T d).loc main_v3 ↦{fullShare} (res3 : Buf (Elt F) ((SparseCore.T d).loc main_v3)))

theorem sub1 : (op1 (F := F)).bufs ⊆ arrays := show ({oR, r1R} : Finset (DevRef τ sig)) ⊆ arrays by decide
theorem sub2 : (op2 (F := F)).bufs ⊆ arrays := show ({kR, r2R} : Finset (DevRef τ sig)) ⊆ arrays by decide
theorem sub3 : (op3 (F := F)).bufs ⊆ arrays := show ({r2R, r3R} : Finset (DevRef τ sig)) ⊆ arrays by decide

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_arrays]
  simp only [main, wp_bind, wp_pure]
  iintro ⟨#Hctx, Hst, ⟨Hb, ⟨Hx, Ho, Hk, H1, H2, H3⟩, Hts, -⟩, -⟩
  ihave Hd := (deal d (volume m d)) $$ [Hx Ho Hk]
  · isplitl [Hx]; · iexact Hx
    isplitl [Ho]
    · iexists _; iexact Ho
    · iexists _; iexact Hk
  icases Hd with ⟨Hl, Hgo⟩
  iapply ((K (F := F)).wp_run (D (F := F)) 𝒱 (EH := EH) (P := P m) κ d 0) $$ [Hst Hgo Hl Hb H1 H2 H3 Hts]
  isplitr; · iexact Hctx
  isplitl [Hst]; · iexact Hst
  isplitl [Hgo]
  · rw [st_eq]; iexact Hgo
  iintro ⟨Hst, Hdn⟩
  ihave Hdn := (Entails.of_eq (dn_eq m d)) $$ Hdn
  ihave Hd := (collect d (volume m d)) $$ [Hl Hdn]
  · isplitl [Hl] <;> iassumption
  icases Hd with ⟨Hx, Ho, Hk⟩
  iapply (wp_hlo_within 𝒱 (SparseCore.T d) none Set.univ (op := op1) (S := arrays) sub1 (V := V1 m d)) $$ [Hb Hx Ho Hk H1 H2 H3]
  · isplitl [Hb]; · iexact Hb
    rw [held_arrays, V1_o, V1_k, V1_ne m d (b := aR) (by decide) (by decide), V1_ne m d (b := r1R) (by decide) (by decide),
      V1_ne m d (b := r2R) (by decide) (by decide), V1_ne m d (b := r3R) (by decide) (by decide)]
    isplitl [Hx]; · iexact Hx
    isplitl [Ho]; · iexact Ho
    isplitl [Hk]; · iexact Hk
    isplitl [H1]; · iexact H1
    isplitl [H2]; · iexact H2
    iexact H3
  iintro ⟨Hb, Hheld⟩
  rw [wp_ret]; imodintro
  iapply (wp_hlo_within 𝒱 (SparseCore.T d) none Set.univ (op := op2) (S := arrays) sub2 (V := op1.result (V1 m d))) $$ [Hb Hheld]
  · isplitl [Hb] <;> iassumption
  iintro ⟨Hb, Hheld⟩
  rw [wp_ret]; imodintro
  iapply (wp_hlo_within 𝒱 (SparseCore.T d) none Set.univ (op := op3) (S := arrays) sub3 (V := op2.result (op1.result (V1 m d)))) $$ [Hb Hheld]
  · isplitl [Hb] <;> iassumption
  iintro ⟨Hb, Hheld⟩
  rw [wp_ret]; imodintro; imodintro
  ihave Hh := (Entails.of_eq (held_arrays (F := F) d (op3.result (op2.result (op1.result (V1 m d)))))) $$ Hheld
  rw [show op3.result (op2.result (op1.result (V1 m d))) = V4 m d from rfl, V4_a, V4_r1, V4_r3]
  icases Hh with ⟨Hx, -, -, H1, -, H3⟩
  isplitl [Hst]; · iexact Hst
  isplitr [Hb Hts]
  · unfold FIN
    isplitl [Hx]; · iexact Hx
    isplitl [H1] <;> iassumption
  isplitl [Hb] <;> iassumption

/-! ## The run -/

/-- What the claims say of a final state, device by device. -/
def Ends (s : MemSt nD τ sig (Elt F)) (d : Dev nD) : Prop :=
  s.mem (xLoc d) = m (xLoc d) ∧ s.mem ((SparseCore.T d).loc main_v1) = (res1 m d : Buf (Elt F) ((SparseCore.T d).loc main_v1))
    ∧ s.mem ((SparseCore.T d).loc main_v3) = (res3 : Buf (Elt F) ((SparseCore.T d).loc main_v3))

theorem hfin (d : Dev nD) (s' : Phys nD τ sig (Elt F)) : iprop(FIN m d ∗ SI s') ⊢ (⌜Ends m s'.mem d⌝ : sProp 𝕄) := by
  unfold FIN Ends
  iintro ⟨⟨Hx, H1, H3⟩, HSI⟩
  icombine HSI Hx gives %hx
  icombine HSI H1 gives %h1
  icombine HSI H3 gives %h3
  ipureintro
  exact ⟨funext fun i => hx i (Finset.mem_univ i), funext fun i => h1 i (Finset.mem_univ i), funext fun i => h3 i (Finset.mem_univ i)⟩

def QC : PUnit × MemSt nD τ sig (Elt F) → Prop := fun r => (∀ d : Dev nD, Ends m r.2 d) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fun d s' => Ends m s'.mem d) (hfin m) (QC m)
    (fun _ h hz => ⟨h, hz⟩)

end Launch

end Cert.Proof

end
-- ==== Proof.Frames.lean ====
/-
  The three frames. The versions of the kernel over hardware words and over extended reals have the same text, so the one run of
  Launch.lean, which holds for any float values, serves both; the reference is host operations only and declares no semaphore.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.SL.Sem

/-- The kernel over extended reals ends with the volume unchanged and every counter at zero. -/
theorem frame_ideal : Cert.quiescent_KernelIdeal := fun m ρ _ =>
  (θ_run Cert.KernelIdeal.defs _ _).mono (fun _ h => ⟨fun c => (h.1 c).1, h.2⟩) (run_main (F := Ideal) m ρ)

/-- So does the kernel over hardware words: it is the same program. -/
theorem frame_kernel : Cert.quiescent_Kernel := fun m ρ _ =>
  (θ_run Cert.KernelIdeal.defs _ _).mono (fun _ h => ⟨fun c => (h.1 c).1, h.2⟩) (run_main (F := Bits) m ρ)

/-- The reference writes only its own temporaries, and has no counter. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof

end
-- ==== Proof.Gather.lean ====
/-
  Reading a gather, and the index words the reference gathers by.

  Every gather of the reference picks along one axis, at start indices that are small nonnegative numbers; `gather_at` reads such
  a gather at an index once for all of them. The start indices are numbers the reference first wraps (a negative one would count from the
  end): `unwrapped` says that a small number is left as it is. `depthW` and `sideW` are the places of the patches' layers, rows and
  columns along the volume's axes.
-/
module

public import proofs.«01_k».proof.Proof.Gen.ReferenceIdeal
public import Idealize.ShloMosaic.Lib.Pipeline.Value
public import proofs.«01_k».proof.Proof.Setup

@[expose] public section

noncomputable section

namespace Cert.Proof.Ref

open Cert.ReferenceIdeal Cert.ReferenceIdeal.Gen Idealize.ShloMosaic
open Cert.Proof (pt eq_pt)

/-- The coordinate of `pt` on an axis where the number given is in range. -/
theorem pt_val {s : Shape} {h : ∀ a, 0 < s.size a} {v : Fin s.rank → ℕ} {a : Fin s.rank} (hv : v a < s.size a) : (pt s h v a).val = v a :=
  Nat.mod_eq_of_lt hv

/-- A number below 2³¹, as a word read signed. -/
theorem toInt_small {n : ℕ} (h : n < 2147483648) : (BitVec.ofNat 32 n).toInt = n := by
  rw [BitVec.toInt_eq_toNat_cond, BitVec.toNat_ofNat]
  rw [Nat.mod_eq_of_lt (show n < 2 ^ 32 by omega), if_pos (by omega)]

/-- A gather that picks along the one axis `p`, with no batching axes, read at `j`: the operand at `j`'s offset coordinates, and on axis `p`
    at the number the start indices hold. -/
theorem gather_at {α : Type} {s si t : Shape} (d : GatherDims s si t) (p : Fin s.rank) (hm : d.startIndexMap = [p])
    (hc : p ∈ d.collapsedSliceDims) (hb : d.operandBatchingDims = [])
    (x : s.Idx → α) (idx : IVec si 32) (j : t.Idx) {n : ℕ}
    (hi : idx (d.siIdx j ⟨0, by rw [hm]; exact Nat.one_pos⟩) = BitVec.ofNat 32 n) (hn : n ≤ s.size p - d.sliceSizes p) (h31 : n < 2147483648)
    (k : s.Idx) (hk : ∀ a, (k a).val = if a = p then n else d.offCoord j a) : Host.gather d x idx j = x k := by
  unfold Host.gather
  congr 1
  funext a
  refine Fin.ext ?_
  show d.start j idx a + d.batchCoord j a + d.offCoord j a = _
  rw [hk a, GatherDims.batchCoord_eq_zero _ _ _ (by rw [hb]; exact List.not_mem_nil), Nat.add_zero]
  unfold GatherDims.start
  by_cases ha : a = p
  · subst ha
    have hmem : a ∈ d.startIndexMap := by rw [hm]; exact List.mem_singleton.mpr rfl
    have h0 : d.startIndexMap.idxOf a = 0 := by rw [hm]; simp
    have hs : (⟨d.startIndexMap.idxOf a, List.idxOf_lt_length_iff.2 hmem⟩ : Fin d.startIndexMap.length) = ⟨0, by rw [hm]; exact Nat.one_pos⟩ := Fin.ext h0
    rw [dif_pos hmem, if_pos rfl, hs, hi, toInt_small h31, Int.toNat_natCast, Nat.min_eq_left hn,
      GatherDims.offCoord_eq_zero _ _ _ (fun h => ((GatherDims.mem_sKept _ _).mp h).1 hc), Nat.add_zero]
  · rw [dif_neg (by rw [hm]; simpa using ha), if_neg ha, Nat.zero_add]

/-- A number below 2³¹ is left as it is by the wrapping of negative ones. -/
theorem unwrapped {s : Shape} {X c : IVec s 32} {i : s.Idx} {n : ℕ} (hX : X i = BitVec.ofNat 32 n) (hn : n < 2147483648) (z : IVec s 32) (hz : z i = 0#32) :
    select (cmpi .slt X z) c X i = BitVec.ofNat 32 n := by
  show (if IntOp.cmpi .slt (X i) (z i) = 1#1 then c i else X i) = _
  rw [hX, hz, if_neg]
  intro h
  have hs : (BitVec.ofNat 32 n).slt 0#32 = true := by
    cases hb : (BitVec.ofNat 32 n).slt 0#32
    · rw [show IntOp.cmpi .slt (BitVec.ofNat 32 n) 0#32 = BitVec.ofBool ((BitVec.ofNat 32 n).slt 0#32) from rfl, hb] at h
      exact absurd h (by decide)
    · rfl
  rw [BitVec.slt, decide_eq_true_eq, toInt_small hn] at hs
  simp at hs
  omega

/-- An affine number, from the words of its parts. -/
theorem affine (c a b : ℕ) : (0#32 + BitVec.ofNat 32 c * BitVec.ofNat 32 a) + BitVec.ofNat 32 b = BitVec.ofNat 32 (c * a + b) := by
  rw [BitVec.ofNat_add, BitVec.ofNat_mul, BitVec.zero_add]

/-! ## The places of layers, rows and columns -/

/-- Where layer `b` of the `a`-th patch down the volume is. -/
def depthX : IVec S4x8 32 :=
  addi (broadcastInDim S4x8 ![0, 1] bcast_S4x1_S4x8_0_1 (broadcastInDim S4x1 ![0] bcast_S4_S4x1_0 (addi (broadcastInDim S4 ![] bcast_S_S4 (constantI S_ 32 0#32)) (muli (broadcastInDim S4 ![] bcast_S_S4 (constantI S_ 32 8#32)) (iotaInDim S4 32 0))))) (broadcastInDim S4x8 ![0, 1] bcast_S1x8_S4x8_0_1 (broadcastInDim S1x8 ![1] bcast_S8_S1x8_1 (iotaInDim S8 32 0)))

/-- Where row (or column) `b` of the `a`-th patch along a side is. -/
def sideX : IVec S8x16 32 :=
  addi (broadcastInDim S8x16 ![0, 1] bcast_S8x1_S8x16_0_1 (broadcastInDim S8x1 ![0] bcast_S8_S8x1_0 (addi (broadcastInDim S8 ![] bcast_S_S8 (constantI S_ 32 0#32)) (muli (broadcastInDim S8 ![] bcast_S_S8 (constantI S_ 32 16#32)) (iotaInDim S8 32 0))))) (broadcastInDim S8x16 ![0, 1] bcast_S1x16_S8x16_0_1 (broadcastInDim S1x16 ![1] bcast_S16_S1x16_1 (iotaInDim S16 32 0)))

/-- Those places, wrapped and laid out as start indices. -/
def depthW : IVec S4x8x1 32 :=
  broadcastInDim S4x8x1 ![0, 1] bcast_S4x8_S4x8x1_0_1 (select (cmpi .slt depthX (broadcastInDim S4x8 ![] bcast_S_S4x8 (constantI S_ 32 0#32))) (addi depthX (broadcastInDim S4x8 ![] bcast_S_S4x8 (constantI S_ 32 32#32))) depthX)
def sideW : IVec S8x16x1 32 :=
  broadcastInDim S8x16x1 ![0, 1] bcast_S8x16_S8x16x1_0_1 (select (cmpi .slt sideX (broadcastInDim S8x16 ![] bcast_S_S8x16 (constantI S_ 32 0#32))) (addi sideX (broadcastInDim S8x16 ![] bcast_S_S8x16 (constantI S_ 32 128#32))) sideX)

theorem depthX_apply (i : S4x8.Idx) : depthX i = BitVec.ofNat 32 (8 * (i 0).val + (i 1).val) := (affine 8 (i 0).val (i 1).val)

theorem sideX_apply (i : S8x16.Idx) : sideX i = BitVec.ofNat 32 (16 * (i 0).val + (i 1).val) := (affine 16 (i 0).val (i 1).val)

theorem depthW_apply (y : S4x8x1.Idx) : depthW y = BitVec.ofNat 32 (8 * (y 0).val + (y 1).val) := by
  have h0 : (y 0).val < 4 := (y 0).isLt
  have h1 : (y 1).val < 8 := (y 1).isLt
  exact unwrapped (depthX_apply _) (show 8 * (y 0).val + (y 1).val < _ by omega) _ rfl

theorem sideW_apply (y : S8x16x1.Idx) : sideW y = BitVec.ofNat 32 (16 * (y 0).val + (y 1).val) := by
  have h0 : (y 0).val < 8 := (y 0).isLt
  have h1 : (y 1).val < 16 := (y 1).isLt
  exact unwrapped (sideX_apply _) (show 16 * (y 0).val + (y 1).val < _ by omega) _ rfl

end Cert.Proof.Ref

end
-- ==== Proof.Picks.lean ====
/-
  Which patches the reference takes. It computes the 128 places evenly spread over 0 … 255 by interpolation, over extended reals, and drops the
  fractions: for `n < 127` the number is 255·n/127, whose whole part is `2·n`, and the last is 255; that is `sel n`.
-/
module

public import proofs.«01_k».proof.Proof.Gather

@[expose] public section

noncomputable section

namespace Cert.Proof.Ref

open Cert.ReferenceIdeal Cert.ReferenceIdeal.Gen Idealize.ShloMosaic
open Cert.Proof (pt eq_pt sel)

/-- How far along the way from first to last the `n`-th place is. -/
def stepF : FVec Ideal S127 .f32 :=
  Host.divf (sitofp .f32 (iotaInDim S127 32 0)) (broadcastInDim S127 ![] bcast_S_S127 (constant S_ .f32 0x42FE0000#32))

/-- All places but the last. -/
def placeF : FVec Ideal S127 .f32 :=
  addf (mulf (broadcastInDim S127 ![0] bcast_S1_S127_0 (shapeCast _ (id (constant S_ .f32 0x00000000#32)) shapeCasts_S_S1)) (subf (broadcastInDim S127 ![] bcast_S_S127 (constant S_ .f32 0x3F800000#32)) stepF)) (mulf (broadcastInDim S127 ![0] bcast_S1_S127_0 (shapeCast _ (sitofp .f32 (constantI S_ 32 255#32)) shapeCasts_S_S1)) stepF)

def lastF : FVec Ideal S1 .f32 := broadcastInDim S1 ![] bcast_S_S1 (sitofp .f32 (constantI S_ 32 255#32))

/-- The places, their fractions dropped. -/
def pickX : IVec S128 32 :=
  fptosi 32 (concatenate S128 0 [⟨S127, placeF⟩, ⟨S1, lastF⟩] concatenates_S127_S1_S128_d0 : FVec Ideal S128 .f32)

/-- The places as start indices. -/
def pickW : IVec S128x1 32 :=
  broadcastInDim S128x1 ![0] bcast_S128_S128x1_0 (select (cmpi .slt pickX (broadcastInDim S128 ![] bcast_S_S128 (constantI S_ 32 0#32))) (addi pickX (broadcastInDim S128 ![] bcast_S_S128 (constantI S_ 32 256#32))) pickX)

theorem word_zero : Ideal.ofBits .f32 0x00000000#32 = ((0 : ℝ) : EReal) := by
  simp [Ideal.ofBits, Ideal.ieee]
theorem word_one : Ideal.ofBits .f32 0x3F800000#32 = ((1 : ℝ) : EReal) := by
  simp [Ideal.ofBits, Ideal.ieee, -EReal.coe_mul]; norm_num
theorem word_span : Ideal.ofBits .f32 0x42FE0000#32 = ((127 : ℝ) : EReal) := by
  simp [Ideal.ofBits, Ideal.ieee, -EReal.coe_mul]; norm_num

theorem stepF_apply (i : S127.Idx) : stepF i = (((i 0).val / 127 : ℝ) : EReal) := by
  have h0 : (i 0).val < 127 := (i 0).isLt
  show Ideal.div (((BitVec.ofNat 32 (i 0).val).toInt : ℝ) : EReal) (Ideal.ofBits .f32 0x42FE0000#32) = _
  rw [word_span, Ideal.div_coe (by norm_num), toInt_small (by omega), ← EReal.coe_mul]
  congr 1
  push_cast
  ring

theorem placeF_apply (i : S127.Idx) : placeF i = ((255 * (i 0).val / 127 : ℝ) : EReal) := by
  show Ideal.ofBits .f32 0x00000000#32 * (Ideal.ofBits .f32 0x3F800000#32 - stepF i) + (((255#32 : BitVec 32).toInt : ℝ) : EReal) * stepF i = _
  rw [word_zero, word_one, stepF_apply, show (255#32 : BitVec 32).toInt = 255 from by decide, ← EReal.coe_sub, ← EReal.coe_mul, ← EReal.coe_mul, ← EReal.coe_add]
  congr 1
  push_cast
  ring

/-- Dropping the fraction of a real number whose whole part is the small number `n`. -/
theorem whole {r : ℝ} {n : ℕ} (hn : n < 2147483648) (h0 : (n : ℝ) ≤ r) (h1 : r < n + 1) : Ideal.fptosi 32 (r : EReal) = BitVec.ofNat 32 n := by
  have hr : 0 ≤ r := le_trans (Nat.cast_nonneg n) h0
  have hf : ⌊r⌋ = (n : ℤ) := Int.floor_eq_iff.mpr ⟨by exact_mod_cast h0, by exact_mod_cast h1⟩
  rw [Ideal.fptosi, Ideal.toIntClamped_coe, if_pos hr, hf]
  rw [min_eq_right (by norm_num; omega), max_eq_right (by norm_num), BitVec.ofInt_natCast]

theorem pickX_apply (i : S128.Idx) : pickX i = BitVec.ofNat 32 (sel (i 0).val) := by
  have h0 : (i 0).val < 128 := (i 0).isLt
  show Ideal.fptosi 32 (concatenate S128 0 [⟨S127, placeF⟩, ⟨S1, lastF⟩] concatenates_S127_S1_S128_d0 i) = _
  by_cases h : (i 0).val < 127
  · rw [concatenate_pair_apply_left (t := S128) (s₁ := S127) (s₂ := S1) 0 placeF lastF concatenates_S127_S1_S128_d0 i rfl (pt S127 (by decide) ![(i 0).val]) (fun b => by
      match b with
      | 0 => exact pt_val h), placeF_apply, show (pt S127 (by decide) ![(i 0).val] 0).val = (i 0).val from pt_val h]
    have hs : sel (i 0).val = 2 * (i 0).val := by unfold sel; omega
    have hr : ((i 0).val : ℝ) < 127 := by exact_mod_cast h
    have hp : (0 : ℝ) ≤ ((i 0).val : ℝ) := Nat.cast_nonneg _
    rw [hs]
    refine whole (by omega) ?_ ?_ <;> push_cast
    · show 2 * ((i 0).val : ℝ) ≤ 255 * ((i 0).val : ℝ) / 127
      linarith
    · show 255 * ((i 0).val : ℝ) / 127 < 2 * ((i 0).val : ℝ) + 1
      linarith
  · have h7 : (i 0).val = 127 := by omega
    rw [concatenate_pair_apply_right (t := S128) (s₁ := S127) (s₂ := S1) 0 placeF lastF concatenates_S127_S1_S128_d0 i rfl rfl (pt S1 (by decide) ![0])
      (fun b hb => absurd (Subsingleton.elim (α := Fin 1) _ _) hb) h7.symm]
    rw [h7]
    show Ideal.fptosi 32 ((((255#32 : BitVec 32).toInt : ℝ) : EReal)) = BitVec.ofNat 32 255
    rw [show (255#32 : BitVec 32).toInt = 255 from by decide]
    exact whole (by omega) (by norm_num) (by norm_num)

theorem sel_lt {n : ℕ} (h : n < 128) : sel n < 256 := by unfold sel; omega

theorem pickW_apply (y : S128x1.Idx) : pickW y = BitVec.ofNat 32 (sel (y 0).val) := by
  have h0 : (y 0).val < 128 := (y 0).isLt
  exact unwrapped (pickX_apply _) (show sel (y 0).val < _ from lt_trans (sel_lt h0) (by omega)) _ rfl

end Cert.Proof.Ref

end
-- ==== Proof.Cut.lean ====
/-
  The reference's first result at an index. The reference cuts the volume into its 256 patches by three gathers, one per axis, brings the
  patches to the front, and takes the 128 it wants by a fourth gather. Read at patch `n`, channel `c` and a voxel of the patch, the
  result is the volume at the voxel's place.
-/
module

public import proofs.«01_k».proof.Proof.Picks

@[expose] public section

noncomputable section

namespace Cert.Proof.Ref

open Cert.ReferenceIdeal Cert.ReferenceIdeal.Gen Idealize.ShloMosaic
open Cert.Proof (pt eq_pt sel vol vol_eq)

variable {α : Type} (x : S64x32x128x128.Idx → α)

/-- The volume cut along its depth, then along its rows too, then along its columns too. -/
def cut1 : S64x4x8x128x128.Idx → α := Host.gather gather_S64x32x128x128_S4x8x1_S64x4x8x128x128_034_1_n_n_1_2_641128128 x depthW
def cut2 : S64x4x8x8x16x128.Idx → α := Host.gather gather_S64x4x8x128x128_S8x16x1_S64x4x8x8x16x128_0125_3_n_n_3_2_64481128 (cut1 x) sideW
def cut3 : S64x4x8x8x16x8x16.Idx → α := Host.gather gather_S64x4x8x8x16x128_S8x16x1_S64x4x8x8x16x8x16_01234_5_n_n_5_2_64488161 (cut2 x) sideW

/-- The 256 patches. -/
def patches : S256x64x8x16x16.Idx → α :=
  shapeCast _ (transpose S4x8x8x64x8x16x16 [1, 3, 5, 0, 2, 4, 6] (cut3 x) transposes_S64x4x8x8x16x8x16_S4x8x8x64x8x16x16_1_3_5_0_2_4_6) shapeCasts_S4x8x8x64x8x16x16_S256x64x8x16x16

/-- The 128 patches taken. -/
def taken : S128x64x8x16x16.Idx → α := Host.gather gather_S256x64x8x16x16_S128x1_S128x64x8x16x16_1234_0_n_n_0_1_16481616 (patches x) pickW

theorem cut1_apply (j : S64x4x8x128x128.Idx) :
    cut1 x j = vol x (j 0).val (8 * (j 1).val + (j 2).val) (j 3).val (j 4).val := by
  have h1 : (j 1).val < 4 := (j 1).isLt
  have h2 : (j 2).val < 8 := (j 2).isLt
  refine gather_at gather_S64x32x128x128_S4x8x1_S64x4x8x128x128_034_1_n_n_1_2_641128128 1 rfl (List.mem_singleton.mpr rfl) rfl x depthW j
    (n := 8 * (j 1).val + (j 2).val) (depthW_apply _) (show _ ≤ 31 by omega) (by omega) _ (fun a => ?_)
  match a with
  | 0 => exact pt_val (j 0).isLt
  | 1 => exact pt_val (show 8 * (j 1).val + (j 2).val < 32 by omega)
  | 2 => exact pt_val (j 3).isLt
  | 3 => exact pt_val (j 4).isLt

theorem cut2_apply (j : S64x4x8x8x16x128.Idx) :
    cut2 x j = vol x (j 0).val (8 * (j 1).val + (j 2).val) (16 * (j 3).val + (j 4).val) (j 5).val := by
  have h3 : (j 3).val < 8 := (j 3).isLt
  have h4 : (j 4).val < 16 := (j 4).isLt
  have hr : 16 * (j 3).val + (j 4).val < 128 := by omega
  refine (gather_at gather_S64x4x8x128x128_S8x16x1_S64x4x8x8x16x128_0125_3_n_n_3_2_64481128 3 rfl (List.mem_singleton.mpr rfl) rfl (cut1 x) sideW j
    (n := 16 * (j 3).val + (j 4).val) (sideW_apply _) (show _ ≤ 127 by omega) (by omega)
    (pt S64x4x8x128x128 (by decide) ![(j 0).val, (j 1).val, (j 2).val, 16 * (j 3).val + (j 4).val, (j 5).val]) (fun a => ?_)).trans ?_
  · match a with
    | 0 => exact pt_val (j 0).isLt
    | 1 => exact pt_val (j 1).isLt
    | 2 => exact pt_val (j 2).isLt
    | 3 => exact pt_val hr
    | 4 => exact pt_val (j 5).isLt
  · rw [cut1_apply]
    congr 1
    · exact pt_val (j 0).isLt
    · exact congrArg₂ (fun a b => 8 * a + b) (pt_val (j 1).isLt) (pt_val (j 2).isLt)
    · exact pt_val hr
    · exact pt_val (j 5).isLt

theorem cut3_apply (j : S64x4x8x8x16x8x16.Idx) :
    cut3 x j = vol x (j 0).val (8 * (j 1).val + (j 2).val) (16 * (j 3).val + (j 4).val) (16 * (j 5).val + (j 6).val) := by
  have h5 : (j 5).val < 8 := (j 5).isLt
  have h6 : (j 6).val < 16 := (j 6).isLt
  have hr : 16 * (j 5).val + (j 6).val < 128 := by omega
  refine (gather_at gather_S64x4x8x8x16x128_S8x16x1_S64x4x8x8x16x8x16_01234_5_n_n_5_2_64488161 5 rfl (List.mem_singleton.mpr rfl) rfl (cut2 x) sideW j
    (n := 16 * (j 5).val + (j 6).val) (sideW_apply _) (show _ ≤ 127 by omega) (by omega)
    (pt S64x4x8x8x16x128 (by decide) ![(j 0).val, (j 1).val, (j 2).val, (j 3).val, (j 4).val, 16 * (j 5).val + (j 6).val]) (fun a => ?_)).trans ?_
  · match a with
    | 0 => exact pt_val (j 0).isLt
    | 1 => exact pt_val (j 1).isLt
    | 2 => exact pt_val (j 2).isLt
    | 3 => exact pt_val (j 3).isLt
    | 4 => exact pt_val (j 4).isLt
    | 5 => exact pt_val hr
  · rw [cut2_apply]
    congr 1
    · exact pt_val (j 0).isLt
    · exact congrArg₂ (fun a b => 8 * a + b) (pt_val (j 1).isLt) (pt_val (j 2).isLt)
    · exact congrArg₂ (fun a b => 16 * a + b) (pt_val (j 3).isLt) (pt_val (j 4).isLt)
    · exact pt_val hr

/-- The transpose that brings the patches to the front. -/
theorem front_apply (j : S4x8x8x64x8x16x16.Idx) :
    transpose S4x8x8x64x8x16x16 [1, 3, 5, 0, 2, 4, 6] (cut3 x) transposes_S64x4x8x8x16x8x16_S4x8x8x64x8x16x16_1_3_5_0_2_4_6 j
      = vol x (j 3).val (8 * (j 0).val + (j 4).val) (16 * (j 1).val + (j 5).val) (16 * (j 2).val + (j 6).val) := by
  refine (transpose_apply _ (cut3 x) _ j
    (pt S64x4x8x8x16x8x16 (by decide) ![(j 3).val, (j 0).val, (j 4).val, (j 1).val, (j 5).val, (j 2).val, (j 6).val]) (fun b => ?_)).trans ?_
  · match b with
    | 0 => exact pt_val (j 0).isLt
    | 1 => exact pt_val (j 1).isLt
    | 2 => exact pt_val (j 2).isLt
    | 3 => exact pt_val (j 3).isLt
    | 4 => exact pt_val (j 4).isLt
    | 5 => exact pt_val (j 5).isLt
    | 6 => exact pt_val (j 6).isLt
  · rw [cut3_apply]
    congr 1
    · exact pt_val (j 3).isLt
    · exact congrArg₂ (fun a b => 8 * a + b) (pt_val (j 0).isLt) (pt_val (j 4).isLt)
    · exact congrArg₂ (fun a b => 16 * a + b) (pt_val (j 1).isLt) (pt_val (j 5).isLt)
    · exact congrArg₂ (fun a b => 16 * a + b) (pt_val (j 2).isLt) (pt_val (j 6).isLt)

/-- A position among seven axes, spelled out. -/
theorem rowMajor_seven {d : Fin 7 → ℕ} (i : (⟨7, d⟩ : Shape).Idx) :
    ((⟨7, d⟩ : Shape).rowMajor i).val
      = (((((((i 0).val * d 1 + (i 1).val) * d 2 + (i 2).val) * d 3 + (i 3).val) * d 4 + (i 4).val) * d 5 + (i 5).val) * d 6 + (i 6).val) := by
  rw [Shape.rowMajor_val_succ, Shape.rowMajor_val_succ, Shape.rowMajor_val_five]
  simp [Shape.numel, Fin.prod_univ_succ, Nat.add_mul, Nat.mul_assoc, Nat.add_assoc]

theorem patches_apply (j : S256x64x8x16x16.Idx) :
    patches x j = vol x (j 1).val (8 * ((j 0).val / 64) + (j 2).val) (16 * ((j 0).val / 8 % 8) + (j 3).val) (16 * ((j 0).val % 8) + (j 4).val) := by
  have h0 : (j 0).val < 256 := (j 0).isLt
  have e0 : (j 0).val / 64 < 4 := by omega
  have e1 : (j 0).val / 8 % 8 < 8 := by omega
  have e2 : (j 0).val % 8 < 8 := by omega
  refine (shapeCast_apply _ _ j
    (pt S4x8x8x64x8x16x16 (by decide) ![(j 0).val / 64, (j 0).val / 8 % 8, (j 0).val % 8, (j 1).val, (j 2).val, (j 3).val, (j 4).val]) ?_).trans ?_
  · refine (rowMajor_seven (d := ![4, 8, 8, 64, 8, 16, 16]) _).trans (Eq.trans ?_ (Shape.rowMajor_val_five (d := ![256, 64, 8, 16, 16]) j).symm)
    refine congrArg₂ (fun a b => a * 16 + b) (congrArg₂ (fun a b => a * 16 + b) (congrArg₂ (fun a b => a * 8 + b) (congrArg₂ (fun a b => a * 64 + b) ?_
      (pt_val (j 1).isLt)) (pt_val (j 2).isLt)) (pt_val (j 3).isLt)) (pt_val (j 4).isLt)
    exact (congrArg₂ (fun a b => a * 8 + b) (congrArg₂ (fun a b => a * 8 + b) (pt_val e0) (pt_val e1)) (pt_val e2)).trans
      (show ((j 0).val / 64 * 8 + (j 0).val / 8 % 8) * 8 + (j 0).val % 8 = (j 0).val by omega)
  · rw [front_apply]
    congr 1
    · exact pt_val (j 1).isLt
    · exact congrArg₂ (fun a b => 8 * a + b) (pt_val e0) (pt_val (j 2).isLt)
    · exact congrArg₂ (fun a b => 16 * a + b) (pt_val e1) (pt_val (j 3).isLt)
    · exact congrArg₂ (fun a b => 16 * a + b) (pt_val e2) (pt_val (j 4).isLt)

theorem taken_apply (j : S128x64x8x16x16.Idx) :
    taken x j = vol x (j 1).val (8 * (sel (j 0).val / 64) + (j 2).val) (16 * (sel (j 0).val / 8 % 8) + (j 3).val) (16 * (sel (j 0).val % 8) + (j 4).val) := by
  have h0 : sel (j 0).val < 256 := sel_lt (j 0).isLt
  refine (gather_at gather_S256x64x8x16x16_S128x1_S128x64x8x16x16_1234_0_n_n_0_1_16481616 0 rfl (List.mem_singleton.mpr rfl) rfl (patches x) pickW j
    (n := sel (j 0).val) (pickW_apply _) (show _ ≤ 255 by omega) (by omega)
    (pt S256x64x8x16x16 (by decide) ![sel (j 0).val, (j 1).val, (j 2).val, (j 3).val, (j 4).val]) (fun a => ?_)).trans ?_
  · match a with
    | 0 => exact pt_val h0
    | 1 => exact pt_val (j 1).isLt
    | 2 => exact pt_val (j 2).isLt
    | 3 => exact pt_val (j 3).isLt
    | 4 => exact pt_val (j 4).isLt
  · rw [patches_apply]
    rw [show (pt S256x64x8x16x16 (by decide) ![sel (j 0).val, (j 1).val, (j 2).val, (j 3).val, (j 4).val] 0).val = sel (j 0).val from pt_val h0]
    congr 1
    · exact pt_val (j 1).isLt
    · exact congrArg _ (pt_val (j 2).isLt)
    · exact congrArg _ (pt_val (j 3).isLt)
    · exact congrArg _ (pt_val (j 4).isLt)

end Cert.Proof.Ref

end
-- ==== Proof.Spots.lean ====
/-
  The reference's second result at an index: the corner of each patch taken. The reference lays the corners of all 256 patches out as a table of three
  columns, one per axis, and gathers the rows of the patches taken.
-/
module

public import proofs.«01_k».proof.Proof.Picks
public import proofs.«01_k».proof.Proof.Coords

@[expose] public section

noncomputable section

namespace Cert.Proof.Ref

open Cert.ReferenceIdeal Cert.ReferenceIdeal.Gen Idealize.ShloMosaic
open Cert.Proof (pt eq_pt sel crd)

/-- A number for each of the 4·8·8 patches as a column of 256. -/
def column (v : IVec S4x8x8 32) : IVec S256x1 32 := broadcastInDim S256x1 ![0] bcast_S256_S256x1_0 (shapeCast _ v shapeCasts_S4x8x8_S256)

/-- The first layer, row or column of the patches, along each axis. -/
def layers : IVec S4x8x8 32 :=
  broadcastInDim S4x8x8 ![0] bcast_S4_S4x8x8_0 (addi (broadcastInDim S4 ![] bcast_S_S4 (constantI S_ 32 0#32)) (muli (broadcastInDim S4 ![] bcast_S_S4 (constantI S_ 32 8#32)) (iotaInDim S4 32 0)))
def rows : IVec S4x8x8 32 :=
  broadcastInDim S4x8x8 ![1] bcast_S8_S4x8x8_1 (addi (broadcastInDim S8 ![] bcast_S_S8 (constantI S_ 32 0#32)) (muli (broadcastInDim S8 ![] bcast_S_S8 (constantI S_ 32 16#32)) (iotaInDim S8 32 0)))
def columns : IVec S4x8x8 32 :=
  broadcastInDim S4x8x8 ![2] bcast_S8_S4x8x8_2 (addi (broadcastInDim S8 ![] bcast_S_S8 (constantI S_ 32 0#32)) (muli (broadcastInDim S8 ![] bcast_S_S8 (constantI S_ 32 16#32)) (iotaInDim S8 32 0)))

/-- The table's columns. -/
abbrev parts : List ((s : Shape) × (s.Idx → BitVec 32)) := [⟨S256x1, column layers⟩, ⟨S256x1, column rows⟩, ⟨S256x1, column columns⟩]

/-- The table of corners. -/
def corners : IVec S256x3 32 :=
  concatenate S256x3 1 [⟨S256x1, column layers⟩, ⟨S256x1, column rows⟩, ⟨S256x1, column columns⟩] concatenates_S256x1_S256x1_S256x1_S256x3_d1

/-- The corners of the patches taken. -/
def spots : IVec S128x3 32 := Host.gather gather_S256x3_S128x1_S128x3_1_0_n_n_0_1_13 corners pickW

/-- A product, from the words of its factors. -/
theorem multiple (c a : ℕ) : 0#32 + BitVec.ofNat 32 c * BitVec.ofNat 32 a = BitVec.ofNat 32 (c * a) := by
  rw [BitVec.ofNat_mul, BitVec.zero_add]

theorem column_apply (v : IVec S4x8x8 32) (j : S256x1.Idx) :
    column v j = v (pt S4x8x8 (by decide) ![(j 0).val / 64, (j 0).val / 8 % 8, (j 0).val % 8]) := by
  have h0 : (j 0).val < 256 := (j 0).isLt
  have e0 : (j 0).val / 64 < 4 := by omega
  have e1 : (j 0).val / 8 % 8 < 8 := by omega
  have e2 : (j 0).val % 8 < 8 := by omega
  refine (broadcastInDim_apply (s := S256) (t := S256x1) ![0] bcast_S256_S256x1_0 _ j (pt S256 (by decide) ![(j 0).val]) (fun a => ?_)).trans ?_
  · match a with
    | 0 => exact pt_val h0
  · refine shapeCast_apply _ _ _ _ ?_
    refine (Shape.rowMajor_val_three (d := ![4, 8, 8]) _).trans (Eq.trans ?_ (Shape.rowMajor_val_one (d := ![256]) _).symm)
    refine (congrArg₂ (fun a b => a * 8 + b) (congrArg₂ (fun a b => a * 8 + b) (pt_val e0) (pt_val e1)) (pt_val e2)).trans (Eq.trans ?_ (pt_val h0).symm)
    show ((j 0).val / 64 * 8 + (j 0).val / 8 % 8) * 8 + (j 0).val % 8 = (j 0).val
    omega

/-- Which patch and which axis an entry of the table is for: the patch's corner along that axis. -/
theorem corners_apply (j : S256x3.Idx) {q : ℕ} (hq : (j 0).val = q) :
    corners j = BitVec.ofNat 32 (if (j 1).val = 0 then 8 * (q / 64) else if (j 1).val = 1 then 16 * (q / 8 % 8) else 16 * (q % 8)) := by
  subst hq
  have h0 : (j 0).val < 256 := (j 0).isLt
  have h1 : (j 1).val < 3 := (j 1).isLt
  have e0 : (j 0).val / 64 < 4 := by omega
  have e1 : (j 0).val / 8 % 8 < 8 := by omega
  have e2 : (j 0).val % 8 < 8 := by omega
  have piece (k : ℕ) (hk : k < parts.length) (v : IVec S4x8x8 32)
      (hx : parts[k] = ⟨S256x1, column v⟩)
      (hp : ((((parts.take k).map (·.1)).map
        fun s => if h : s.rank = S256x3.rank then s.size ((1 : Fin S256x3.rank).cast h.symm) else 0).sum = k))
      (hj : (j 1).val = k) : corners j = v (pt S4x8x8 (by decide) ![(j 0).val / 64, (j 0).val / 8 % 8, (j 0).val % 8]) := by
    have hpt : (pt S256x1 (by decide) ![(j 0).val, 0] 0).val = (j 0).val := pt_val h0
    refine (concatenate_apply_piece (t := S256x3) 1 parts concatenates_S256x1_S256x1_S256x1_S256x3_d1 j k hk S256x1 (column v) hx rfl k hp
      (pt S256x1 (by decide) ![(j 0).val, 0]) (fun b hb => ?_) ?_).trans ?_
    · match b with
      | 0 => exact hpt
      | 1 => exact absurd rfl hb
    · exact hj.symm
    · rw [column_apply, hpt]
  obtain hj | hj | hj : (j 1).val = 0 ∨ (j 1).val = 1 ∨ (j 1).val = 2 := by omega
  · rw [piece 0 (by decide) layers rfl rfl hj, hj]
    exact (multiple 8 _).trans (congrArg (fun a => BitVec.ofNat 32 (8 * a)) (pt_val (h := by decide) e0))
  · rw [piece 1 (by decide) rows rfl rfl hj, hj]
    exact (multiple 16 _).trans (congrArg (fun a => BitVec.ofNat 32 (16 * a)) (pt_val (h := by decide) e1))
  · rw [piece 2 (by decide) columns rfl rfl hj, hj]
    exact (multiple 16 _).trans (congrArg (fun a => BitVec.ofNat 32 (16 * a)) (pt_val (h := by decide) e2))

theorem spots_apply (j : S128x3.Idx) : spots j = BitVec.ofNat 32 (crd (j 0).val (j 1).val) := by
  have h0 : sel (j 0).val < 256 := sel_lt (j 0).isLt
  have hp : (pt S256x3 (by decide) ![sel (j 0).val, (j 1).val] 1).val = (j 1).val := pt_val (j 1).isLt
  refine (gather_at gather_S256x3_S128x1_S128x3_1_0_n_n_0_1_13 0 rfl (List.mem_singleton.mpr rfl) rfl corners pickW j
    (n := sel (j 0).val) (pickW_apply _) (show _ ≤ 255 by omega) (by omega)
    (pt S256x3 (by decide) ![sel (j 0).val, (j 1).val]) (fun a => ?_)).trans ?_
  · match a with
    | 0 => exact pt_val h0
    | 1 => exact hp
  · rw [corners_apply _ (q := sel (j 0).val) (pt_val h0), hp]
    rfl

end Cert.Proof.Ref

end
-- ==== Proof.Same.lean ====
/-
  The kernel's results are the reference's. Both are, at every index, the same voxel of the volume, or the same number; the launches leave
  them in the arrays the claim reads.
-/
module

public import proofs.«01_k».proof.Defs
public import proofs.«01_k».proof.Proof.Gen.ReferenceIdeal.Run
public import proofs.«01_k».proof.Proof.Launch
public import proofs.«01_k».proof.Proof.Cut
public import proofs.«01_k».proof.Proof.Spots

@[expose] public section

noncomputable section

namespace Cert.Proof

open Idealize.ShloMosaic Idealize.SL.Sem

/-- The kernel's patches, reshaped, are the patches the reference takes. -/
theorem same_patches (f : Cert.KernelIdeal.S64x32x128x128.Idx → Elt Ideal .f32)
    (h : Cert.KernelIdeal.S128x64x2048.ShapeCasts Cert.KernelIdeal.S128x64x8x16x16) : shapeCast Cert.KernelIdeal.S128x64x8x16x16 (outF f) h = Ref.taken f := by
  funext j
  have h2 : (j 2).val < 8 := (j 2).isLt
  have h3 : (j 3).val < 16 := (j 3).isLt
  have h4 : (j 4).val < 16 := (j 4).isLt
  have hr : 256 * (j 2).val + 16 * (j 3).val + (j 4).val < 2048 := by omega
  refine (shapeCast_apply _ _ j
    (pt Cert.KernelIdeal.S128x64x2048 (by decide) ![(j 0).val, (j 1).val, 256 * (j 2).val + 16 * (j 3).val + (j 4).val]) ?_).trans ?_
  · refine (Shape.rowMajor_val_three (d := ![128, 64, 2048]) _).trans (Eq.trans ?_ (Shape.rowMajor_val_five (d := ![128, 64, 8, 16, 16]) j).symm)
    refine (congrArg₂ (fun a b => a * 2048 + b) (congrArg₂ (fun a b => a * 64 + b) (Ref.pt_val (j 0).isLt) (Ref.pt_val (j 1).isLt)) (Ref.pt_val hr)).trans ?_
    show ((j 0).val * 64 + (j 1).val) * 2048 + (256 * (j 2).val + 16 * (j 3).val + (j 4).val) = ((((j 0).val * 64 + (j 1).val) * 8 + (j 2).val) * 16 + (j 3).val) * 16 + (j 4).val
    omega
  · have p0 : (pt Cert.KernelIdeal.S128x64x2048 (by decide) ![(j 0).val, (j 1).val, 256 * (j 2).val + 16 * (j 3).val + (j 4).val] 0).val = (j 0).val := Ref.pt_val (j 0).isLt
    have p1 : (pt Cert.KernelIdeal.S128x64x2048 (by decide) ![(j 0).val, (j 1).val, 256 * (j 2).val + 16 * (j 3).val + (j 4).val] 1).val = (j 1).val := Ref.pt_val (j 1).isLt
    have p2 : (pt Cert.KernelIdeal.S128x64x2048 (by decide) ![(j 0).val, (j 1).val, 256 * (j 2).val + 16 * (j 3).val + (j 4).val] 2).val = 256 * (j 2).val + 16 * (j 3).val + (j 4).val := Ref.pt_val hr
    rw [Ref.taken_apply]
    unfold outF
    rw [p0, p1, p2, show (256 * (j 2).val + 16 * (j 3).val + (j 4).val) / 256 = (j 2).val by omega,
      show (256 * (j 2).val + 16 * (j 3).val + (j 4).val) / 16 % 16 = (j 3).val by omega,
      show (256 * (j 2).val + 16 * (j 3).val + (j 4).val) % 16 = (j 4).val by omega]

/-- The kernel's coordinates, reshaped and transposed, are the corners the reference takes. -/
theorem same_spots : res3 = Ref.spots := by
  funext j
  have h0 : (j 0).val < 128 := (j 0).isLt
  have h1 : (j 1).val < 3 := (j 1).isLt
  have hr : 128 * (j 1).val + (j 0).val < 384 := by omega
  have p0 : (pt Cert.KernelIdeal.S384 (by decide) ![128 * (j 1).val + (j 0).val] 0).val = 128 * (j 1).val + (j 0).val := Ref.pt_val hr
  rw [Ref.spots_apply]
  refine (transpose_apply _ _ _ j (pt Cert.KernelIdeal.S3x128 (by decide) ![(j 1).val, (j 0).val]) (fun b => ?_)).trans
    ((shapeCast_apply _ _ _ (pt Cert.KernelIdeal.S384 (by decide) ![128 * (j 1).val + (j 0).val]) ?_).trans ?_)
  · match b with
    | 0 => exact Ref.pt_val h0
    | 1 => exact Ref.pt_val h1
  · refine (Shape.rowMajor_val_one (d := ![384]) _).trans (Eq.trans ?_ (Shape.rowMajor_val_two (d := ![3, 128]) _).symm)
    refine p0.trans (Eq.trans ?_ (congrArg₂ (fun a b => a * 128 + b) (Ref.pt_val h1) (Ref.pt_val h0)).symm)
    show 128 * (j 1).val + (j 0).val = (j 1).val * 128 + (j 0).val
    omega
  · unfold coordF
    rw [p0, show (128 * (j 1).val + (j 0).val) % 128 = (j 0).val by omega, show (128 * (j 1).val + (j 0).val) / 128 = (j 1).val by omega]

/-- The two programs, run on the same volume, end with the same results. -/
theorem same_results : Cert.algebraic_KernelIdeal_ReferenceIdeal := fun m ρ m' ρ' _ hx =>
  ⟨fun c => res1 (F := Ideal) m c, fun _ => res3,
    (θ_run Cert.KernelIdeal.defs _ _).mono (fun _ h c => ⟨(h.1 c).2.1, (h.1 c).2.2, (h.1 c).1⟩) (run_main (F := Ideal) m ρ),
    (θ_run Cert.ReferenceIdeal.defs _ _).mono (fun r h c => ⟨(h c).1.trans (by
        unfold Cert.ReferenceIdeal.Value.res_main_v74
        rw [hx c]
        exact (same_patches (volume m c) _).symm), (h c).2.1.trans same_spots.symm, (h c).2.2⟩)
      (Cert.ReferenceIdeal.Value.run (F := Ideal) m' ρ')⟩

end Cert.Proof

end
-- ==== Proof.lean ====
/-
  The claim, put together: the three frames (Frames.lean), nothing to say about rewrites, since the two kernels have one text, and the equality of the
  kernel's results with the reference's over extended reals (Same.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Frames
public import proofs.«01_k».proof.Proof.Same
public import Idealize.ShloMosaic.Adequacy
public import Idealize.ShloMosaic.Init

@[expose] public section

noncomputable section

namespace Cert.Proof

/-- Everything the claim asks. -/
theorem claim : Cert.Claim := ⟨Cert.Kernel.Gen.facts, Cert.KernelIdeal.Gen.facts, Cert.ReferenceIdeal.Gen.facts,
  frame_kernel, frame_ideal, frame_ref, trivial, same_results⟩

end Cert.Proof

end
